-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 [hPre_blocks_name_experts : Cert.Pre_blocks_name_experts.Facts] (m : (ℓ : Loc Cert.Kernel2.nD Cert.Kernel2.τ Cert.Kernel2.sig) → Buf (Elt Bits) ℓ) : Prop :=
  ∀ c : Dev Cert.Kernel2.nD,
    (Cert.Pre_blocks_name_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_blocks_name_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.1 = (fun _ => 1#1)
    ∧ (Cert.Pre_blocks_name_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2 = (fun _ => 1#1)

def Pre_Kernel2Ideal [hPre_blocks_name_experts : Cert.Pre_blocks_name_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_name_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_blocks_name_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_blocks_name_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_blocks_name_experts [hPre_blocks_name_experts : Cert.Pre_blocks_name_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_name_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_blocks_name_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_blocks_name_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_blocks_name_experts : Cert.Pre_blocks_name_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_blocks_name_experts : Cert.Pre_blocks_name_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_blocks_name_experts [hReference2Ideal : Cert.Reference2Ideal.Facts] [hPre_blocks_name_experts : Cert.Pre_blocks_name_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_blocks_name_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_blocks_name_experts : Cert.Pre_blocks_name_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)) (v2 : (c : Dev Cert.Kernel6Ideal.nD) → Buf (Elt Ideal) ((c.tc : Thread Cert.Kernel6Ideal.nD Cert.Kernel6Ideal.τ).loc Cert.Kernel6Ideal.main_v16_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_v16_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_and_keys : Cert.Pre_finite_queries_and_keys.Facts) (hPre_blocks_name_experts : Cert.Pre_blocks_name_experts.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_blocks_name_experts := hPre_blocks_name_experts)
    ∧ quiescent_Kernel2Ideal (hKernel2Ideal := hKernel2Ideal) (hPre_blocks_name_experts := hPre_blocks_name_experts)
    ∧ quiescent_Reference2Ideal (hReference2Ideal := hReference2Ideal)
    ∧ quiescent_Reference2Ideal_pre_blocks_name_experts (hReference2Ideal := hReference2Ideal) (hPre_blocks_name_experts := hPre_blocks_name_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal) (hPre_blocks_name_experts := hPre_blocks_name_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_blocks_name_experts.lean ====
abbrev S256 : Shape := ⟨1, ![256]⟩
abbrev S262144x1024 : Shape := ⟨2, ![262144, 1024]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S256 : S_.BroadcastsInDim S256 (![] : Fin 0 → Fin S256.rank)

variable [Facts]

def fn {F : FTy → Type} [FloatOps F] (main_arg0 : IVec S256 32) (main_arg1 : IVec S256 32) (main_arg2 : FVec F S262144x1024 .f32) (main_arg3 : FVec F S2x64x1024x256 .f32) (main_arg4 : FVec F S2x64x1024x256 .f32) (main_arg5 : FVec F S2x64x256x1024 .f32) : IVec S256 1 × IVec S256 1 × IVec S256 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 64#32
  let main_v2 : IVec S256 32 := broadcastInDim S256 ![] bcast_S_S256 main_c_0
  let main_v3 : IVec S256 1 := cmpi .slt main_arg0 main_v2
  let main_c_1 : IVec S_ 32 := constantI S_ 32 0#32
  let main_v4 : IVec S256 32 := broadcastInDim S256 ![] bcast_S_S256 main_c_1
  let main_v5 : IVec S256 1 := cmpi .sge main_arg1 main_v4
  (main_v1, main_v3, main_v5)
-- ==== Pre_finite_queries_and_keys.lean ====
abbrev S8x4096x8x96 : Shape := ⟨4, ![8, 4096, 8, 96]⟩
abbrev S8x4352x8x96 : Shape := ⟨4, ![8, 4352, 8, 96]⟩
abbrev S8x4352x8x64 : Shape := ⟨4, ![8, 4352, 8, 64]⟩
abbrev S_ : Shape := ⟨0, ![]⟩

class Facts : Prop where
  bcast_S_S8x4096x8x96 : S_.BroadcastsInDim S8x4096x8x96 (![] : Fin 0 → Fin S8x4096x8x96.rank)
  bcast_S_S8x4352x8x96 : S_.BroadcastsInDim S8x4352x8x96 (![] : Fin 0 → Fin S8x4352x8x96.rank)

variable [Facts]

def fn {F : FTy → Type} [FloatOps F] (main_arg0 : FVec F S8x4096x8x96 .f32) (main_arg1 : FVec F S8x4352x8x96 .f32) (main_arg2 : FVec F S8x4352x8x64 .f32) : IVec S8x4096x8x96 1 × IVec S8x4352x8x96 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_v3 : FVec F S8x4352x8x96 .f32 := Host.absf main_arg1
  let main_cst_0 : FVec F S_ .f32 := constant S_ .f32 0x7F800000#32
  let main_v4 : FVec F S8x4352x8x96 .f32 := broadcastInDim S8x4352x8x96 ![] bcast_S_S8x4352x8x96 main_cst_0
  let main_v5 : IVec S8x4352x8x96 1 := cmpf .olt main_v3 main_v4
  (main_v2, main_v5)
-- ==== Kernel.lean ====
abbrev S8x4096x8x96 : Shape := ⟨4, ![8, 4096, 8, 96]⟩
abbrev S8x4352x8x96 : Shape := ⟨4, ![8, 4352, 8, 96]⟩
abbrev S8x4352x8x64 : Shape := ⟨4, ![8, 4352, 8, 64]⟩
abbrev S_ : Shape := ⟨0, ![]⟩
abbrev S8x4096x8x32 : Shape := ⟨4, ![8, 4096, 8, 32]⟩
abbrev S8x4096x8x128 : Shape := ⟨4, ![8, 4096, 8, 128]⟩
abbrev S8x4352x8x32 : Shape := ⟨4, ![8, 4352, 8, 32]⟩
abbrev S8x4352x8x128 : Shape := ⟨4, ![8, 4352, 8, 128]⟩
abbrev S8x4352x8x1 : Shape := ⟨4, ![8, 4352, 8, 1]⟩
abbrev S8x4352x8x63 : Shape := ⟨4, ![8, 4352, 8, 63]⟩
abbrev S8x4096x1024 : Shape := ⟨3, ![8, 4096, 1024]⟩
abbrev S8x4352x1024 : Shape := ⟨3, ![8, 4352, 1024]⟩
abbrev S1x512x512 : Shape := ⟨3, ![1, 512, 512]⟩
abbrev S1x4352x512 : Shape := ⟨3, ![1, 4352, 512]⟩
abbrev S1x512x128 : Shape := ⟨3, ![1, 512, 128]⟩
abbrev S512x128 : Shape := ⟨2, ![512, 128]⟩
abbrev S512x1 : Shape := ⟨2, ![512, 1]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S8x4096x8x64 : Shape := ⟨4, ![8, 4096, 8, 64]⟩
abbrev S8x4096x512 : Shape := ⟨3, ![8, 4096, 512]⟩

abbrev nBuf : Space → Nat
  | .hbm => 34
  | .vmem => 8
  | .smem => 0
  | _ => 0

abbrev bufTy : (tb : Table) → Fin (tcTables nBuf tb) → BufTy
  | .hbm, ⟨0, _⟩ => ⟨S8x4096x8x96, .f32⟩
  | .hbm, ⟨1, _⟩ => ⟨S8x4352x8x96, .f32⟩
  | .hbm, ⟨2, _⟩ => ⟨S8x4352x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8x96, .f32⟩
  | .hbm, ⟨11, _⟩ => ⟨S8x4096x8x96, .f32⟩
  | .hbm, ⟨12, _⟩ => ⟨S_, .f32⟩
  | .hbm, ⟨13, _⟩ => ⟨S8x4096x8x32, .f32⟩
  | .hbm, ⟨14, _⟩ => ⟨S8x4096x8x128, .f32⟩
  | .hbm, ⟨15, _⟩ => ⟨S_, .f32⟩
  | .hbm, ⟨16, _⟩ => ⟨S8x4352x8x32, .f32⟩
  | .hbm, ⟨17, _⟩ => ⟨S8x4352x8x128, .f32⟩
  | .hbm, ⟨18, _⟩ => ⟨S_, .f32⟩
  | .hbm, ⟨19, _⟩ => ⟨S8x4352x8x1, .f32⟩
  | .hbm, ⟨20, _⟩ => ⟨S_, .f32⟩
  | .hbm, ⟨21, _⟩ => ⟨S8x4352x8x63, .f32⟩
  | .hbm, ⟨22, _⟩ => ⟨S8x4352x8x64, .f32⟩
  | .hbm, ⟨23, _⟩ => ⟨S8x4352x8x128, .f32⟩
  | .hbm, ⟨24, _⟩ => ⟨S8x4096x1024, .f32⟩
  | .hbm, ⟨25, _⟩ => ⟨S8x4096x1024, .bf16⟩
  | .hbm, ⟨26, _⟩ => ⟨S8x4352x1024, .f32⟩
  | .hbm, ⟨27, _⟩ => ⟨S8x4352x1024, .bf16⟩
  | .hbm, ⟨28, _⟩ => ⟨S8x4352x1024, .f32⟩
  | .hbm, ⟨29, _⟩ => ⟨S8x4352x1024, .bf16⟩
  | .hbm, ⟨30, _⟩ => ⟨S8x4096x1024, .bf16⟩
  | .hbm, ⟨31, _⟩ => ⟨S8x4096x8x128, .bf16⟩
  | .hbm, ⟨32, _⟩ => ⟨S8x4096x8x64, .bf16⟩
  | .hbm, ⟨33, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x512x512, .bf16⟩
  | .local _ .vmem, ⟨7, _⟩ => ⟨S1x512x512, .bf16⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8x96 : Shape := ⟨4, ![8, 4096, 8, 96]⟩
abbrev S8x4352x8x96 : Shape := ⟨4, ![8, 4352, 8, 96]⟩
abbrev S8x4352x8x64 : Shape := ⟨4, ![8, 4352, 8, 64]⟩
abbrev S_ : Shape := ⟨0, ![]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4352x8x96, .f32⟩
  | .hbm, ⟨2, _⟩ => ⟨S8x4352x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8x4096x4352, .f32⟩
  | .hbm, ⟨8, _⟩ => ⟨S8x8x4096x4352, .f32⟩
  | .hbm, ⟨9, _⟩ => ⟨S8x8x4096x4352, .f32⟩
  | .hbm, ⟨10, _⟩ => ⟨S_, .f32⟩
  | .hbm, ⟨11, _⟩ => ⟨S8x8x4096, .f32⟩
  | .hbm, ⟨12, _⟩ => ⟨S_, .f32⟩
  | .hbm, ⟨13, _⟩ => ⟨S8x8x4096, .f32⟩
  | .hbm, ⟨14, _⟩ => ⟨S8x8x4096, .f32⟩
  | .hbm, ⟨15, _⟩ => ⟨S8x8x4096x1, .f32⟩
  | .hbm, ⟨16, _⟩ => ⟨S8x8x4096x4352, .f32⟩
  | .hbm, ⟨17, _⟩ => ⟨S8x8x4096x4352, .f32⟩
  | .hbm, ⟨18, _⟩ => ⟨S8x8x4096x4352, .f32⟩
  | .hbm, ⟨19, _⟩ => ⟨S_, .f32⟩
  | .hbm, ⟨20, _⟩ => ⟨S8x8x4096, .f32⟩
  | .hbm, ⟨21, _⟩ => ⟨S8x8x4096x1, .f32⟩
  | .hbm, ⟨22, _⟩ => ⟨S8x8x4096x4352, .f32⟩
  | .hbm, ⟨23, _⟩ => ⟨S8x8x4096x4352, .f32⟩
  | .hbm, ⟨24, _⟩ => ⟨S8x8x64x4096, .f32⟩
  | .hbm, ⟨25, _⟩ => ⟨S8x4096x8x64, .f32⟩
  | .hbm, ⟨26, _⟩ => ⟨S8x4096x512, .f32⟩
  | .hbm, ⟨27, _⟩ => ⟨S8x4096x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel2.lean ====
abbrev S256 : Shape := ⟨1, ![256]⟩
abbrev S262144x1024 : Shape := ⟨2, ![262144, 1024]⟩
abbrev S2x64x1024x256 : Shape := ⟨4, ![2, 64, 1024, 256]⟩
abbrev S2x64x256x1024 : Shape := ⟨4, ![2, 64, 256, 1024]⟩
abbrev S262144x512 : Shape := ⟨2, ![262144, 512]⟩
abbrev S1024x512 : Shape := ⟨2, ![1024, 512]⟩
abbrev S1x1x1024x256 : Shape := ⟨4, ![1, 1, 1024, 256]⟩
abbrev S1 : Shape := ⟨1, ![1]⟩
abbrev S1x1x256x1024 : Shape := ⟨4, ![1, 1, 256, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 10
  | .vmem => 17
  | .smem => 2
  | _ => 0

abbrev bufTy : (tb : Table) → Fin (tcTables nBuf tb) → BufTy
  | .hbm, ⟨0, _⟩ => ⟨S262144x1024, .f32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S262144x512, .f32⟩
  | .hbm, ⟨5, _⟩ => ⟨S262144x512, .bf16⟩
  | .hbm, ⟨6, _⟩ => ⟨S262144x512, .f32⟩
  | .hbm, ⟨7, _⟩ => ⟨S262144x512, .bf16⟩
  | .hbm, ⟨8, _⟩ => ⟨S262144x512, .bf16⟩
  | .hbm, ⟨9, _⟩ => ⟨S262144x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .smem, ⟨0, _⟩ => ⟨S256, .i32⟩
  | .local _ .smem, ⟨1, _⟩ => ⟨S256, .i32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .eq v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S256 : Shape := ⟨1, ![256]⟩
abbrev S262144x1024 : Shape := ⟨2, ![262144, 1024]⟩
abbrev S2x64x1024x256 : Shape := ⟨4, ![2, 64, 1024, 256]⟩
abbrev S2x64x256x1024 : Shape := ⟨4, ![2, 64, 256, 1024]⟩
abbrev S256x1024x1024 : Shape := ⟨3, ![256, 1024, 1024]⟩
abbrev S1x64x1024x256 : Shape := ⟨4, ![1, 64, 1024, 256]⟩
abbrev S64x1024x256 : Shape := ⟨3, ![64, 1024, 256]⟩
abbrev S_ : Shape := ⟨0, ![]⟩
abbrev S256x1 : Shape := ⟨2, ![256, 1]⟩
abbrev S256x1024x256 : Shape := ⟨3, ![256, 1024, 256]⟩
abbrev S1x64x256x1024 : Shape := ⟨4, ![1, 64, 256, 1024]⟩
abbrev S64x256x1024 : Shape := ⟨3, ![64, 256, 1024]⟩
abbrev S256x256x1024 : Shape := ⟨3, ![256, 256, 1024]⟩
abbrev S1024 : Shape := ⟨1, ![1024]⟩
abbrev S1x1024 : Shape := ⟨2, ![1, 1024]⟩
abbrev S256x1024 : Shape := ⟨2, ![256, 1024]⟩
abbrev S256x1024x1 : Shape := ⟨3, ![256, 1024, 1]⟩
abbrev S262144x512 : Shape := ⟨2, ![262144, 512]⟩

abbrev nBuf : Space → Nat
  | .hbm => 69
  | .vmem => 0
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S262144x1024, .f32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S256x1024x1024, .f32⟩
  | .hbm, ⟨7, _⟩ => ⟨S1x64x1024x256, .f32⟩
  | .hbm, ⟨8, _⟩ => ⟨S64x1024x256, .f32⟩
  | .hbm, ⟨9, _⟩ => ⟨S_, .i32⟩
  | .hbm, ⟨10, _⟩ => ⟨S256, .i32⟩
  | .hbm, ⟨11, _⟩ => ⟨S256, .i1⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S256x1, .i32⟩
  | .hbm, ⟨17, _⟩ => ⟨S256x1024x256, .f32⟩
  | .hbm, ⟨18, _⟩ => ⟨S1x64x1024x256, .f32⟩
  | .hbm, ⟨19, _⟩ => ⟨S64x1024x256, .f32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256x1024x256, .f32⟩
  | .hbm, ⟨29, _⟩ => ⟨S1x64x256x1024, .f32⟩
  | .hbm, ⟨30, _⟩ => ⟨S64x256x1024, .f32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x256x1024, .f32⟩
  | .hbm, ⟨40, _⟩ => ⟨S256x1024x256, .f32⟩
  | .hbm, ⟨41, _⟩ => ⟨S256x1024x256, .f32⟩
  | .hbm, ⟨42, _⟩ => ⟨S256x1024x256, .f32⟩
  | .hbm, ⟨43, _⟩ => ⟨S_, .f32⟩
  | .hbm, ⟨44, _⟩ => ⟨S256x1024x256, .f32⟩
  | .hbm, ⟨45, _⟩ => ⟨S256x1024x256, .f32⟩
  | .hbm, ⟨46, _⟩ => ⟨S_, .f32⟩
  | .hbm, ⟨47, _⟩ => ⟨S256x1024x256, .f32⟩
  | .hbm, ⟨48, _⟩ => ⟨S256x1024x256, .f32⟩
  | .hbm, ⟨49, _⟩ => ⟨S256x1024x256, .f32⟩
  | .hbm, ⟨50, _⟩ => ⟨S256x1024x256, .f32⟩
  | .hbm, ⟨51, _⟩ => ⟨S256x1024x256, .f32⟩
  | .hbm, ⟨52, _⟩ => ⟨S256x1024x1024, .f32⟩
  | .hbm, ⟨53, _⟩ => ⟨S1024, .i32⟩
  | .hbm, ⟨54, _⟩ => ⟨S1x1024, .i32⟩
  | .hbm, ⟨55, _⟩ => ⟨S256x1, .i32⟩
  | .hbm, ⟨56, _⟩ => ⟨S256x1024, .i32⟩
  | .hbm, ⟨57, _⟩ => ⟨S256x1024, .i32⟩
  | .hbm, ⟨58, _⟩ => ⟨S256x1024, .i1⟩
  | .hbm, ⟨59, _⟩ => ⟨S256x1024x1, .i1⟩
  | .hbm, ⟨60, _⟩ => ⟨S_, .f32⟩
  | .hbm, ⟨61, _⟩ => ⟨S_, .f32⟩
  | .hbm, ⟨62, _⟩ => ⟨S256x1024x1024, .i1⟩
  | .hbm, ⟨63, _⟩ => ⟨S256x1024x1024, .f32⟩
  | .hbm, ⟨64, _⟩ => ⟨S256x1024x1024, .f32⟩
  | .hbm, ⟨65, _⟩ => ⟨S262144x1024, .f32⟩
  | .hbm, ⟨66, _⟩ => ⟨S262144x1024, .bf16⟩
  | .hbm, ⟨67, _⟩ => ⟨S262144x512, .bf16⟩
  | .hbm, ⟨68, _⟩ => ⟨S262144x512, .bf16⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024x3072 : Shape := ⟨2, ![1024, 3072]⟩
abbrev S3x3072 : Shape := ⟨2, ![3, 3072]⟩
abbrev S3072 : Shape := ⟨1, ![3072]⟩
abbrev S1x3072 : Shape := ⟨2, ![1, 3072]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x1024 : Shape := ⟨2, ![528, 1024]⟩
abbrev S1x1024 : Shape := ⟨2, ![1, 1024]⟩
abbrev S8x1024 : Shape := ⟨2, ![8, 1024]⟩
abbrev S8 : Shape := ⟨1, ![8]⟩
abbrev S8x1 : Shape := ⟨2, ![8, 1]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024x3072, .f32⟩
  | .hbm, ⟨4, _⟩ => ⟨S3x3072, .f32⟩
  | .hbm, ⟨5, _⟩ => ⟨S3072, .f32⟩
  | .hbm, ⟨6, _⟩ => ⟨S1024x3072, .bf16⟩
  | .hbm, ⟨7, _⟩ => ⟨S1x3072, .f32⟩
  | .hbm, ⟨8, _⟩ => ⟨S8x4096x1024, .bf16⟩
  | .hbm, ⟨9, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x3072, .bf16⟩
  | .local _ .vmem, ⟨11, _⟩ => ⟨S3x3072, .f32⟩
  | .local _ .vmem, ⟨12, _⟩ => ⟨S1x3072, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S528x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4096x1024 : Shape := ⟨3, ![8, 4096, 1024]⟩
abbrev S8x1x1024 : Shape := ⟨3, ![8, 1, 1024]⟩
abbrev S1024x3072 : Shape := ⟨2, ![1024, 3072]⟩
abbrev S3x3072 : Shape := ⟨2, ![3, 3072]⟩
abbrev S3072 : Shape := ⟨1, ![3072]⟩
abbrev S_ : Shape := ⟨0, ![]⟩
abbrev S8x4096 : Shape := ⟨2, ![8, 4096]⟩
abbrev S8x4096x1 : Shape := ⟨3, ![8, 4096, 1]⟩
abbrev S8x4096x3072 : Shape := ⟨3, ![8, 4096, 3072]⟩
abbrev S8x4098x3072 : Shape := ⟨3, ![8, 4098, 3072]⟩
abbrev S1x3072 : Shape := ⟨2, ![1, 3072]⟩
abbrev S1x1x3072 : Shape := ⟨3, ![1, 1, 3072]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024x3072, .f32⟩
  | .hbm, ⟨4, _⟩ => ⟨S3x3072, .f32⟩
  | .hbm, ⟨5, _⟩ => ⟨S3072, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x1x1024, .f32⟩
  | .hbm, ⟨21, _⟩ => ⟨S8x1x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x3072, .f32⟩
  | .hbm, ⟨27, _⟩ => ⟨S_, .i32⟩
  | .hbm, ⟨28, _⟩ => ⟨S_, .f32⟩
  | .hbm, ⟨29, _⟩ => ⟨S8x4098x3072, .f32⟩
  | .hbm, ⟨30, _⟩ => ⟨S8x4096x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S8x4096x3072, .f32⟩
  | .hbm, ⟨35, _⟩ => ⟨S8x4096x3072, .f32⟩
  | .hbm, ⟨36, _⟩ => ⟨S_, .f32⟩
  | .hbm, ⟨37, _⟩ => ⟨S8x4096x3072, .f32⟩
  | .hbm, ⟨38, _⟩ => ⟨S8x4096x3072, .f32⟩
  | .hbm, ⟨39, _⟩ => ⟨S8x4096x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S8x4096x3072, .f32⟩
  | .hbm, ⟨44, _⟩ => ⟨S8x4096x3072, .f32⟩
  | .hbm, ⟨45, _⟩ => ⟨S8x4096x3072, .f32⟩
  | .hbm, ⟨46, _⟩ => ⟨S8x4096x3072, .f32⟩
  | .hbm, ⟨47, _⟩ => ⟨S1x3072, .f32⟩
  | .hbm, ⟨48, _⟩ => ⟨S3072, .f32⟩
  | .hbm, ⟨49, _⟩ => ⟨S1x1x3072, .f32⟩
  | .hbm, ⟨50, _⟩ => ⟨S8x4096x3072, .f32⟩
  | .hbm, ⟨51, _⟩ => ⟨S8x4096x3072, .f32⟩
  | .hbm, ⟨52, _⟩ => ⟨S8x4096x3072, .f32⟩
  | .hbm, ⟨53, _⟩ => ⟨S1x1x3072, .f32⟩
  | .hbm, ⟨54, _⟩ => ⟨S8x4096x3072, .f32⟩
  | .hbm, ⟨55, _⟩ => ⟨S8x4096x3072, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .bf16⟩
  | .hbm, ⟨61, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Kernel4.lean ====
abbrev S6x32768x1024 : Shape := ⟨3, ![6, 32768, 1024]⟩
abbrev S8x4096x6 : Shape := ⟨3, ![8, 4096, 6]⟩
abbrev S8x4096x1024 : Shape := ⟨3, ![8, 4096, 1024]⟩
abbrev S8x1x1024 : Shape := ⟨3, ![8, 1, 1024]⟩
abbrev S1024x256 : Shape := ⟨2, ![1024, 256]⟩
abbrev S256x1024 : Shape := ⟨2, ![256, 1024]⟩
abbrev S6x32768x512 : Shape := ⟨3, ![6, 32768, 512]⟩
abbrev S_ : Shape := ⟨0, ![]⟩
abbrev S8x4096x2 : Shape := ⟨3, ![8, 4096, 2]⟩
abbrev S8x4096x8 : Shape := ⟨3, ![8, 4096, 8]⟩
abbrev S6x512x512 : Shape := ⟨3, ![6, 512, 512]⟩
abbrev S1x512x8 : Shape := ⟨3, ![1, 512, 8]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x256 : Shape := ⟨2, ![512, 256]⟩
abbrev S512x8 : Shape := ⟨2, ![512, 8]⟩
abbrev S1x512x512 : Shape := ⟨3, ![1, 512, 512]⟩
abbrev S512x512 : Shape := ⟨2, ![512, 512]⟩
abbrev S1x512x256 : Shape := ⟨3, ![1, 512, 256]⟩
abbrev S1x1x256 : Shape := ⟨3, ![1, 1, 256]⟩
abbrev S1x256 : Shape := ⟨2, ![1, 256]⟩

abbrev nBuf : Space → Nat
  | .hbm => 17
  | .vmem => 19
  | .smem => 0
  | _ => 0

abbrev bufTy : (tb : Table) → Fin (tcTables nBuf tb) → BufTy
  | .hbm, ⟨0, _⟩ => ⟨S6x32768x1024, .f32⟩
  | .hbm, ⟨1, _⟩ => ⟨S8x4096x6, .f32⟩
  | .hbm, ⟨2, _⟩ => ⟨S8x4096x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S6x32768x512, .f32⟩
  | .hbm, ⟨10, _⟩ => ⟨S6x32768x512, .bf16⟩
  | .hbm, ⟨11, _⟩ => ⟨S6x32768x512, .f32⟩
  | .hbm, ⟨12, _⟩ => ⟨S6x32768x512, .bf16⟩
  | .hbm, ⟨13, _⟩ => ⟨S_, .f32⟩
  | .hbm, ⟨14, _⟩ => ⟨S8x4096x2, .f32⟩
  | .hbm, ⟨15, _⟩ => ⟨S8x4096x8, .f32⟩
  | .hbm, ⟨16, _⟩ => ⟨S8x4096x1024, .f32⟩
  | .local _ .vmem, ⟨0, _⟩ => ⟨S6x512x512, .bf16⟩
  | .local _ .vmem, ⟨1, _⟩ => ⟨S6x512x512, .bf16⟩
  | .local _ .vmem, ⟨2, _⟩ => ⟨S6x512x512, .bf16⟩
  | .local _ .vmem, ⟨3, _⟩ => ⟨S6x512x512, .bf16⟩
  | .local _ .vmem, ⟨4, _⟩ => ⟨S1x512x8, .f32⟩
  | .local _ .vmem, ⟨5, _⟩ => ⟨S1x512x8, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x256, .f32⟩
  | .local _ .vmem, ⟨15, _⟩ => ⟨S1024x256, .f32⟩
  | .local _ .vmem, ⟨16, _⟩ => ⟨S256x1024, .f32⟩
  | .local _ .vmem, ⟨17, _⟩ => ⟨S1x512x1024, .f32⟩
  | .local _ .vmem, ⟨18, _⟩ => ⟨S1x512x1024, .f32⟩
  | _, _ => ⟨S6x32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S6x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S6x32768x1024 : Shape := ⟨3, ![6, 32768, 1024]⟩
abbrev S8x4096x6 : Shape := ⟨3, ![8, 4096, 6]⟩
abbrev S8x4096x1024 : Shape := ⟨3, ![8, 4096, 1024]⟩
abbrev S8x1x1024 : Shape := ⟨3, ![8, 1, 1024]⟩
abbrev S1024x256 : Shape := ⟨2, ![1024, 256]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S8x4096x256 : Shape := ⟨3, ![8, 4096, 256]⟩
abbrev S6x8x4096x1024 : Shape := ⟨4, ![6, 8, 4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S6x32768x1024, .f32⟩
  | .hbm, ⟨1, _⟩ => ⟨S8x4096x6, .f32⟩
  | .hbm, ⟨2, _⟩ => ⟨S8x4096x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x256, .f32⟩
  | .hbm, ⟨30, _⟩ => ⟨S8x4096x256, .f32⟩
  | .hbm, ⟨31, _⟩ => ⟨S8x4096x256, .f32⟩
  | .hbm, ⟨32, _⟩ => ⟨S8x4096x256, .f32⟩
  | .hbm, ⟨33, _⟩ => ⟨S_, .f32⟩
  | .hbm, ⟨34, _⟩ => ⟨S8x4096x256, .f32⟩
  | .hbm, ⟨35, _⟩ => ⟨S8x4096x256, .f32⟩
  | .hbm, ⟨36, _⟩ => ⟨S_, .f32⟩
  | .hbm, ⟨37, _⟩ => ⟨S8x4096x256, .f32⟩
  | .hbm, ⟨38, _⟩ => ⟨S8x4096x256, .f32⟩
  | .hbm, ⟨39, _⟩ => ⟨S8x4096x256, .f32⟩
  | .hbm, ⟨40, _⟩ => ⟨S8x4096x256, .f32⟩
  | .hbm, ⟨41, _⟩ => ⟨S8x4096x1024, .f32⟩
  | .hbm, ⟨42, _⟩ => ⟨S6x8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | _, _ => ⟨S6x32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x1024 : Shape := ⟨2, ![1024, 1024]⟩
abbrev S8x1x1024 : Shape := ⟨3, ![8, 1, 1024]⟩
abbrev S1024x64 : Shape := ⟨2, ![1024, 64]⟩
abbrev S64 : Shape := ⟨1, ![64]⟩
abbrev S512x512 : Shape := ⟨2, ![512, 512]⟩
abbrev S64x1024 : Shape := ⟨2, ![64, 1024]⟩
abbrev S64x1 : Shape := ⟨2, ![64, 1]⟩
abbrev S1x1024 : Shape := ⟨2, ![1, 1024]⟩
abbrev S8x4096x512 : Shape := ⟨3, ![8, 4096, 512]⟩
abbrev S8x32768 : Shape := ⟨2, ![8, 32768]⟩
abbrev S64x128 : Shape := ⟨2, ![64, 128]⟩
abbrev S1x512x1024 : Shape := ⟨3, ![1, 512, 1024]⟩
abbrev S1x1x1024 : Shape := ⟨3, ![1, 1, 1024]⟩
abbrev S1x512x512 : Shape := ⟨3, ![1, 512, 512]⟩
abbrev S8x512 : Shape := ⟨2, ![8, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S64x3072 : Shape := ⟨2, ![64, 3072]⟩
abbrev S512x3072 : Shape := ⟨2, ![512, 3072]⟩
abbrev S64x512 : Shape := ⟨2, ![64, 512]⟩
abbrev S1x512 : Shape := ⟨2, ![1, 512]⟩

abbrev nBuf : Space → Nat
  | .hbm => 26
  | .vmem => 33
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S1024, .f32⟩
  | .hbm, ⟨4, _⟩ => ⟨S1024x1024, .f32⟩
  | .hbm, ⟨5, _⟩ => ⟨S8x4096x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024x64, .f32⟩
  | .hbm, ⟨10, _⟩ => ⟨S64, .f32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S512x512, .bf16⟩
  | .hbm, ⟨15, _⟩ => ⟨S64x1024, .f32⟩
  | .hbm, ⟨16, _⟩ => ⟨S64x1, .f32⟩
  | .hbm, ⟨17, _⟩ => ⟨S1x1024, .f32⟩
  | .hbm, ⟨18, _⟩ => ⟨S1024x1024, .bf16⟩
  | .hbm, ⟨19, _⟩ => ⟨S8x4096x1024, .f32⟩
  | .hbm, ⟨20, _⟩ => ⟨S8x4096x512, .bf16⟩
  | .hbm, ⟨21, _⟩ => ⟨S8x4096x512, .bf16⟩
  | .hbm, ⟨22, _⟩ => ⟨S8x32768, .i32⟩
  | .hbm, ⟨23, _⟩ => ⟨S8x32768, .f32⟩
  | .hbm, ⟨24, _⟩ => ⟨S8x32768, .i32⟩
  | .hbm, ⟨25, _⟩ => ⟨S64x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S64x1024, .f32⟩
  | .local _ .vmem, ⟨17, _⟩ => ⟨S64x1, .f32⟩
  | .local _ .vmem, ⟨18, _⟩ => ⟨S512x512, .bf16⟩
  | .local _ .vmem, ⟨19, _⟩ => ⟨S1x512x1024, .f32⟩
  | .local _ .vmem, ⟨20, _⟩ => ⟨S1x512x1024, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S8x512, .i32⟩
  | .local _ .vmem, ⟨26, _⟩ => ⟨S8x512, .i32⟩
  | .local _ .vmem, ⟨27, _⟩ => ⟨S8x512, .f32⟩
  | .local _ .vmem, ⟨28, _⟩ => ⟨S8x512, .f32⟩
  | .local _ .vmem, ⟨29, _⟩ => ⟨S8x512, .i32⟩
  | .local _ .vmem, ⟨30, _⟩ => ⟨S8x512, .i32⟩
  | .local _ .vmem, ⟨31, _⟩ => ⟨S64x128, .f32⟩
  | .local _ .vmem, ⟨32, _⟩ => ⟨S64x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Reference5Ideal.lean ====
abbrev S8x4096x1024 : Shape := ⟨3, ![8, 4096, 1024]⟩
abbrev S1024 : Shape := ⟨1, ![1024]⟩
abbrev S1024x1024 : Shape := ⟨2, ![1024, 1024]⟩
abbrev S8x1x1024 : Shape := ⟨3, ![8, 1, 1024]⟩
abbrev S1024x64 : Shape := ⟨2, ![1024, 64]⟩
abbrev S64 : Shape := ⟨1, ![64]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x4096x512 : Shape := ⟨3, ![8, 4096, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S1024, .f32⟩
  | .hbm, ⟨4, _⟩ => ⟨S1024x1024, .f32⟩
  | .hbm, ⟨5, _⟩ => ⟨S8x4096x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024x64, .f32⟩
  | .hbm, ⟨10, _⟩ => ⟨S64, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S1x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .bf16⟩
  | .hbm, ⟨44, _⟩ => ⟨S8x4096x512, .bf16⟩
  | .hbm, ⟨45, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x4096x512 : Shape := ⟨3, ![8, 4096, 512]⟩
abbrev S8x4352x512 : Shape := ⟨3, ![8, 4352, 512]⟩
abbrev S512 : Shape := ⟨1, ![512]⟩
abbrev S512x512 : Shape := ⟨2, ![512, 512]⟩
abbrev S1024x1024 : Shape := ⟨2, ![1024, 1024]⟩
abbrev S8x1x1024 : Shape := ⟨3, ![8, 1, 1024]⟩
abbrev S1024x64 : Shape := ⟨2, ![1024, 64]⟩
abbrev S64 : Shape := ⟨1, ![64]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1x512 : Shape := ⟨2, ![1, 512]⟩
abbrev S64x1024 : Shape := ⟨2, ![64, 1024]⟩
abbrev S64x1 : Shape := ⟨2, ![64, 1]⟩
abbrev S8x32768 : Shape := ⟨2, ![8, 32768]⟩
abbrev S64x128 : Shape := ⟨2, ![64, 128]⟩
abbrev S1x512x1024 : Shape := ⟨3, ![1, 512, 1024]⟩
abbrev S1x512x512 : Shape := ⟨3, ![1, 512, 512]⟩
abbrev S1x1x1024 : Shape := ⟨3, ![1, 1, 1024]⟩
abbrev S8x512 : Shape := ⟨2, ![8, 512]⟩
abbrev S1x1024 : Shape := ⟨2, ![1, 1024]⟩
abbrev S512x1 : Shape := ⟨2, ![512, 1]⟩
abbrev S512x256 : Shape := ⟨2, ![512, 256]⟩
abbrev S64x3072 : Shape := ⟨2, ![64, 3072]⟩
abbrev S512x3072 : Shape := ⟨2, ![512, 3072]⟩
abbrev S64x512 : Shape := ⟨2, ![64, 512]⟩

abbrev nBuf : Space → Nat
  | .hbm => 37
  | .vmem => 36
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x512, .bf16⟩
  | .hbm, ⟨2, _⟩ => ⟨S8x4352x512, .bf16⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x1024, .f32⟩
  | .hbm, ⟨7, _⟩ => ⟨S8x4096x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x64, .f32⟩
  | .hbm, ⟨12, _⟩ => ⟨S64, .f32⟩
  | .hbm, ⟨13, _⟩ => ⟨S1024x1024, .bf16⟩
  | .hbm, ⟨14, _⟩ => ⟨S512x1024, .bf16⟩
  | .hbm, ⟨15, _⟩ => ⟨S8x64x1024, .bf16⟩
  | .hbm, ⟨16, _⟩ => ⟨S_, .bf16⟩
  | .hbm, ⟨17, _⟩ => ⟨S8x64x1024, .bf16⟩
  | .hbm, ⟨18, _⟩ => ⟨S8x128x1024, .bf16⟩
  | .hbm, ⟨19, _⟩ => ⟨S1x512, .f32⟩
  | .hbm, ⟨20, _⟩ => ⟨S512x512, .bf16⟩
  | .hbm, ⟨21, _⟩ => ⟨S1x512, .f32⟩
  | .hbm, ⟨22, _⟩ => ⟨S1024x1024, .bf16⟩
  | .hbm, ⟨23, _⟩ => ⟨S512x1024, .bf16⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S512x512, .bf16⟩
  | .hbm, ⟨28, _⟩ => ⟨S64x1024, .f32⟩
  | .hbm, ⟨29, _⟩ => ⟨S64x1, .f32⟩
  | .hbm, ⟨30, _⟩ => ⟨S8x4096x1024, .f32⟩
  | .hbm, ⟨31, _⟩ => ⟨S8x4096x512, .bf16⟩
  | .hbm, ⟨32, _⟩ => ⟨S8x4096x512, .bf16⟩
  | .hbm, ⟨33, _⟩ => ⟨S8x32768, .i32⟩
  | .hbm, ⟨34, _⟩ => ⟨S8x32768, .f32⟩
  | .hbm, ⟨35, _⟩ => ⟨S8x32768, .i32⟩
  | .hbm, ⟨36, _⟩ => ⟨S64x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1024x1024, .bf16⟩
  | .local _ .vmem, ⟨10, _⟩ => ⟨S512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S64x1024, .f32⟩
  | .local _ .vmem, ⟨20, _⟩ => ⟨S64x1, .f32⟩
  | .local _ .vmem, ⟨21, _⟩ => ⟨S512x512, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S8x512, .i32⟩
  | .local _ .vmem, ⟨29, _⟩ => ⟨S8x512, .i32⟩
  | .local _ .vmem, ⟨30, _⟩ => ⟨S8x512, .f32⟩
  | .local _ .vmem, ⟨31, _⟩ => ⟨S8x512, .f32⟩
  | .local _ .vmem, ⟨32, _⟩ => ⟨S8x512, .i32⟩
  | .local _ .vmem, ⟨33, _⟩ => ⟨S8x512, .i32⟩
  | .local _ .vmem, ⟨34, _⟩ => ⟨S64x128, .f32⟩
  | .local _ .vmem, ⟨35, _⟩ => ⟨S64x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S8x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S64x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]
-- ==== Reference6Ideal.lean ====
abbrev S8x4096x1024 : Shape := ⟨3, ![8, 4096, 1024]⟩
abbrev S8x4096x512 : Shape := ⟨3, ![8, 4096, 512]⟩
abbrev S8x4352x512 : Shape := ⟨3, ![8, 4352, 512]⟩
abbrev S512 : Shape := ⟨1, ![512]⟩
abbrev S512x512 : Shape := ⟨2, ![512, 512]⟩
abbrev S1024x1024 : Shape := ⟨2, ![1024, 1024]⟩
abbrev S8x1x1024 : Shape := ⟨3, ![8, 1, 1024]⟩
abbrev S1024x64 : Shape := ⟨2, ![1024, 64]⟩
abbrev S64 : Shape := ⟨1, ![64]⟩
abbrev S1x1x512 : Shape := ⟨3, ![1, 1, 512]⟩
abbrev S_ : Shape := ⟨0, ![]⟩
abbrev S8x4096x8x128 : Shape := ⟨4, ![8, 4096, 8, 128]⟩
abbrev S8x4096x8x64 : Shape := ⟨4, ![8, 4096, 8, 64]⟩
abbrev S8x4096 : Shape := ⟨2, ![8, 4096]⟩
abbrev S8x4096x1 : Shape := ⟨3, ![8, 4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x512, .bf16⟩
  | .hbm, ⟨2, _⟩ => ⟨S8x4352x512, .bf16⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x1024, .f32⟩
  | .hbm, ⟨7, _⟩ => ⟨S8x4096x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x64, .f32⟩
  | .hbm, ⟨12, _⟩ => ⟨S64, .f32⟩
  | .hbm, ⟨13, _⟩ => ⟨S8x4096x512, .bf16⟩
  | .hbm, ⟨14, _⟩ => ⟨S8x4096x512, .f32⟩
  | .hbm, ⟨15, _⟩ => ⟨S1x1x512, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S_, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S_, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S_, .f32⟩
  | .hbm, ⟨31, _⟩ => ⟨S8x4096x512, .f32⟩
  | .hbm, ⟨32, _⟩ => ⟨S8x4096x512, .f32⟩
  | .hbm, ⟨33, _⟩ => ⟨S_, .f32⟩
  | .hbm, ⟨34, _⟩ => ⟨S8x4096x512, .f32⟩
  | .hbm, ⟨35, _⟩ => ⟨S8x4096x512, .f32⟩
  | .hbm, ⟨36, _⟩ => ⟨S8x4096x512, .f32⟩
  | .hbm, ⟨37, _⟩ => ⟨S8x4096x512, .f32⟩
  | .hbm, ⟨38, _⟩ => ⟨S1x1x512, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S_, .f32⟩
  | .hbm, ⟨44, _⟩ => ⟨S8x4096x512, .f32⟩
  | .hbm, ⟨45, _⟩ => ⟨S8x4096x512, .f32⟩
  | .hbm, ⟨46, _⟩ => ⟨S_, .f32⟩
  | .hbm, ⟨47, _⟩ => ⟨S8x4096x512, .f32⟩
  | .hbm, ⟨48, _⟩ => ⟨S8x4096x512, .f32⟩
  | .hbm, ⟨49, _⟩ => ⟨S8x4096x512, .f32⟩
  | .hbm, ⟨50, _⟩ => ⟨S8x4096x8x128, .bf16⟩
  | .hbm, ⟨51, _⟩ => ⟨S8x4096x8x64, .bf16⟩
  | .hbm, ⟨52, _⟩ => ⟨S8x4096x512, .bf16⟩
  | .hbm, ⟨53, _⟩ => ⟨S8x4096x512, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x1x1024, .f32⟩
  | .hbm, ⟨74, _⟩ => ⟨S8x1x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .bf16⟩
  | .hbm, ⟨80, _⟩ => ⟨S8x4096x512, .bf16⟩
  | .hbm, ⟨81, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Proof.Chunks.lean ====
/-
  The body of the attention call as a recursion over chunks of 256 keys: one step of the running row maximum and
  of the rescaled accumulator, the state after `n` chunks, and the block that one head stores. The four stores of
  the body are that block at the four heads.
-/
module

public import proofs.«01_k».proof.Proof.Gen.KernelIdeal.Frame
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen

variable {F : FTy → Type} [FloatOps F]

/-- The scores of 512 queries against one chunk of 256 keys. -/
def score (q : FVec F S512x128 .bf16) (kc : Vec F S1x256x128 .bf16) : FVec F S512x256 .f32 :=
  matmul dot_S512x128_S256x128_S512x256_1_1_0_0_n_n none q
    (shapeCast S256x128 kc shapeCasts_S1x256x128_S256x128) (constant S512x256 .f32 0x00000000#32)

/-- The row maximum after one more chunk. -/
def maxNext (q : FVec F S512x128 .bf16) (mx : FVec F S512x1 .f32) (kc : Vec F S1x256x128 .bf16) : FVec F S512x1 .f32 :=
  maximumf mx (shapeCast S512x1
    (multiReduction .maximumf [1] S512 (score q kc) 0xFF800000#32 reduces_S512x256_S512 (.inl rfl) rfl)
    shapeCasts_S512_S512x1)

/-- The weights of one chunk, from the scores and the row maximum. -/
def weight (q : FVec F S512x128 .bf16) (mx : FVec F S512x1 .f32) (kc : Vec F S1x256x128 .bf16) : FVec F S512x256 .bf16 :=
  truncf .bf16 (exp2 (subf (score q kc) (broadcastTo S512x256 mx broadcasts_S512x1_S512x256))) bitsLt_bf16_f32

/-- The accumulator after one more chunk: rescaled from the row maximum `mx` to `mx'`, the chunk's weighted values added. -/
def accNext (q : FVec F S512x128 .bf16) (mx mx' : FVec F S512x1 .f32) (a : FVec F S512x128 .f32)
    (kc vc : Vec F S1x256x128 .bf16) : FVec F S512x128 .f32 :=
  addf (mulf a (broadcastTo S512x128 (exp2 (subf mx mx')) broadcasts_S512x1_S512x128))
    (matmul dot_S512x256_S256x128_S512x128_1_0_0_1_n_n none (weight q mx' kc)
      (shapeCast S256x128 vc shapeCasts_S1x256x128_S256x128) (constant S512x128 .f32 0x00000000#32))

/-- The row maximum after `n` chunks. -/
def maxAt (q : FVec F S512x128 .bf16) (K : ℕ → Vec F S1x256x128 .bf16) : ℕ → FVec F S512x1 .f32
  | 0 => broadcast S512x1 (Scalar.ofBits .f32 0xFF800000#32)
  | n + 1 => maxNext q (maxAt q K n) (K n)

/-- The accumulator after `n` chunks. -/
def accAt (q : FVec F S512x128 .bf16) (K V : ℕ → Vec F S1x256x128 .bf16) : ℕ → FVec F S512x128 .f32
  | 0 => broadcast S512x128 (Scalar.ofBits .f32 0x00000000#32)
  | n + 1 => accNext q (maxAt q K n) (maxAt q K (n + 1)) (accAt q K V n) (K n) (V n)

/-- What a head stores: its accumulator over its lane 64. -/
def headOut (a : FVec F S512x128 .f32) : FVec F S1x512x128 .bf16 :=
  shapeCast S1x512x128 (truncf .bf16 (mulf a (broadcastTo S512x128
    (divf (broadcast S512x1 (Scalar.ofBits .f32 0x3F800000#32))
      (extractStridedSlice S512x1 ![0, 64] a slices_S512x128_o0_64_S512x1)) broadcasts_S512x1_S512x128))
    bitsLt_bf16_f32) shapeCasts_S512x128_S1x512x128

/-- The rectangle of chunk `c` (of 17) of head `h` (of 4) in a block of keys or values. -/
abbrev chunkRect (h c : ℕ) : Rect S1x4352x512 :=
  Rect.unit (s := S1x4352x512) ![0, 256 * (c % 17), 128 * (h % 4)] S1x256x128.size (by
    intro a; have := Nat.mod_lt c (show 17 > 0 by decide); have := Nat.mod_lt h (show 4 > 0 by decide)
    match a with
    | ⟨0, _⟩ => exact Nat.le_refl 1
    | ⟨1, _⟩ => show 256 * (c % 17) + 256 ≤ 4352; omega
    | ⟨2, _⟩ => show 128 * (h % 4) + 128 ≤ 512; omega)

/-- The rectangle of head `h` (of 4) in a block of queries. -/
abbrev headRect (h : ℕ) : Rect S1x512x512 :=
  Rect.unit (s := S1x512x512) ![0, 0, 128 * (h % 4)] S1x512x128.size (by
    intro a; have := Nat.mod_lt h (show 4 > 0 by decide)
    match a with
    | ⟨0, _⟩ => exact Nat.le_refl 1
    | ⟨1, _⟩ => exact Nat.le_refl 512
    | ⟨2, _⟩ => show 128 * (h % 4) + 128 ≤ 512; omega)

/-- Chunk `c` of head `h` of a block of keys or values. -/
def chunkOf (x : Vec F S1x4352x512 .bf16) (h c : ℕ) : Vec F S1x256x128 .bf16 := View.ld x (chunkRect h c)

/-- The queries of head `h`. -/
def queryOf (x : Vec F S1x512x512 .bf16) (h : ℕ) : FVec F S512x128 .bf16 :=
  shapeCast S512x128 (View.ld x (headRect h) : Vec F S1x512x128 .bf16) shapeCasts_S1x512x128_S512x128

/-- The block of head `h`. -/
def headBlock (x0 : Vec F S1x512x512 .bf16) (x1 x2 : Vec F S1x4352x512 .bf16) (h : ℕ) : FVec F S1x512x128 .bf16 :=
  headOut (accAt (queryOf x0 h) (chunkOf x1 h) (chunkOf x2 h) 17)

/-- The body's four stores are the blocks of the four heads. -/
theorem out_eq (x0 : Vec F S1x512x512 .bf16) (x1 x2 : Vec F S1x4352x512 .bf16) :
    out0_3 x0 x1 x2 = View.canon [⟨r0_54, headBlock x0 x1 x2 3⟩, ⟨r0_36, headBlock x0 x1 x2 2⟩,
      ⟨r0_18, headBlock x0 x1 x2 1⟩, ⟨r0_0, headBlock x0 x1 x2 0⟩] := by
  sl_kernel_rfl

end Cert.KernelIdeal.Attn

end
-- ==== Proof.OnlineSoftmax.lean ====
/-
  The softmax of a row of finite scores, chunk by chunk, on the extended reals. A running maximum and an accumulator
  that is rescaled whenever the maximum moves end at the weighted sum of the values over all keys, with the weights
  taken against one real number; and the quotient of two such sums does not depend on that number, nor on the base of
  the exponential. The values may be any extended reals.
-/
module

public import Idealize.ShloMosaic.PureOps.Ideal
public import Mathlib.Analysis.SpecialFunctions.Pow.Real

@[expose] public section

noncomputable section

namespace Cert.Softmax

open Idealize.ShloMosaic

/-- The cast of the reals into the extended reals carries a finite sum over. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor distributes over a finite sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s h ih =>
    rw [Finset.sum_insert h, Finset.sum_insert h, ← ih, mul_comm, mul_comm (f a), mul_comm (∑ i ∈ s, f i)]
    exact EReal.left_distrib_of_nonneg_of_ne_top (by exact_mod_cast hr) (EReal.coe_ne_top r) _ _

/-- The maximum of finitely many reals, at least one, is a real. -/
theorem fold_max_real {ι : Type*} [Fintype ι] [Nonempty ι] (x : ι → ℝ) :
    ∃ μ : ℝ, Finset.univ.fold max (⊥ : EReal) (fun i => (x i : EReal)) = μ := by
  classical
  obtain ⟨i, -, hi⟩ := Finset.exists_max_image Finset.univ x Finset.univ_nonempty
  refine ⟨x i, le_antisymm ?_ ?_⟩
  · rw [Finset.fold_max_le]
    exact ⟨bot_le, fun j hj => EReal.coe_le_coe_iff.2 (hi j hj)⟩
  · rw [Finset.le_fold_max]
    exact Or.inr ⟨i, Finset.mem_univ i, le_rfl⟩

/-- Under finite scores the running maximum is a real from the first chunk on. -/
theorem running_max {ι : Type*} [Fintype ι] [Nonempty ι] (s : ℕ → ι → EReal) (x : ℕ → ι → ℝ)
    (hs : ∀ n i, s n i = x n i) (M : ℕ → EReal) (h0 : M 0 = ⊥)
    (hM : ∀ n, M (n + 1) = max (M n) (Finset.univ.fold max ⊥ (s n))) (n : ℕ) : ∃ μ : ℝ, M (n + 1) = μ := by
  have hf : ∀ n, ∃ μ : ℝ, Finset.univ.fold max (⊥ : EReal) (s n) = μ := fun n => by
    rw [show s n = fun i => (x n i : EReal) from funext (hs n)]; exact fold_max_real _
  induction n with
  | zero =>
    obtain ⟨μ, hμ⟩ := hf 0
    exact ⟨μ, by rw [hM, h0, hμ]; exact max_eq_right bot_le⟩
  | succ n ih =>
    obtain ⟨μ, hμ⟩ := ih
    obtain ⟨κ, hκ⟩ := hf (n + 1)
    exact ⟨max μ κ, by rw [hM, hμ, hκ]; exact (EReal.coe_strictMono.monotone.map_max).symm⟩

/-- The rescaled accumulator after `n + 1` chunks is the weighted sum of the values seen so far, the weights against the
    running maximum. -/
theorem running_acc {ι : Type*} [Fintype ι] (s : ℕ → ι → EReal) (x : ℕ → ι → ℝ)
    (hs : ∀ n i, s n i = x n i) (v : ℕ → ι → EReal) (M A : ℕ → EReal) (μ : ℕ → ℝ) (hμ : ∀ n, M (n + 1) = μ n)
    (hA0 : A 0 = 0)
    (hA : ∀ n, A (n + 1) = A n * Ideal.exp2 (M n - M (n + 1)) + ∑ i, Ideal.exp2 (s n i - M (n + 1)) * v n i) (n : ℕ) :
    A (n + 1) = ∑ c ∈ Finset.range (n + 1), ∑ i, ((Real.rpow 2 (x c i - μ n) : ℝ) : EReal) * v c i := by
  have hnew : ∀ n i, Ideal.exp2 (s n i - M (n + 1)) = ((Real.rpow 2 (x n i - μ n) : ℝ) : EReal) := fun n i => by
    rw [hs, hμ, ← EReal.coe_sub, Ideal.exp2_coe]
  induction n with
  | zero => rw [hA, hA0, zero_mul, zero_add]; simp only [hnew, Finset.range_one, Finset.sum_singleton, zero_add]
  | succ n ih =>
    rw [hA (n + 1), Finset.sum_range_succ, ih, hμ n, hμ (n + 1), ← EReal.coe_sub, Ideal.exp2_coe]
    have hr : 0 ≤ Real.rpow 2 (μ n - μ (n + 1)) := Real.rpow_nonneg (by norm_num) _
    congr 1
    · rw [sum_mul_coe _ _ _ hr]
      refine Finset.sum_congr rfl fun c _ => ?_
      rw [sum_mul_coe _ _ _ hr]
      refine Finset.sum_congr rfl fun i _ => ?_
      rw [mul_right_comm, ← EReal.coe_mul]
      congr 2
      have := Real.rpow_add (show (0 : ℝ) < 2 by norm_num) (x c i - μ n) (μ n - μ (n + 1))
      rw [sub_add_sub_cancel] at this
      exact this.symm
    · refine Finset.sum_congr rfl fun i _ => ?_
      rw [← hμ (n + 1), hnew]

/-- The weighted sum over the sum of the weights, base 2 and against one real number, is the sum of the values times
    softmax weights, base e and against any other. -/
theorem quotient_eq {ι : Type*} [Fintype ι] [Nonempty ι] (x y : ι → ℝ) (μ ν : ℝ) (hy : ∀ i, y i = x i * Real.log 2)
    (v : ι → EReal) :
    (∑ i, ((Real.rpow 2 (x i - μ) : ℝ) : EReal) * v i)
        * Ideal.div 1 (∑ i, ((Real.rpow 2 (x i - μ) : ℝ) : EReal) * 1)
      = ∑ i, v i * Ideal.div (Real.exp (y i - ν) : ℝ) (∑ j, ((Real.exp (y j - ν) : ℝ) : EReal)) := by
  have hp : ∀ i, Real.rpow 2 (x i - μ) = Real.exp (y i - ν) * Real.exp (ν - μ * Real.log 2) := fun i => by
    rw [← Real.exp_add, hy]
    refine (Real.rpow_def_of_pos (by norm_num : (0 : ℝ) < 2) _).trans (congrArg Real.exp ?_)
    ring
  have hE : 0 < ∑ j, Real.exp (y j - ν) := Finset.sum_pos (fun _ _ => Real.exp_pos _) Finset.univ_nonempty
  have hC : 0 < Real.exp (ν - μ * Real.log 2) := Real.exp_pos _
  simp only [mul_one, ← coe_sum, hp]
  rw [Ideal.div_coe (by rw [← Finset.sum_mul]; positivity), one_mul,
    sum_mul_coe _ _ _ (by rw [← Finset.sum_mul]; positivity)]
  refine Finset.sum_congr rfl fun i _ => ?_
  rw [Ideal.div_coe hE.ne', mul_right_comm, mul_comm (v i), ← EReal.coe_mul, ← EReal.coe_mul]
  congr 2
  rw [← Finset.sum_mul]
  field_simp

/-- The f32 pattern 0xFF800000 is minus infinity. -/
theorem ofBits_neg_infinity : Ideal.ofBits .f32 0xFF800000#32 = ⊥ := by
  simp [Ideal.ofBits, Ideal.ieee]

/-- The f32 pattern 0x7F800000 is plus infinity. -/
theorem ofBits_infinity : Ideal.ofBits .f32 0x7F800000#32 = ⊤ := by
  simp [Ideal.ofBits, Ideal.ieee]

/-- The f32 pattern 0x42C00000 is 96. -/
theorem ofBits_ninety_six : Ideal.ofBits .f32 0x42C00000#32 = ((96 : ℝ) : EReal) := by
  simp [Ideal.ofBits, Ideal.ieee, -EReal.coe_mul]; norm_num

/-- The f32 pattern 0x40000000 is 2. -/
theorem ofBits_two : Ideal.ofBits .f32 0x40000000#32 = ((2 : ℝ) : EReal) := by
  simp [Ideal.ofBits, Ideal.ieee, -EReal.coe_mul]; norm_num

/-- The scale of the scores, one over the root of 96. -/
def scale : ℝ := 1 / Real.sqrt 96

/-- The scale, as a host program computes it. -/
theorem div_one_sqrt : Ideal.div 1 (Ideal.sqrt ((96 : ℝ) : EReal)) = (scale : EReal) := by
  rw [Ideal.sqrt_coe, if_neg (by norm_num), Ideal.div_coe (by positivity), one_mul]; rfl

/-- The scale of the base-2 scores, as a host program computes it. -/
theorem div_scale_log : Ideal.div (scale : EReal) (Ideal.log ((2 : ℝ) : EReal)) = ((scale / Real.log 2 : ℝ) : EReal) := by
  rw [Ideal.log_coe, if_neg (by norm_num), Ideal.div_coe (Real.log_pos (by norm_num)).ne', ← EReal.coe_mul, mul_one_div]

/-- An extended real whose absolute value is below plus infinity is a real. -/
theorem real_of_abs_lt (x : EReal) (h : max x (-x) < ⊤) : ∃ r : ℝ, x = r := by
  induction x with
  | bot => simp at h
  | coe r => exact ⟨r, rfl⟩
  | top => simp at h

/-- A sum over the 4352 keys, chunk by chunk of 256. -/
theorem sum_chunks (f : Fin 4352 → EReal) :
    ∑ c ∈ Finset.range 17, ∑ t : Fin 256, f ⟨256 * (c % 17) + t, by have := t.isLt; omega⟩ = ∑ k, f k := by
  rw [Finset.sum_range, ← Fintype.sum_prod_type']
  refine Fintype.sum_equiv (finProdFinEquiv (m := 17) (n := 256)) _ _ fun p => congrArg f (Fin.ext ?_)
  have := p.1.isLt
  simp only [finProdFinEquiv_apply_val]
  omega

end Cert.Softmax

end
-- ==== Proof.HeadValue.lean ====
/-
  The block of one head of the attention call at an index, on the extended reals.
-/
module

public import proofs.«01_k».proof.Proof.Chunks
public import proofs.«01_k».proof.Proof.OnlineSoftmax
public import Idealize.ShloMosaic.Lib.Pointwise

@[expose] public section

set_option maxRecDepth 16384

noncomputable section

namespace Cert.KernelIdeal.Attn

open Idealize.ShloMosaic Idealize.ShloMosaic.TcCoe
open Cert.KernelIdeal Cert.KernelIdeal.Gen

/-- A score is the product of a query and a key over the 128 lanes. -/
theorem score_apply (q : FVec Ideal S512x128 .bf16) (kc : Vec Ideal S1x256x128 .bf16) (r : Fin 512) (t : Fin 256) :
    score q kc (ix2 r t) = ∑ d : Fin 128, q (ix2 r d) * kc (ix3 0 t d) := by
  pointwise [score]

/-- The running row maximum at a row. -/
theorem maxAt_succ_apply (q : FVec Ideal S512x128 .bf16) (K : ℕ → Vec Ideal S1x256x128 .bf16) (n : ℕ) (r : Fin 512) :
    maxAt q K (n + 1) (ix2 r 0)
      = max (maxAt q K n (ix2 r 0)) (Finset.univ.fold max ⊥ fun t : Fin 256 => score q (K n) (ix2 r t)) := by
  show maxNext q (maxAt q K n) (K n) (ix2 r 0) = _
  pointwise [maxNext]
  rw [Softmax.ofBits_neg_infinity]

/-- The accumulator at a row and a lane. -/
theorem accAt_succ_apply (q : FVec Ideal S512x128 .bf16) (K V : ℕ → Vec Ideal S1x256x128 .bf16) (n : ℕ) (r : Fin 512)
    (l : Fin 128) :
    accAt q K V (n + 1) (ix2 r l)
      = accAt q K V n (ix2 r l) * Ideal.exp2 (maxAt q K n (ix2 r 0) - maxAt q K (n + 1) (ix2 r 0))
        + ∑ t : Fin 256, Ideal.exp2 (score q (K n) (ix2 r t) - maxAt q K (n + 1) (ix2 r 0)) * V n (ix3 0 t l) := by
  show accNext q (maxAt q K n) (maxAt q K (n + 1)) (accAt q K V n) (K n) (V n) (ix2 r l) = _
  generalize maxAt q K (n + 1) = M'
  pointwise [accNext, weight]
  rfl

/-- What a head stores, at a row and a lane. -/
theorem headOut_apply (a : FVec Ideal S512x128 .f32) (r : Fin 512) (l : Fin 128) :
    headOut a (ix3 0 r l) = a (ix2 r l) * Ideal.div 1 (a (ix2 r 64)) := by
  pointwise [headOut]

/-- A head's block at a row and a lane is the softmax-weighted sum of the values at that lane, where the base-2 scores of
    the row are finite and lane 64 of the values is one. -/
theorem headOut_eq (q : FVec Ideal S512x128 .bf16) (K V : ℕ → Vec Ideal S1x256x128 .bf16) (r : Fin 512) (l : Fin 128)
    (x y : Fin 4352 → ℝ) (ν : ℝ) (v : Fin 4352 → EReal)
    (hs : ∀ (c : ℕ) (t : Fin 256), score q (K c) (ix2 r t) = x ⟨256 * (c % 17) + t, by have := t.isLt; omega⟩)
    (hv : ∀ (c : ℕ) (t : Fin 256), V c (ix3 0 t l) = v ⟨256 * (c % 17) + t, by have := t.isLt; omega⟩)
    (h1 : ∀ (c : ℕ) (t : Fin 256), V c (ix3 0 t 64) = (1 : EReal))
    (hy : ∀ k, y k = x k * Real.log 2) :
    headOut (accAt q K V 17) (ix3 0 r l)
      = ∑ k, v k * Ideal.div (Real.exp (y k - ν) : ℝ) (∑ j, ((Real.exp (y j - ν) : ℝ) : EReal)) := by
  have h0 : maxAt q K 0 (ix2 r 0) = (⊥ : EReal) := Softmax.ofBits_neg_infinity
  choose μ hμ using Softmax.running_max (fun n t => score q (K n) (ix2 r t)) _ hs (fun n => maxAt q K n (ix2 r 0)) h0
    (fun n => maxAt_succ_apply q K n r)
  have hacc : ∀ (l : Fin 128) (w : Fin 4352 → EReal)
      (_ : ∀ (c : ℕ) (t : Fin 256), V c (ix3 0 t l) = w ⟨256 * (c % 17) + t, by have := t.isLt; omega⟩),
      accAt q K V 17 (ix2 r l) = ∑ k, ((Real.rpow 2 (x k - μ 16) : ℝ) : EReal) * w k := fun l w hw => by
    have h := Softmax.running_acc (fun n t => score q (K n) (ix2 r t)) _ hs (fun n t => V n (ix3 0 t l))
      (fun n => maxAt q K n (ix2 r 0)) (fun n => accAt q K V n (ix2 r l)) μ hμ Ideal.ofBits_zero_f32
      (fun n => accAt_succ_apply q K V n r l) 16
    refine h.trans ?_
    simp only [hw]
    exact Softmax.sum_chunks fun k => ((Real.rpow 2 (x k - μ 16) : ℝ) : EReal) * w k
  rw [headOut_apply, hacc l v hv, hacc 64 (fun _ => 1) h1]
  exact Softmax.quotient_eq x y (μ 16) ν hy v

end Cert.KernelIdeal.Attn

end
-- ==== Proof.RefValue.lean ====
/-
  The reference at an index: the softmax of a row of scores over all 4352 keys, and the value of the reference's result.
-/
module

public import proofs.«01_k».proof.Proof.Gen.ReferenceIdeal.Read
public import proofs.«01_k».proof.Proof.OnlineSoftmax
public import Idealize.ShloMosaic.Lib.Pointwise
public import Idealize.ShloMosaic.Lib.Tactic.CleanTypes

@[expose] public section

set_option maxRecDepth 16384

noncomputable section

namespace Cert.Softmax

open Idealize.ShloMosaic

/-- The queries' array. -/
abbrev Queries := FVec Ideal ⟨4, ![8, 4096, 8, 96]⟩ .f32
/-- The keys' array. -/
abbrev Keys := FVec Ideal ⟨4, ![8, 4352, 8, 96]⟩ .f32

/-- The score of a query against a key. -/
def scoreOf (q : Queries) (k : Keys) (b : Fin 8) (n : Fin 4096) (h : Fin 8) (j : Fin 4352) : EReal :=
  (∑ d : Fin 96, q (ix4 b n h d) * k (ix4 b j h d)) * Ideal.div 1 (Ideal.sqrt ((96 : ℝ) : EReal))

/-- The largest score of a row. -/
def rowMax (q : Queries) (k : Keys) (b : Fin 8) (n : Fin 4096) (h : Fin 8) : EReal :=
  max ⊥ (Finset.univ.fold max ⊥ fun j => scoreOf q k b n h j)

/-- The softmax weight of a key. -/
def weightOf (q : Queries) (k : Keys) (b : Fin 8) (n : Fin 4096) (h : Fin 8) (j : Fin 4352) : EReal :=
  Ideal.div (Ideal.exp (scoreOf q k b n h j - rowMax q k b n h))
    (∑ i, Ideal.exp (scoreOf q k b n h i - rowMax q k b n h))

end Cert.Softmax

namespace Cert.ReferenceIdeal.Read

open Idealize.ShloMosaic Cert.ReferenceIdeal Cert.ReferenceIdeal.Value Cert.Softmax

/-- The scaled scores of the reference. -/
theorem v4_apply (q : Queries) (k : Keys) (b : Fin 8) (h : Fin 8) (n : Fin 4096) (j : Fin 4352) :
    val_main_v4 (F := Ideal) q k (ix4 b h n j) = scoreOf q k b n h j := by
  pointwise [val_main_v4, val_main_v3, val_main_v2, val_main_v1, val_main_v0, val_main_cst, val_main_cst_0]
  rw [ofBits_ninety_six]; rfl

/-- The maximum over the keys, of any array of scores. -/
theorem max_apply (s : FVec Ideal S8x8x4096x4352 .f32) (b : Fin 8) (h : Fin 8) (n : Fin 4096) :
    Host.reduce FloatOps.maximumf s (constant (F := Ideal) S_ .f32 0xFF800000#32) Gen.reducesTo_S8x8x4096x4352_S8x8x4096_d3
        Gen.h_S_ (ix3 b h n)
      = Finset.univ.fold max ⊥ fun j : Fin 4352 => s (ix4 b h n j) := by
  pointwise
  rw [ofBits_neg_infinity]

/-- The row maximum of the reference. -/
theorem v7_apply (q : Queries) (k : Keys) (b : Fin 8) (h : Fin 8) (n : Fin 4096) :
    val_main_v7 (F := Ideal) q k (ix3 b h n) = rowMax q k b n h := by
  rw [val_main_v7_apply]
  unfold rowMax
  refine congrArg₂ max ?_ ((max_apply (val_main_v4 (F := Ideal) q k) b h n).trans ?_)
  · rw [val_main_v6_apply]; exact ofBits_neg_infinity
  · exact congrArg (Finset.fold max ⊥ · Finset.univ) (funext fun j => v4_apply q k b h n j)

/-- The softmax weights of the reference. -/
theorem v15_apply (q : Queries) (k : Keys) (b : Fin 8) (h : Fin 8) (n : Fin 4096) (j : Fin 4352) :
    val_main_v15 (F := Ideal) q k (ix4 b h n j) = weightOf q k b n h j := by
  unfold val_main_v15 val_main_v14 val_main_v13 val_main_v12 val_main_v11 val_main_v10 val_main_v9 val_main_v8 val_main_cst_3
  generalize hs : val_main_v4 (F := Ideal) q k = s
  generalize hm : val_main_v7 (F := Ideal) q k = m
  have hs' : ∀ j, s (ix4 b h n j) = scoreOf q k b n h j := fun j => by rw [← hs, v4_apply]
  have hm' : m (ix3 b h n) = rowMax q k b n h := by rw [← hm, v7_apply]
  clean_types
  pointwise
  simp only [hs', hm']
  rfl

/-- The reference's result at an index. -/
theorem v19_apply (q : Queries) (k : Keys) (v : FVec Ideal S8x4352x8x64 .f32) (b : Fin 8) (n : Fin 4096) (l : Fin 512) :
    val_main_v19 (F := Ideal) q k v (ix3 b n l)
      = ∑ j, v (ix4 b j ⟨l / 64, by have := l.isLt; omega⟩ ⟨l % 64, Nat.mod_lt _ (by decide)⟩)
          * weightOf q k b n ⟨l / 64, by have := l.isLt; omega⟩ j := by
  unfold val_main_v19 val_main_v18 val_main_v17 val_main_v16
  generalize hw : val_main_v15 (F := Ideal) q k = w
  have hw' : ∀ h j, w (ix4 b h n j) = weightOf q k b n h j := fun h j => by rw [← hw, v15_apply]
  clean_types
  pointwise
  simp only [hw']

end Cert.ReferenceIdeal.Read

end
-- ==== Proof.Entry.lean ====
/-
  The three arrays that the attention call is entered with, at an index: 128 lanes a head, the queries scaled to base-2
  scores, zeros behind queries and keys, a lane of ones behind the values.
-/
module

public import proofs.«01_k».proof.Proof.HeadValue
public import proofs.«01_k».proof.Proof.RefValue
public import Idealize.ShloMosaic.Lib.StableHlo.ReadAt

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The queries of the program's arguments. -/
abbrev argQ : Softmax.Queries := m ((c : Thread nD τ).loc main_arg0)
/-- The keys of the program's arguments. -/
abbrev argK : Softmax.Keys := m ((c : Thread nD τ).loc main_arg1)
/-- The values of the program's arguments. -/
abbrev argV : FVec Ideal S8x4352x8x64 .f32 := m ((c : Thread nD τ).loc main_arg2)

/-- The queries as the call takes them. -/
theorem entryQ (b : Fin 8) (n : Fin 4096) (l : Fin 1024) :
    (V m c main_v15 : FVec Ideal S8x4096x1024 .bf16) (ix3 b n l)
      = if h : (l : ℕ) % 128 < 96 then
          argQ m c (ix4 b n ⟨l / 128, by have := l.isLt; omega⟩ ⟨l % 128, h⟩) * ((Softmax.scale / Real.log 2 : ℝ) : EReal)
        else 0 := by
  unfold V
  after_reads_at
  split
  · after_reads_at
    rw [Softmax.ofBits_ninety_six, Softmax.ofBits_two, Softmax.div_one_sqrt, Softmax.div_scale_log]
  · after_reads_at

/-- The keys as the call takes them. -/
theorem entryK (b : Fin 8) (n : Fin 4352) (l : Fin 1024) :
    (V m c main_v17 : FVec Ideal S8x4352x1024 .bf16) (ix3 b n l)
      = if h : (l : ℕ) % 128 < 96 then argK m c (ix4 b n ⟨l / 128, by have := l.isLt; omega⟩ ⟨l % 128, h⟩) else 0 := by
  unfold V
  after_reads_at
  split
  · after_reads_at
  · after_reads_at

/-- The values as the call takes them. -/
theorem entryV (b : Fin 8) (n : Fin 4352) (l : Fin 1024) :
    (V m c main_v19 : FVec Ideal S8x4352x1024 .bf16) (ix3 b n l)
      = if h : (l : ℕ) % 128 < 64 then argV m c (ix4 b n ⟨l / 128, by have := l.isLt; omega⟩ ⟨l % 128, h⟩)
        else if (l : ℕ) % 128 = 64 then 1 else 0 := by
  unfold V
  after_reads_at
  split
  · after_reads_at
  · after_reads_at
    split <;> split <;> first | rfl | omega

end Cert.KernelIdeal.Attn

end
-- ==== Proof.HeadBlock.lean ====
/-
  A head's block from the blocks of queries, keys and values that the body is given: where the queries are the scaled
  queries of the softmax, both padded with zeros, the head's block is the softmax-weighted sum of the values.
-/
module

public import proofs.«01_k».proof.Proof.HeadValue
public import proofs.«01_k».proof.Proof.RefValue

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- Lane `l` of head `h` (of 4) in a block. -/
abbrev lane (h : ℕ) (l : Fin 128) : Fin 512 := ⟨128 * (h % 4) + l, by have := l.isLt; omega⟩

/-- A chunk's element in its block. -/
theorem chunkOf_apply (x : Vec Ideal S1x4352x512 .bf16) (h c : ℕ) (t : Fin 256) (l : Fin 128) :
    chunkOf x h c (ix3 0 t l) = x (ix3 0 ⟨256 * (c % 17) + t, by have := t.isLt; omega⟩ (lane h l)) :=
  View.ld_unit_apply_of x _ _ _ _ _ fun a => by fin_cases a <;> first | rfl | exact (Nat.zero_add _).symm

/-- A block of one row under a leading unit axis, read without it. -/
theorem unit_apply (w : Vec Ideal S1x512x128 .bf16) (r : Fin 512) (l : Fin 128) :
    shapeCast S512x128 w shapeCasts_S1x512x128_S512x128 (ix2 r l) = w (ix3 0 r l) := by
  pointwise

/-- A head's queries in their block. -/
theorem queryOf_apply (x : Vec Ideal S1x512x512 .bf16) (h : ℕ) (r : Fin 512) (l : Fin 128) :
    queryOf x h (ix2 r l) = x (ix3 0 r (lane h l)) :=
  (unit_apply _ r l).trans
    (View.ld_unit_apply_of x _ _ _ _ _ fun a => by fin_cases a <;> first | rfl | exact (Nat.zero_add _).symm)

/-- A sum over 128 lanes whose last 32 vanish. -/
theorem sum_lanes (f : Fin 128 → EReal) (h : ∀ l : Fin 128, 96 ≤ (l : ℕ) → f l = 0) :
    ∑ l, f l = ∑ d : Fin 96, f ⟨d, by have := d.isLt; omega⟩ := by
  rw [show (∑ l, f l) = ∑ l : Fin (96 + 32), f l from rfl, Fin.sum_univ_add]
  rw [Finset.sum_eq_zero (s := Finset.univ (α := Fin 32)) fun l _ => h _ (by simp), add_zero]
  rfl

/-- The softmax of real scores, shifted by a real. -/
theorem weightOf_real (q : Softmax.Queries) (k : Softmax.Keys) (b : Fin 8) (n : Fin 4096) (h : Fin 8) (y : Fin 4352 → ℝ)
    (hy : ∀ j, Softmax.scoreOf q k b n h j = y j) :
    ∃ ν : ℝ, ∀ j, Softmax.weightOf q k b n h j
      = Ideal.div (Real.exp (y j - ν) : ℝ) (∑ i, ((Real.exp (y i - ν) : ℝ) : EReal)) := by
  obtain ⟨ν, hν⟩ := Softmax.fold_max_real y
  have hm : Softmax.rowMax q k b n h = ν := by
    unfold Softmax.rowMax
    rw [funext hy, hν, max_eq_right bot_le]
  refine ⟨ν, fun j => ?_⟩
  unfold Softmax.weightOf
  rw [hm]
  simp only [hy, ← EReal.coe_sub, Ideal.exp_coe]

/-- A head's block is the softmax-weighted sum of the values. -/
theorem headBlock_eq (x0 : Vec Ideal S1x512x512 .bf16) (x1 x2 : Vec Ideal S1x4352x512 .bf16) (h : ℕ) (r : Fin 512)
    (q : Softmax.Queries) (k : Softmax.Keys) (b : Fin 8) (n : Fin 4096) (g : Fin 8)
    (hq : ∀ i, ∃ s : ℝ, q i = s) (hk : ∀ i, ∃ s : ℝ, k i = s)
    (h0 : ∀ l : Fin 128, x0 (ix3 0 r (lane h l))
      = if hl : (l : ℕ) < 96 then q (ix4 b n g ⟨l, hl⟩) * ((Softmax.scale / Real.log 2 : ℝ) : EReal) else 0)
    (h1 : ∀ (j : Fin 4352) (l : Fin 128), x1 (ix3 0 j (lane h l))
      = if hl : (l : ℕ) < 96 then k (ix4 b j g ⟨l, hl⟩) else 0)
    (h2 : ∀ j : Fin 4352, x2 (ix3 0 j (lane h 64)) = (1 : EReal)) (l : Fin 128) :
    headBlock x0 x1 x2 h (ix3 0 r l)
      = ∑ j, x2 (ix3 0 j (lane h l)) * Softmax.weightOf q k b n g j := by
  choose q' hq' using hq
  choose k' hk' using hk
  have hy : ∀ j, Softmax.scoreOf q k b n g j
      = (((∑ d : Fin 96, q' (ix4 b n g d) * k' (ix4 b j g d)) * Softmax.scale : ℝ) : EReal) := fun j => by
    unfold Softmax.scoreOf
    rw [Softmax.div_one_sqrt, EReal.coe_mul, Softmax.coe_sum]
    simp only [hq', hk', EReal.coe_mul]
  obtain ⟨ν, hν⟩ := weightOf_real q k b n g _ hy
  simp only [hν]
  refine headOut_eq (queryOf x0 h) (chunkOf x1 h) (chunkOf x2 h) r l
    (fun j => ∑ d : Fin 96, q' (ix4 b n g d) * (Softmax.scale / Real.log 2) * k' (ix4 b j g d)) _ ν
    (fun j => x2 (ix3 0 j (lane h l))) (fun c t => ?_) (fun c t => chunkOf_apply x2 h c t l)
    (fun c t => (chunkOf_apply x2 h c t 64).trans (h2 _)) fun j => ?_
  · rw [score_apply, sum_lanes, Softmax.coe_sum]
    · refine Finset.sum_congr rfl fun d _ => ?_
      rw [queryOf_apply, chunkOf_apply, h0, h1, dif_pos d.isLt, dif_pos d.isLt, hq', hk', EReal.coe_mul, EReal.coe_mul]
    · intro d hd
      rw [queryOf_apply, h0, dif_neg (Nat.not_lt.2 hd), zero_mul]
  · rw [Finset.sum_mul, Finset.sum_mul]
    refine Finset.sum_congr rfl fun d _ => ?_
    have : Real.log 2 ≠ 0 := (Real.log_pos (by norm_num)).ne'
    field_simp

end Cert.KernelIdeal.Attn

end
-- ==== Proof.KernelValue.lean ====
/-
  The call's result array: at a row and a lane, the softmax-weighted sum of the entered values at that lane.
-/
module

public import proofs.«01_k».proof.Proof.Entry
public import proofs.«01_k».proof.Proof.HeadBlock
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The queries' block of a grid point. -/
theorem idx0 : ∀ t : Fin cfg0.N, win0_0.index t = ![(t : ℕ) / 16, (t : ℕ) % 8, (t : ℕ) / 8 % 2] := by decide +kernel
/-- The keys' block of a grid point. -/
theorem idx1 : ∀ t : Fin cfg0.N, win0_1.index t = ![(t : ℕ) / 16, 0, (t : ℕ) / 8 % 2] := by decide +kernel
/-- The values' block of a grid point. -/
theorem idx2 : ∀ t : Fin cfg0.N, win0_2.index t = ![(t : ℕ) / 16, 0, (t : ℕ) / 8 % 2] := by decide +kernel
/-- The result's block of a grid point. -/
theorem idx3 : ∀ t : Fin cfg0.N, win0_3.index t = ![(t : ℕ) / 16, (t : ℕ) % 8, (t : ℕ) / 8 % 2] := by decide +kernel

/-- The queries that the call is entered with. -/
def entQ : FVec Ideal S8x4096x1024 .bf16 := V m c main_v15
/-- The keys that the call is entered with. -/
def entK : FVec Ideal S8x4352x1024 .bf16 := V m c main_v17
/-- The values that the call is entered with. -/
def entV : FVec Ideal S8x4352x1024 .bf16 := V m c main_v19

/-- The entered values, weighted, at a batch entry, a row and a lane. -/
def resultAt (b : Fin 8) (n : Fin 4096) (l : Fin 1024) : EReal :=
  ∑ j : Fin 4352, entV m c (ix3 b j l)
    * Softmax.weightOf (argQ m c) (argK m c) b n ⟨(l : ℕ) / 128, by have := l.isLt; omega⟩ j

/-- The entered values, weighted. -/
def result : FVec Ideal S8x4096x1024 .bf16 := fun i => resultAt m c (i 0) (i 1) (i 2)

/-- The batch entry of a grid point. -/
abbrev pb (t : Fin cfg0.N) : Fin 8 := ⟨(t : ℕ) / 16, by have : (t : ℕ) < 128 := t.isLt; omega⟩
/-- A row of a grid point. -/
abbrev pn (t : Fin cfg0.N) (r : Fin 512) : Fin 4096 := ⟨512 * ((t : ℕ) % 8) + r, by have := r.isLt; omega⟩
/-- A lane of a grid point. -/
abbrev pl (t : Fin cfg0.N) (l : Fin 512) : Fin 1024 := ⟨512 * ((t : ℕ) / 8 % 2) + l, by have := l.isLt; omega⟩

/-- A block of queries at an index. -/
theorem readQ (A : FVec Ideal S8x4096x1024 .bf16) (t : Fin cfg0.N) (r l : Fin 512) :
    (win0_0.blk t).view.read (Elt Ideal) A (ix3 0 r l) = A (ix3 (pb t) (pn t r) (pl t l)) := by
  blk_ext [idx0 t]
/-- A block of keys at an index. -/
theorem readK (A : FVec Ideal S8x4352x1024 .bf16) (t : Fin cfg0.N) (j : Fin 4352) (l : Fin 512) :
    (win0_1.blk t).view.read (Elt Ideal) A (ix3 0 j l) = A (ix3 (pb t) j (pl t l)) := by
  blk_ext [idx1 t]
/-- A block of values at an index. -/
theorem readV (A : FVec Ideal S8x4352x1024 .bf16) (t : Fin cfg0.N) (j : Fin 4352) (l : Fin 512) :
    (win0_2.blk t).view.read (Elt Ideal) A (ix3 0 j l) = A (ix3 (pb t) j (pl t l)) := by
  blk_ext [idx2 t]

/-- A head's block at a grid point. -/
theorem head_point (hq : ∀ i, ∃ s : ℝ, argQ m c i = s) (hk : ∀ i, ∃ s : ℝ, argK m c i = s) (t : Fin cfg0.N) (h : ℕ)
    (r : Fin 512) (l : Fin 128) (x0 : FVec Ideal S1x512x512 .bf16) (x1 x2 : FVec Ideal S1x4352x512 .bf16)
    (h0 : ∀ r l, x0 (ix3 0 r l) = entQ m c (ix3 (pb t) (pn t r) (pl t l)))
    (h1 : ∀ j l, x1 (ix3 0 j l) = entK m c (ix3 (pb t) j (pl t l)))
    (h2 : ∀ j l, x2 (ix3 0 j l) = entV m c (ix3 (pb t) j (pl t l))) :
    headBlock (F := Ideal) x0 x1 x2 h (ix3 0 r l) = resultAt m c (pb t) (pn t r) (pl t (lane h l)) := by
  have hl (l : Fin 128) : ((pl t (lane h l) : Fin 1024) : ℕ) % 128 = l := by
    have := l.isLt
    show (512 * ((t : ℕ) / 8 % 2) + (128 * (h % 4) + (l : ℕ))) % 128 = l
    omega
  have hg (l : Fin 128) : ((pl t (lane h l) : Fin 1024) : ℕ) / 128 = 4 * ((t : ℕ) / 8 % 2) + h % 4 := by
    have := l.isLt
    show (512 * ((t : ℕ) / 8 % 2) + (128 * (h % 4) + (l : ℕ))) / 128 = _
    omega
  rw [headBlock_eq x0 x1 x2 h r (argQ m c) (argK m c) (pb t) (pn t r) ⟨4 * ((t : ℕ) / 8 % 2) + h % 4, by omega⟩ hq hk]
  · unfold resultAt
    refine Finset.sum_congr rfl fun j _ => ?_
    rw [h2]
    simp only [hg]
  · intro l
    rw [h0]
    refine (entryQ m c _ _ _).trans ?_
    simp only [hl, hg]
  · intro j l
    rw [h1]
    refine (entryK m c _ _ _).trans ?_
    simp only [hl, hg]
  · intro j
    rw [h2]
    refine (entryV m c _ _ _).trans ?_
    rw [dif_neg (by rw [hl]; decide), if_pos (by rw [hl]; rfl)]

/-- A head's block at an index whose place among the lanes is known. -/
theorem piece_apply (f : Fin 512 → Fin 512 → EReal) (h : ℕ) (g : FVec Ideal S1x512x128 .bf16)
    (hg : ∀ r l, g (ix3 0 r l) = f r (lane h l)) (z : S1x512x128.Idx) (a b : Fin 512) (ha : (a : ℕ) = (z 1 : Fin 512))
    (hb : (b : ℕ) = 128 * (h % 4) + (z 2 : Fin 128)) : g z = f a b := by
  have e : z = ix3 0 (z 1) (z 2) := by
    funext i
    fin_cases i
    · exact Subsingleton.elim (α := Fin 1) _ _
    · rfl
    · rfl
  refine (congrArg g e).trans ((hg _ _).trans ?_)
  exact congrArg₂ f (Fin.ext ha.symm) (Fin.ext hb.symm)

/-- The four heads' blocks, side by side. -/
theorem heads_apply (x0 : FVec Ideal S1x512x512 .bf16) (x1 x2 : FVec Ideal S1x4352x512 .bf16) (f : Fin 512 → Fin 512 → EReal)
    (hp : ∀ h r l, headBlock (F := Ideal) x0 x1 x2 h (ix3 0 r l) = f r (lane h l)) (y : S1x512x512.Idx) :
    View.canon (Val := Elt Ideal) (e := .bf16) [⟨r0_54, headBlock (F := Ideal) x0 x1 x2 3⟩, ⟨r0_36, headBlock (F := Ideal) x0 x1 x2 2⟩,
      ⟨r0_18, headBlock (F := Ideal) x0 x1 x2 1⟩, ⟨r0_0, headBlock (F := Ideal) x0 x1 x2 0⟩] y = f (y 1) (y 2) := by
  canon_tiles y h
  · exact piece_apply f 3 _ (hp 3) _ _ _ h1 h2
  · exact piece_apply f 2 _ (hp 2) _ _ _ h1 h2
  · exact piece_apply f 1 _ (hp 1) _ _ _ h1 h2
  · exact piece_apply f 0 _ (hp 0) _ _ _ h1 (h2.trans (Nat.zero_add _).symm)

/-- The result array of the call. -/
theorem result_eq (hq : ∀ i, ∃ s : ℝ, argQ m c i = s) (hk : ∀ i, ∃ s : ℝ, argK m c i = s) :
    (dats m 0 c).arrAt 3 (cfgs 0).N = result m c := by
  refine (dats m 0 c).arrAt_eq_of_covers 3 _ (by decide +kernel) fun t hf y => ?_
  blk_simp
  rw [after0_3, out_eq]
  refine (heads_apply _ _ _ (fun r l => resultAt m c (pb t) (pn t r) (pl t l)) (fun h r l =>
    head_point m c hq hk t h r l _ _ _ (readQ (entQ m c) t) (readK (entK m c) t) (readV (entV m c) t)) y).trans ?_
  have e : (win0_3.blk t).view.emb y = ix3 (pb t) (pn t (y 1)) (pl t (y 2)) := by blk_ext [idx3 t]
  exact (congrArg (result m c) e).symm

end Cert.KernelIdeal.Attn

end
-- ==== Proof.Tail.lean ====
/-
  The result of the kernel's program, from the call's result array: the first 64 lanes of every head.
-/
module

public import proofs.«01_k».proof.Proof.KernelValue

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- The first 64 lanes of every head. -/
def lanes (a : FVec Ideal S8x4096x1024 .bf16) : FVec Ideal S8x4096x512 .bf16 :=
  shapeCast S8x4096x512 (extractStridedSlice S8x4096x8x64 ![0, 0, 0, 0]
    (shapeCast S8x4096x8x128 a shapeCasts_S8x4096x1024_S8x4096x8x128) slices_S8x4096x8x128_S8x4096x8x64_0_0_0_0)
    shapeCasts_S8x4096x8x64_S8x4096x512

/-- The first 64 lanes of every head, at an index. -/
theorem lanes_apply (a : FVec Ideal S8x4096x1024 .bf16) (b : Fin 8) (n : Fin 4096) (l : Fin 512) :
    lanes a (ix3 b n l) = a (ix3 b n ⟨(l : ℕ) / 64 * 128 + (l : ℕ) % 64, by have := l.isLt; omega⟩) := by
  pointwise [lanes]

variable (m : (ℓ : Loc nD τ sig) → Buf (Elt Ideal) ℓ) (c : Dev nD)

/-- The program's result after the run. -/
theorem tail_eq : Pipeline.afterTail₀ cfgs (dats m) 0 (V0 m) [hostOps1] c main_v23
    = lanes ((dats m 0 c).arrAt 3 (cfgs 0).N) := by
  unfold Pipeline.afterTail₀
  generalize hW : Pipeline.withArrays (cfgs 0).spec c (V0 m c) (fun w => (dats m 0 c).arrAt w (cfgs 0).N) = W
  after_reads_simp
  have h : W (Proc.devRef .tc main_v20) = (dats m 0 c).arrAt 3 (cfgs 0).N :=
    (congrFun hW.symm _).trans (Pipeline.withArrays_arr (cfgs 0).spec (by decide) c (V0 m c) _ 3)
  rw [h]
  rfl

/-- The first 64 lanes of every head are the reference's result. -/
theorem value_eq : lanes (result m c) = Cert.ReferenceIdeal.Read.val_main_v19 (F := Ideal) (argQ m c) (argK m c) (argV m c) := by
  refine funext fun i => ?_
  obtain ⟨b, n, l, rfl⟩ : ∃ (b : Fin 8) (n : Fin 4096) (l : Fin 512), i = ix3 b n l :=
    ⟨i 0, i 1, i 2, by funext a; fin_cases a <;> rfl⟩
  have hl := l.isLt
  refine (lanes_apply (result m c) b n l).trans (Eq.trans ?_
    (Cert.ReferenceIdeal.Read.v19_apply (argQ m c) (argK m c) (argV m c) b n l).symm)
  show resultAt m c b n ⟨(l : ℕ) / 64 * 128 + (l : ℕ) % 64, _⟩ = _
  unfold resultAt
  refine Finset.sum_congr rfl fun j _ => ?_
  have h1 : ((l : ℕ) / 64 * 128 + (l : ℕ) % 64) % 128 = (l : ℕ) % 64 := by omega
  have h2 : ((l : ℕ) / 64 * 128 + (l : ℕ) % 64) / 128 = (l : ℕ) / 64 := by omega
  refine congrArg₂ (· * ·) ((entryV m c _ _ _).trans ?_) ?_
  · rw [dif_pos (by show ((l : ℕ) / 64 * 128 + (l : ℕ) % 64) % 128 < 64; omega)]
    simp only [h1, h2]
  · simp only [h2]

end Cert.KernelIdeal.Attn

end
-- ==== Proof.Claims.lean ====
/-
  The claim: where queries and keys are finite, kernel and reference leave one result.
-/
module

public import proofs.«01_k».proof.Defs
public import proofs.«01_k».proof.Proof.Tail
public import proofs.«01_k».proof.Proof.Gen.ReferenceIdeal.Run
public import Idealize.ShloMosaic.Lib.Claim

@[expose] public section

set_option maxRecDepth 16384

noncomputable section

namespace Cert.Pre_finite_queries_and_keys

/-- The broadcasts that the precondition takes. -/
theorem facts : Facts := ⟨by decide, by decide⟩

end Cert.Pre_finite_queries_and_keys

namespace Cert.Proof

open Idealize.ShloMosaic Idealize.ShloMosaic.TcCoe Idealize.ShloMosaic.Tactic Idealize.SL.Sem
attribute [local instance] Cert.KernelIdeal.Gen.facts Cert.ReferenceIdeal.Gen.facts Cert.Pre_finite_queries_and_keys.facts

/-- Where the comparison of absolute values with plus infinity says yes, the element is a real. -/
theorem real_of_test {s : Shape} (x y : FVec Ideal s .f32) (i : s.Idx) (hy : y i = Ideal.ofBits .f32 0x7F800000#32)
    (h : cmpf .olt (Host.absf x) y i = 1#1) : ∃ r : ℝ, x i = r := by
  refine Cert.Softmax.real_of_abs_lt _ ?_
  by_contra hn
  have e : cmpf .olt (Host.absf x) y i = 0#1 := by
    show Ideal.cmp .olt (max (x i) (-x i)) (y i) = 0#1
    rw [hy, Cert.Softmax.ofBits_infinity, Ideal.cmp_olt, decide_eq_false hn]
    rfl
  rw [e] at h
  exact absurd h (by decide)

/-- Under the precondition every query and every key is a real. -/
theorem real_of_pre (m : (ℓ : Loc Cert.KernelIdeal.nD Cert.KernelIdeal.τ Cert.KernelIdeal.sig) → Buf (Elt Ideal) ℓ)
    (hpre : Cert.Pre_KernelIdeal_finite_queries_and_keys m) (c : Dev Cert.KernelIdeal.nD) :
    (∀ i, ∃ s : ℝ, Cert.KernelIdeal.Attn.argQ m c i = s) ∧ (∀ i, ∃ s : ℝ, Cert.KernelIdeal.Attn.argK m c i = s) := by
  obtain ⟨hq, hk⟩ := hpre c
  exact ⟨fun i => real_of_test _ _ _ rfl (congrFun hq i), fun i => real_of_test _ _ _ rfl (congrFun hk i)⟩

/-- The kernel leaves the reference's result. -/
theorem kernel_run (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite_queries_and_keys m) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v23)
          = Cert.ReferenceIdeal.Read.val_main_v19 (F := Ideal) (Cert.KernelIdeal.Attn.argQ m c) (Cert.KernelIdeal.Attn.argK m c)
              (Cert.KernelIdeal.Attn.argV m c)) := by
  run_from Cert.KernelIdeal.Gen.run_main m g
  obtain ⟨hq, hk⟩ := real_of_pre m hpre c
  rw [Cert.KernelIdeal.Attn.tail_eq, Cert.KernelIdeal.Attn.result_eq m c hq hk]
  exact Cert.KernelIdeal.Attn.value_eq m c

/-- Where queries and keys are finite, the kernel and the reference leave one result. -/
theorem algebraic : Cert.algebraic_KernelIdeal_ReferenceIdeal_pre_finite_queries_and_keys := by
  pair_intro
  · run_from kernel_run m g hpre & Cert.KernelIdeal.Gen.frame m g
  · run_from Cert.ReferenceIdeal.Value.run m' g'
    exact Cert.ReferenceIdeal.Read.val_main_v19_eq _ _ _

end Cert.Proof

end
-- ==== Proof.HyenaRow.lean ====
/-
  The Hyena in-projection over the extended reals: a normalised and modulated row, its product with the weights, and
  the three-term convolution along the sequence. Then the reference read at an index.
-/
module

public import proofs.«01_k».proof.Proof.Claims
public import proofs.«01_k».proof.Proof.Gen.Reference3Ideal.Run
public import Idealize.ShloMosaic.Lib.Pointwise

@[expose] public section

set_option maxRecDepth 16384

noncomputable section

namespace Cert.Hyena

open Idealize.ShloMosaic

/-- A row divided by the root of its mean square, scaled by one plus `c`, shifted by `s`. -/
def normRow (x s c : Fin 1024 → EReal) (d : Fin 1024) : EReal :=
  x d * Ideal.rsqrt (Ideal.div (∑ e, x e * x e) (Ideal.ofBits .f32 0x44800000#32) + Ideal.ofBits .f32 0x358637BD#32)
    * (1 + c d) + s d

/-- The activations. -/
abbrev Acts := FVec Ideal ⟨3, ![8, 4096, 1024]⟩ .f32
/-- A shift or a scale. -/
abbrev Mods := FVec Ideal ⟨3, ![8, 1, 1024]⟩ .f32
/-- The projection's weights. -/
abbrev Weights := FVec Ideal ⟨2, ![1024, 3072]⟩ .f32
/-- The convolution's weights. -/
abbrev Taps := FVec Ideal ⟨2, ![3, 3072]⟩ .f32
/-- The convolution's bias. -/
abbrev Bias := FVec Ideal ⟨1, ![3072]⟩ .f32

/-- Row `l` of the sequence with one zero row before it and one after it. -/
def rowAt (x : Acts) (s c : Mods) (b : Fin 8) (l : ℕ) (d : Fin 1024) : EReal :=
  if h : 1 ≤ l ∧ l ≤ 4096 then
    normRow (fun e => x (ix3 b ⟨l - 1, by omega⟩ e)) (fun e => s (ix3 b 0 e)) (fun e => c (ix3 b 0 e)) d
  else 0

/-- That row's product with a column of the weights. -/
def prodAt (x : Acts) (s c : Mods) (w : Weights) (b : Fin 8) (l : ℕ) (q : Fin 3072) : EReal :=
  ∑ d : Fin 1024, rowAt x s c b l d * w (ix2 d q)

/-- The convolution of three neighbouring products. -/
def convAt (x : Acts) (s c : Mods) (w : Weights) (k : Taps) (a : Bias) (b : Fin 8) (n : ℕ) (q : Fin 3072) : EReal :=
  prodAt x s c w b n q * k (ix2 0 q) + prodAt x s c w b (1 + n) q * k (ix2 1 q) + prodAt x s c w b (2 + n) q * k (ix2 2 q)
    + a (ix1 q)

end Cert.Hyena

namespace Cert.Reference3Ideal.Read

open Idealize.ShloMosaic Idealize.ShloMosaic.TcCoe Cert.Reference3Ideal Cert.Reference3Ideal.Gen Cert.Hyena

/-- The reference's normalised and modulated activations. -/
def normed (x : Acts) (s c : Mods) : FVec Ideal S8x4096x1024 .f32 :=
  addf (mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S8x1x1024_S8x4096x1024_0_1_2
      (addf (broadcastInDim S8x1x1024 ![] bcast_S_S8x1x1024 (constant S_ .f32 0x3F800000#32)) c)))
    (broadcastInDim S8x4096x1024 ![0, 1, 2] bcast_S8x1x1024_S8x4096x1024_0_1_2 s)

/-- … at an index. -/
theorem normed_apply (x : Acts) (s c : Mods) (b : Fin 8) (n : Fin 4096) (d : Fin 1024) :
    normed x s c (ix3 b n d)
      = normRow (fun e => x (ix3 b n e)) (fun e => s (ix3 b 0 e)) (fun e => c (ix3 b 0 e)) d := by
  pointwise [normed]
  rfl

/-- The reference's products, with a zero row at either end. -/
def padded (y : FVec Ideal S8x4096x1024 .f32) (w : Weights) : FVec Ideal S8x4098x3072 .f32 :=
  pad S8x4098x3072 ![0, 1, 0] ![0, 1, 0] ![0, 0, 0]
    (Host.dotGeneral (F := Ideal) dot_S8x4096x1024_S1024x3072_S8x4096x3072_2_0_01_1_n_n none y w : FVec Ideal S8x4096x3072 .f32)
    (sitofp .f32 (constantI S_ 32 0#32)) pads_S8x4096x3072_S8x4098x3072_000_110_000 h_S_

/-- … at an index. -/
theorem padded_apply (y : FVec Ideal S8x4096x1024 .f32) (w : Weights) (b : Fin 8) (l : Fin 4098) (q : Fin 3072) :
    padded y w (ix3 b l q)
      = if h : 1 ≤ (l : ℕ) ∧ (l : ℕ) ≤ 4096 then ∑ d : Fin 1024, y (ix3 b ⟨l - 1, by omega⟩ d) * w (ix2 d q) else 0 := by
  pointwise [padded]
  split <;> rename_i h
  · rw [dif_pos ⟨h.1, by omega⟩]
  · rw [dif_neg (by omega)]
    show (((0#32).toInt : ℝ) : EReal) = 0
    simp

/-- The reference's convolution of the padded products. -/
def conv (p : FVec Ideal S8x4098x3072 .f32) (k : Taps) (a : Bias) : FVec Ideal S8x4096x3072 .f32 :=
  addf (addf (addf (addf (broadcastInDim S8x4096x3072 ![] bcast_S_S8x4096x3072 (constant S_ .f32 0x00000000#32))
    (mulf (extractStridedSlice S8x4096x3072 ![0, 0, 0] p slices_S8x4098x3072_S8x4096x3072_0_0_0)
      (broadcastInDim S8x4096x3072 ![0, 1, 2] bcast_S1x1x3072_S8x4096x3072_0_1_2
        (broadcastInDim S1x1x3072 ![2] bcast_S3072_S1x1x3072_2
          (shapeCast S3072 (extractStridedSlice S1x3072 ![0, 0] k slices_S3x3072_S1x3072_0_0) shapeCasts_S1x3072_S3072)))))
    (mulf (extractStridedSlice S8x4096x3072 ![0, 1, 0] p slices_S8x4098x3072_S8x4096x3072_0_1_0)
      (broadcastInDim S8x4096x3072 ![0, 1, 2] bcast_S1x1x3072_S8x4096x3072_0_1_2
        (broadcastInDim S1x1x3072 ![2] bcast_S3072_S1x1x3072_2
          (shapeCast S3072 (extractStridedSlice S1x3072 ![1, 0] k slices_S3x3072_S1x3072_1_0) shapeCasts_S1x3072_S3072)))))
    (mulf (extractStridedSlice S8x4096x3072 ![0, 2, 0] p slices_S8x4098x3072_S8x4096x3072_0_2_0)
      (broadcastInDim S8x4096x3072 ![0, 1, 2] bcast_S1x1x3072_S8x4096x3072_0_1_2
        (broadcastInDim S1x1x3072 ![2] bcast_S3072_S1x1x3072_2
          (shapeCast S3072 (extractStridedSlice S1x3072 ![2, 0] k slices_S3x3072_S1x3072_2_0) shapeCasts_S1x3072_S3072)))))
    (broadcastInDim S8x4096x3072 ![0, 1, 2] bcast_S1x1x3072_S8x4096x3072_0_1_2
      (broadcastInDim S1x1x3072 ![2] bcast_S3072_S1x1x3072_2 a))

/-- … at an index. -/
theorem conv_apply (p : FVec Ideal S8x4098x3072 .f32) (k : Taps) (a : Bias) (b : Fin 8) (n : Fin 4096) (q : Fin 3072) :
    conv p k a (ix3 b n q)
      = p (ix3 b ⟨n, by omega⟩ q) * k (ix2 0 q) + p (ix3 b ⟨1 + n, by omega⟩ q) * k (ix2 1 q)
          + p (ix3 b ⟨2 + n, by omega⟩ q) * k (ix2 2 q) + a (ix1 q) := by
  pointwise [conv]

/-- The padded products of the normalised activations, at an index. -/
theorem prod_apply (x : Acts) (s c : Mods) (w : Weights) (b : Fin 8) (l : Fin 4098) (q : Fin 3072) :
    padded (normed x s c) w (ix3 b l q) = prodAt x s c w b l q := by
  rw [padded_apply]
  unfold prodAt rowAt
  split
  · exact Finset.sum_congr rfl fun d _ => by rw [normed_apply]
  · exact (Finset.sum_eq_zero fun d _ => zero_mul _).symm

/-- The convolution of the normalised activations' products, at an index. -/
theorem conv_normed (x : Acts) (s c : Mods) (w : Weights) (k : Taps) (a : Bias) (b : Fin 8) (n : Fin 4096) (q : Fin 3072) :
    conv (padded (normed x s c) w) k a (ix3 b n q) = convAt x s c w k a b n q := by
  rw [conv_apply, prod_apply, prod_apply, prod_apply]
  rfl

variable (m : (ℓ : Loc nD τ sig) → Buf (Elt Ideal) ℓ) (c : Dev nD)

/-- The convolution of the program's arguments. -/
abbrev convM : FVec Ideal S8x4096x3072 .f32 :=
  conv (padded (normed (m ((c.tc : Thread nD τ).loc main_arg0)) (m ((c.tc : Thread nD τ).loc main_arg1))
    (m ((c.tc : Thread nD τ).loc main_arg2))) (m ((c.tc : Thread nD τ).loc main_arg3)))
    (m ((c.tc : Thread nD τ).loc main_arg4)) (m ((c.tc : Thread nD τ).loc main_arg5))

/-- The reference's first result. -/
theorem out0_eq : Value.res_out0 (F := Ideal) m c
    = truncf .bf16 (mulf (extractStridedSlice S8x4096x1024 ![0, 0, 2048] (convM m c) slices_S8x4096x3072_S8x4096x1024_0_0_2048)
        (extractStridedSlice S8x4096x1024 ![0, 0, 1024] (convM m c) slices_S8x4096x3072_S8x4096x1024_0_0_1024)) bitsLt_bf16_f32 :=
  rfl

/-- The reference's second result. -/
theorem out1_eq : Value.res_out1 (F := Ideal) m c
    = truncf .bf16 (extractStridedSlice S8x4096x1024 ![0, 0, 0] (convM m c) slices_S8x4096x3072_S8x4096x1024_0_0_0)
        bitsLt_bf16_f32 :=
  rfl

/-- The product of two slices of an array, at an index. -/
theorem gate_apply (y : FVec Ideal S8x4096x3072 .f32) (b : Fin 8) (n : Fin 4096) (d : Fin 1024) :
    truncf (F := Ideal) .bf16 (mulf (extractStridedSlice S8x4096x1024 ![0, 0, 2048] y slices_S8x4096x3072_S8x4096x1024_0_0_2048)
        (extractStridedSlice S8x4096x1024 ![0, 0, 1024] y slices_S8x4096x3072_S8x4096x1024_0_0_1024)) bitsLt_bf16_f32 (ix3 b n d)
      = y (ix3 b n ⟨2048 + d, by omega⟩) * y (ix3 b n ⟨1024 + d, by omega⟩) := by
  pointwise

/-- The first slice of an array, at an index. -/
theorem first_apply (y : FVec Ideal S8x4096x3072 .f32) (b : Fin 8) (n : Fin 4096) (d : Fin 1024) :
    truncf (F := Ideal) .bf16 (extractStridedSlice S8x4096x1024 ![0, 0, 0] y slices_S8x4096x3072_S8x4096x1024_0_0_0)
        bitsLt_bf16_f32 (ix3 b n d)
      = y (ix3 b n ⟨d, by omega⟩) := by
  pointwise

end Cert.Reference3Ideal.Read

end
-- ==== Proof.HyenaBlock.lean ====
/-
  A block of the in-projection's results from the blocks that the body is given: the scratch rows are the block's rows
  and their neighbours, normalised, with zero rows at the sequence's ends.
-/
module

public import proofs.«01_k».proof.Proof.HyenaRow
public import proofs.«01_k».proof.Proof.Gen.Kernel3Ideal.Value
public import Idealize.ShloMosaic.Lib.Pipeline.ValueKit

@[expose] public section

set_option maxRecDepth 16384

noncomputable section

namespace Cert.Kernel3Ideal.Hyena

open Idealize.ShloMosaic Idealize.ShloMosaic.TcCoe Idealize.ShloMosaic.Tactic
open Cert.Kernel3Ideal Cert.Kernel3Ideal.Gen Cert.Hyena

/-- The scratch when the body multiplies: the rows before, the rows themselves, the rows after. -/
def rows (i : grid0.Coords) (x0 : Vec Ideal S1x512x1024 .f32) (x1 x2 : Vec Ideal S1x8x1024 .f32)
    (x3 x4 : Vec Ideal S1x1x1024 .f32) : Vec Ideal S528x1024 .f32 :=
  View.canon (Val := Elt Ideal) (e := .f32)
    [⟨Rect.unit ![520, 0] S8x1024.size inb_S528x1024_S8x1024_520_0, k0_pay10 (k0_pay3 x3) (k0_pay4 x4) (k0_pay5 i) x2⟩,
     ⟨Rect.unit ![8, 0] S512x1024.size inb_S528x1024_S512x1024_8_0, k0_pay9 (k0_pay3 x3) (k0_pay4 x4) (k0_pay7 x0) (k0_pay8 x0)⟩,
     ⟨Rect.unit ![0, 0] S8x1024.size inb_S528x1024_S8x1024_0_0, k0_pay6 i x3 x4 x1⟩]

/-- The rows that precede the block, at an index: normalised, or zero in the sequence's first block. -/
theorem pay6_apply (i : grid0.Coords) (x1 : Vec Ideal S1x8x1024 .f32) (x3 x4 : Vec Ideal S1x1x1024 .f32) (r : Fin 8)
    (d : Fin 1024) :
    k0_pay6 (F := Ideal) i x3 x4 x1 (ix2 r d)
      = if 0 < ((i 1 : Fin 8) : ℕ) then
          normRow (fun e => x1 (ix3 0 r e)) (fun e => x3 (ix3 0 0 e)) (fun e => x4 (ix3 0 0 e)) d
        else 0 := by
  unfold k0_pay6
  generalize hv : (Scalar.sitofp (F := Ideal) .f32 _ : Ideal .f32) = v
  have hv' : v = if 0 < ((i 1 : Fin 8) : ℕ) then (1 : EReal) else 0 := by
    rw [← hv]
    have hb : ∀ j : Fin 8, (Scalar.extui (Scalar.cmpi .sgt (BitVec.ofNat 32 (j : ℕ)) 0#32) : BitVec 32)
        = if 0 < (j : ℕ) then 1#32 else 0#32 := by decide
    refine (congrArg (Scalar.sitofp (F := Ideal) .f32) (hb (i 1))).trans ?_
    rw [Ideal.scalar_sitofp_def]
    split <;> simp
  pointwise [k0_pay3, k0_pay4]
  rw [hv']
  split
  · rw [mul_one]; rfl
  · rw [mul_zero]

/-- The rows that follow the block, at an index: normalised, or zero in the sequence's last block. -/
theorem pay10_apply (i : grid0.Coords) (x2 : Vec Ideal S1x8x1024 .f32) (x3 x4 : Vec Ideal S1x1x1024 .f32) (r : Fin 8)
    (d : Fin 1024) :
    k0_pay10 (F := Ideal) (k0_pay3 x3) (k0_pay4 x4) (k0_pay5 i) x2 (ix2 r d)
      = if ((i 1 : Fin 8) : ℕ) < 7 then
          normRow (fun e => x2 (ix3 0 r e)) (fun e => x3 (ix3 0 0 e)) (fun e => x4 (ix3 0 0 e)) d
        else 0 := by
  have hv' : k0_pay5 (F := Ideal) i = if ((i 1 : Fin 8) : ℕ) < 7 then (1 : EReal) else 0 := by
    unfold k0_pay5
    have hb : ∀ j : Fin 8, (Scalar.extui (Scalar.cmpi .slt (BitVec.ofNat 32 (j : ℕ)) 7#32) : BitVec 32)
        = if (j : ℕ) < 7 then 1#32 else 0#32 := by decide
    refine (congrArg (Scalar.sitofp (F := Ideal) .f32) (hb (i 1))).trans ?_
    rw [Ideal.scalar_sitofp_def]
    split <;> simp
  pointwise [k0_pay3, k0_pay4, k0_pay10]
  rw [hv']
  split
  · rw [mul_one]; rfl
  · rw [mul_zero]

/-- The block's own rows, at an index: normalised. -/
theorem pay9_apply (x0 : Vec Ideal S1x512x1024 .f32) (x3 x4 : Vec Ideal S1x1x1024 .f32) (r : Fin 512) (d : Fin 1024) :
    k0_pay9 (F := Ideal) (k0_pay3 x3) (k0_pay4 x4) (k0_pay7 x0) (k0_pay8 x0) (ix2 r d)
      = normRow (fun e => x0 (ix3 0 r e)) (fun e => x3 (ix3 0 0 e)) (fun e => x4 (ix3 0 0 e)) d := by
  pointwise [k0_pay3, k0_pay4, k0_pay7, k0_pay8, k0_pay9]
  rfl

/-- The scratch at an index, where its three parts are known. -/
theorem rows_of (i : grid0.Coords) (x0 : Vec Ideal S1x512x1024 .f32) (x1 x2 : Vec Ideal S1x8x1024 .f32)
    (x3 x4 : Vec Ideal S1x1x1024 .f32) (f : ℕ → Fin 1024 → EReal)
    (h9 : ∀ (z : S512x1024.Idx), k0_pay9 (F := Ideal) (k0_pay3 x3) (k0_pay4 x4) (k0_pay7 x0) (k0_pay8 x0) z = f (8 + (z 0 : Fin 512)) (z 1))
    (h6 : ∀ (z : S8x1024.Idx), k0_pay6 (F := Ideal) i x3 x4 x1 z = f (z 0 : Fin 8) (z 1))
    (h2 : ∀ (z : S8x1024.Idx), k0_pay10 (F := Ideal) (k0_pay3 x3) (k0_pay4 x4) (k0_pay5 i) x2 z = f (520 + (z 0 : Fin 8)) (z 1))
    (y : S528x1024.Idx) : rows i x0 x1 x2 x3 x4 y = f (y 0 : Fin 528) (y 1) := by
  unfold rows
  have hc : ∃ p ∈ ([⟨Rect.unit ![520, 0] S8x1024.size inb_S528x1024_S8x1024_520_0, k0_pay10 (k0_pay3 x3) (k0_pay4 x4) (k0_pay5 i) x2⟩,
     ⟨Rect.unit ![8, 0] S512x1024.size inb_S528x1024_S512x1024_8_0, k0_pay9 (k0_pay3 x3) (k0_pay4 x4) (k0_pay7 x0) (k0_pay8 x0)⟩,
     ⟨Rect.unit ![0, 0] S8x1024.size inb_S528x1024_S8x1024_0_0, k0_pay6 i x3 x4 x1⟩] : List (View.Piece (Elt Ideal) S528x1024 .f32)),
      y ∈ p.1.set := by
    have hy0 : ((y 0 : Fin 528) : ℕ) < 528 := (y 0 : Fin 528).isLt
    have hy1 : ((y 1 : Fin 1024) : ℕ) < 1024 := (y 1 : Fin 1024).isLt
    rcases Nat.lt_or_ge ((y 0 : Fin 528) : ℕ) 8 with h | h
    · exact ⟨⟨Rect.unit ![0, 0] S8x1024.size inb_S528x1024_S8x1024_0_0, k0_pay6 i x3 x4 x1⟩,
        List.mem_cons_of_mem _ (List.mem_cons_of_mem _ List.mem_cons_self), (Rect.mem_set_unit (inb := inb_S528x1024_S8x1024_0_0)).2 fun a => by
        match a with
        | ⟨0, _⟩ => exact ⟨Nat.zero_le _, h⟩
        | ⟨1, _⟩ => exact ⟨Nat.zero_le _, (Nat.zero_add 1024).symm ▸ hy1⟩⟩
    rcases Nat.lt_or_ge ((y 0 : Fin 528) : ℕ) 520 with h' | h'
    · exact ⟨⟨Rect.unit ![8, 0] S512x1024.size inb_S528x1024_S512x1024_8_0, k0_pay9 (k0_pay3 x3) (k0_pay4 x4) (k0_pay7 x0) (k0_pay8 x0)⟩,
        List.mem_cons_of_mem _ List.mem_cons_self, (Rect.mem_set_unit (inb := inb_S528x1024_S512x1024_8_0)).2 fun a => by
        match a with
        | ⟨0, _⟩ => exact ⟨h, h'⟩
        | ⟨1, _⟩ => exact ⟨Nat.zero_le _, (Nat.zero_add 1024).symm ▸ hy1⟩⟩
    · exact ⟨⟨Rect.unit ![520, 0] S8x1024.size inb_S528x1024_S8x1024_520_0, k0_pay10 (k0_pay3 x3) (k0_pay4 x4) (k0_pay5 i) x2⟩,
        List.mem_cons_self, (Rect.mem_set_unit (inb := inb_S528x1024_S8x1024_520_0)).2 fun a => by
        match a with
        | ⟨0, _⟩ => exact ⟨h', hy0⟩
        | ⟨1, _⟩ => exact ⟨Nat.zero_le _, (Nat.zero_add 1024).symm ▸ hy1⟩⟩
  canon_tiles y h using hc
  · exact (h2 _).trans (congrArg₂ f h0.symm (Fin.ext h1.symm))
  · exact (h9 _).trans (congrArg₂ f h0.symm (Fin.ext h1.symm))
  · exact (h6 _).trans (congrArg₂ f h0.symm (Fin.ext h1.symm))

/-- The scratch at a row and a lane: the sequence's row `r` places after the eighth before the block. -/
theorem rows_apply (i : grid0.Coords) (x0 : Vec Ideal S1x512x1024 .f32) (x1 x2 : Vec Ideal S1x8x1024 .f32)
    (x3 x4 : Vec Ideal S1x1x1024 .f32) (x : Acts) (s c : Mods) (b : Fin 8) (j : ℕ) (hj : j < 8) (hi : ((i 1 : Fin 8) : ℕ) = j)
    (h0 : ∀ (r : Fin 512) d, x0 (ix3 0 r d) = x (ix3 b ⟨512 * j + r, by omega⟩ d))
    (h1 : ∀ (_ : 0 < j) (r : Fin 8) d, x1 (ix3 0 r d) = x (ix3 b ⟨512 * j - 8 + r, by omega⟩ d))
    (h2 : ∀ (_ : j < 7) (r : Fin 8) d, x2 (ix3 0 r d) = x (ix3 b ⟨512 * j + 512 + r, by omega⟩ d))
    (h3 : ∀ d, x3 (ix3 0 0 d) = s (ix3 b 0 d)) (h4 : ∀ d, x4 (ix3 0 0 d) = c (ix3 b 0 d))
    (r : Fin 528) (d : Fin 1024) :
    rows i x0 x1 x2 x3 x4 (ix2 r d) = rowAt x s c b (512 * j + r - 7) d := by
  refine rows_of i x0 x1 x2 x3 x4 (fun r d => rowAt x s c b (512 * j + r - 7) d) (fun z => ?_) (fun z => ?_) (fun z => ?_) (ix2 r d)
  · obtain ⟨r, d, rfl⟩ : ∃ (r : Fin 512) (d : Fin 1024), z = ix2 r d := ⟨z 0, z 1, by funext a; fin_cases a <;> rfl⟩
    rw [pay9_apply, funext h3, funext h4, funext (h0 r)]
    show _ = rowAt x s c b (512 * j + (8 + r) - 7) d
    unfold rowAt
    rw [dif_pos (by omega)]
    simp only [show 512 * j + (8 + (r : ℕ)) - 7 - 1 = 512 * j + r by omega]
  · obtain ⟨r, d, rfl⟩ : ∃ (r : Fin 8) (d : Fin 1024), z = ix2 r d := ⟨z 0, z 1, by funext a; fin_cases a <;> rfl⟩
    rw [pay6_apply, hi, funext h3, funext h4]
    show _ = rowAt x s c b (512 * j + r - 7) d
    unfold rowAt
    split <;> rename_i h
    · rw [funext (h1 h r), dif_pos (by omega)]
      simp only [show 512 * j + (r : ℕ) - 7 - 1 = 512 * j - 8 + r by omega]
    · rw [dif_neg (by omega)]
  · obtain ⟨r, d, rfl⟩ : ∃ (r : Fin 8) (d : Fin 1024), z = ix2 r d := ⟨z 0, z 1, by funext a; fin_cases a <;> rfl⟩
    rw [pay10_apply, hi, funext h3, funext h4]
    show _ = rowAt x s c b (512 * j + (520 + r) - 7) d
    unfold rowAt
    split <;> rename_i h
    · rw [funext (h2 h r), dif_pos (by omega)]
      simp only [show 512 * j + (520 + (r : ℕ)) - 7 - 1 = 512 * j + 512 + r by omega]
    · rw [dif_neg (by omega)]

/-- A load of the whole scratch reads its contents. -/
theorem readCov_rows (v : View sig .tc .vmem S528x1024 .f32) (L : List (View.Piece (Elt Ideal) S528x1024 .f32)) :
    v.readCov L (Rect.unit ![0, 0] ![528, 1024] inb_S528x1024_S528x1024_0_0).toLoadRect = View.canon L :=
  (View.readCov_eq_canon' v L _).trans (View.ld_unit_lit _ (View.canon L) (by decide))

/-- The block of the second result. -/
theorem out9_eq (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x3072 .bf16) (harg7 : arg7.IsWhole) (arg8 : Memref sig .tc .vmem S3x3072 .f32) (harg8 : arg8.IsWhole) (arg9 : Memref sig .tc .vmem S1x3072 .f32) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S528x1024 .f32) (harg12 : arg12.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1024x3072 .bf16) (x6 : Vec Ideal S3x3072 .f32) (x7 : Vec Ideal S1x3072 .f32) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 = k0_pay1 (k0_pay12 (rows i x0 x1 x2 x3 x4)
      (View.ld x5 (Rect.unit ![0, 0] S1024x1024.size inb_S1024x3072_S1024x1024_0_0))
      (View.ld x6 (Rect.unit ![0, 0] S1x1024.size inb_S3x3072_S1x1024_0_0))
      (View.ld x6 (Rect.unit ![1, 0] S1x1024.size inb_S3x3072_S1x1024_1_0))
      (View.ld x6 (Rect.unit ![2, 0] S1x1024.size inb_S3x3072_S1x1024_2_0))
      (View.ld x7 (Rect.unit ![0, 0] S1x1024.size inb_S1x3072_S1x1024_0_0))) := by
  frame_out
  simp only [readCov_rows]

/-- The block of the first result. -/
theorem out8_eq (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x3072 .bf16) (harg7 : arg7.IsWhole) (arg8 : Memref sig .tc .vmem S3x3072 .f32) (harg8 : arg8.IsWhole) (arg9 : Memref sig .tc .vmem S1x3072 .f32) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S528x1024 .f32) (harg12 : arg12.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1024x3072 .bf16) (x6 : Vec Ideal S3x3072 .f32) (x7 : Vec Ideal S1x3072 .f32) :
    out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7 = k0_pay2 (k0_pay11 (rows i x0 x1 x2 x3 x4)) (k0_pay13 (rows i x0 x1 x2 x3 x4)
      (View.ld x5 (Rect.unit ![0, 1024] S1024x1024.size inb_S1024x3072_S1024x1024_0_1024))
      (View.ld x6 (Rect.unit ![0, 1024] S1x1024.size inb_S3x3072_S1x1024_0_1024))
      (View.ld x6 (Rect.unit ![1, 1024] S1x1024.size inb_S3x3072_S1x1024_1_1024))
      (View.ld x6 (Rect.unit ![2, 1024] S1x1024.size inb_S3x3072_S1x1024_2_1024)))
      (View.ld x7 (Rect.unit ![0, 1024] S1x1024.size inb_S1x3072_S1x1024_0_1024))
      (View.ld x5 (Rect.unit ![0, 2048] S1024x1024.size inb_S1024x3072_S1024x1024_0_2048))
      (View.ld x6 (Rect.unit ![0, 2048] S1x1024.size inb_S3x3072_S1x1024_0_2048))
      (View.ld x6 (Rect.unit ![1, 2048] S1x1024.size inb_S3x3072_S1x1024_1_2048))
      (View.ld x6 (Rect.unit ![2, 2048] S1x1024.size inb_S3x3072_S1x1024_2_2048))
      (View.ld x7 (Rect.unit ![0, 2048] S1x1024.size inb_S1x3072_S1x1024_0_2048)) := by
  frame_out
  simp only [readCov_rows]

/-- A block of the second result, at an index. -/
theorem block9_apply (S : Vec Ideal S528x1024 .f32) (x5 : Vec Ideal S1024x3072 .bf16) (x6 : Vec Ideal S3x3072 .f32)
    (x7 : Vec Ideal S1x3072 .f32) (r : Fin 512) (d : Fin 1024) :
    k0_pay1 (F := Ideal) (k0_pay12 S
      (View.ld x5 (Rect.unit ![0, 0] S1024x1024.size inb_S1024x3072_S1024x1024_0_0))
      (View.ld x6 (Rect.unit ![0, 0] S1x1024.size inb_S3x3072_S1x1024_0_0))
      (View.ld x6 (Rect.unit ![1, 0] S1x1024.size inb_S3x3072_S1x1024_1_0))
      (View.ld x6 (Rect.unit ![2, 0] S1x1024.size inb_S3x3072_S1x1024_2_0))
      (View.ld x7 (Rect.unit ![0, 0] S1x1024.size inb_S1x3072_S1x1024_0_0))) (ix3 0 r d)
    = (∑ e : Fin 1024, S (ix2 ⟨7 + r, by omega⟩ e) * x5 (ix2 e ⟨d, by omega⟩)) * x6 (ix2 0 ⟨d, by omega⟩)
      + (∑ e : Fin 1024, S (ix2 ⟨8 + r, by omega⟩ e) * x5 (ix2 e ⟨d, by omega⟩)) * x6 (ix2 1 ⟨d, by omega⟩)
      + (∑ e : Fin 1024, S (ix2 ⟨9 + r, by omega⟩ e) * x5 (ix2 e ⟨d, by omega⟩)) * x6 (ix2 2 ⟨d, by omega⟩)
      + x7 (ix2 0 ⟨d, by omega⟩) := by
  pointwise [k0_pay1, k0_pay12, k0_pay11]

/-- A block of the first result, at an index. -/
theorem block8_apply (S : Vec Ideal S528x1024 .f32) (x5 : Vec Ideal S1024x3072 .bf16) (x6 : Vec Ideal S3x3072 .f32)
    (x7 : Vec Ideal S1x3072 .f32) (r : Fin 512) (d : Fin 1024) :
    k0_pay2 (F := Ideal) (k0_pay11 S) (k0_pay13 S
      (View.ld x5 (Rect.unit ![0, 1024] S1024x1024.size inb_S1024x3072_S1024x1024_0_1024))
      (View.ld x6 (Rect.unit ![0, 1024] S1x1024.size inb_S3x3072_S1x1024_0_1024))
      (View.ld x6 (Rect.unit ![1, 1024] S1x1024.size inb_S3x3072_S1x1024_1_1024))
      (View.ld x6 (Rect.unit ![2, 1024] S1x1024.size inb_S3x3072_S1x1024_2_1024)))
      (View.ld x7 (Rect.unit ![0, 1024] S1x1024.size inb_S1x3072_S1x1024_0_1024))
      (View.ld x5 (Rect.unit ![0, 2048] S1024x1024.size inb_S1024x3072_S1024x1024_0_2048))
      (View.ld x6 (Rect.unit ![0, 2048] S1x1024.size inb_S3x3072_S1x1024_0_2048))
      (View.ld x6 (Rect.unit ![1, 2048] S1x1024.size inb_S3x3072_S1x1024_1_2048))
      (View.ld x6 (Rect.unit ![2, 2048] S1x1024.size inb_S3x3072_S1x1024_2_2048))
      (View.ld x7 (Rect.unit ![0, 2048] S1x1024.size inb_S1x3072_S1x1024_0_2048)) (ix3 0 r d)
    = ((∑ e : Fin 1024, S (ix2 ⟨7 + r, by omega⟩ e) * x5 (ix2 e ⟨2048 + d, by omega⟩)) * x6 (ix2 0 ⟨2048 + d, by omega⟩)
      + (∑ e : Fin 1024, S (ix2 ⟨8 + r, by omega⟩ e) * x5 (ix2 e ⟨2048 + d, by omega⟩)) * x6 (ix2 1 ⟨2048 + d, by omega⟩)
      + (∑ e : Fin 1024, S (ix2 ⟨9 + r, by omega⟩ e) * x5 (ix2 e ⟨2048 + d, by omega⟩)) * x6 (ix2 2 ⟨2048 + d, by omega⟩)
      + x7 (ix2 0 ⟨2048 + d, by omega⟩))
      * ((∑ e : Fin 1024, S (ix2 ⟨7 + r, by omega⟩ e) * x5 (ix2 e ⟨1024 + d, by omega⟩)) * x6 (ix2 0 ⟨1024 + d, by omega⟩)
      + (∑ e : Fin 1024, S (ix2 ⟨8 + r, by omega⟩ e) * x5 (ix2 e ⟨1024 + d, by omega⟩)) * x6 (ix2 1 ⟨1024 + d, by omega⟩)
      + (∑ e : Fin 1024, S (ix2 ⟨9 + r, by omega⟩ e) * x5 (ix2 e ⟨1024 + d, by omega⟩)) * x6 (ix2 2 ⟨1024 + d, by omega⟩)
      + x7 (ix2 0 ⟨1024 + d, by omega⟩)) := by
  pointwise [k0_pay2, k0_pay13, k0_pay11]

end Cert.Kernel3Ideal.Hyena

end
-- ==== Proof.HyenaValue.lean ====
/-
  The in-projection call's two result arrays: the first third of the convolution, and the product of the other two.
-/
module

public import proofs.«01_k».proof.Proof.HyenaBlock
public import Idealize.ShloMosaic.Lib.StableHlo.ReadAt

@[expose] public section

set_option maxRecDepth 16384

noncomputable section

namespace Cert.Kernel3Ideal.Hyena

open Idealize.ShloMosaic Idealize.ShloMosaic.TcCoe Idealize.ShloMosaic.Tactic
open Cert.Kernel3Ideal Cert.Kernel3Ideal.Gen Cert.Hyena

/-- The activations' block of a grid point. -/
theorem idx0 : ∀ t : Fin cfg0.N, win0_0.index t = ![(t : ℕ) / 8, (t : ℕ) % 8, 0] := by decide +kernel
/-- The block of eight rows before it. -/
theorem idx1 : ∀ t : Fin cfg0.N, win0_1.index t = ![(t : ℕ) / 8, 64 * ((t : ℕ) % 8) - 1, 0] := by decide +kernel
/-- The block of eight rows after it. -/
theorem idx2 : ∀ t : Fin cfg0.N, win0_2.index t = ![(t : ℕ) / 8, min (64 * ((t : ℕ) % 8 + 1)) 511, 0] := by decide +kernel
/-- The shift's block. -/
theorem idx3 : ∀ t : Fin cfg0.N, win0_3.index t = ![(t : ℕ) / 8, 0, 0] := by decide +kernel
/-- The scale's block. -/
theorem idx4 : ∀ t : Fin cfg0.N, win0_4.index t = ![(t : ℕ) / 8, 0, 0] := by decide +kernel
/-- The weights are one block. -/
theorem idx5 : ∀ t : Fin cfg0.N, win0_5.index t = ![0, 0] := by decide +kernel
/-- The convolution's weights are one block. -/
theorem idx6 : ∀ t : Fin cfg0.N, win0_6.index t = ![0, 0] := by decide +kernel
/-- The convolution's bias is one block. -/
theorem idx7 : ∀ t : Fin cfg0.N, win0_7.index t = ![0, 0] := by decide +kernel
/-- The first result's block of a grid point. -/
theorem idx8 : ∀ t : Fin cfg0.N, win0_8.index t = ![(t : ℕ) / 8, (t : ℕ) % 8, 0] := by decide +kernel
/-- The second result's block of a grid point. -/
theorem idx9 : ∀ t : Fin cfg0.N, win0_9.index t = ![(t : ℕ) / 8, (t : ℕ) % 8, 0] := by decide +kernel
/-- The second coordinate of a grid point. -/
theorem coord1 : ∀ t : Fin cfg0.N, ((grid0.coords t 1 : Fin 8) : ℕ) = (t : ℕ) % 8 := by decide +kernel

/-- The batch entry of a grid point. -/
abbrev pb (t : Fin cfg0.N) : Fin 8 := ⟨(t : ℕ) / 8, by have : (t : ℕ) < 64 := t.isLt; omega⟩
/-- A row of a grid point. -/
abbrev pn (t : Fin cfg0.N) (r : Fin 512) : Fin 4096 := ⟨512 * ((t : ℕ) % 8) + r, by have := r.isLt; omega⟩

/-- A block of activations at an index. -/
theorem read0 (A : Acts) (t : Fin cfg0.N) (r : Fin 512) (d : Fin 1024) :
    (win0_0.blk t).view.read (Elt Ideal) A (ix3 0 r d) = A (ix3 (pb t) (pn t r) d) := by
  blk_ext [idx0 t]
/-- The eight rows before it. -/
theorem read1 (A : Acts) (t : Fin cfg0.N) (h : 0 < (t : ℕ) % 8) (r : Fin 8) (d : Fin 1024) :
    (win0_1.blk t).view.read (Elt Ideal) A (ix3 0 r d) = A (ix3 (pb t) ⟨512 * ((t : ℕ) % 8) - 8 + r, by omega⟩ d) := by
  blk_ext [idx1 t]
/-- The eight rows after it. -/
theorem read2 (A : Acts) (t : Fin cfg0.N) (h : (t : ℕ) % 8 < 7) (r : Fin 8) (d : Fin 1024) :
    (win0_2.blk t).view.read (Elt Ideal) A (ix3 0 r d) = A (ix3 (pb t) ⟨512 * ((t : ℕ) % 8) + 512 + r, by omega⟩ d) := by
  blk_ext [idx2 t]
/-- The shift of a batch entry. -/
theorem read3 (A : Mods) (t : Fin cfg0.N) (d : Fin 1024) :
    (win0_3.blk t).view.read (Elt Ideal) A (ix3 0 0 d) = A (ix3 (pb t) 0 d) := by
  blk_ext [idx3 t]
/-- The scale of a batch entry. -/
theorem read4 (A : Mods) (t : Fin cfg0.N) (d : Fin 1024) :
    (win0_4.blk t).view.read (Elt Ideal) A (ix3 0 0 d) = A (ix3 (pb t) 0 d) := by
  blk_ext [idx4 t]
/-- The weights. -/
theorem read5 (A : FVec Ideal S1024x3072 .bf16) (t : Fin cfg0.N) (e : Fin 1024) (q : Fin 3072) :
    (win0_5.blk t).view.read (Elt Ideal) A (ix2 e q) = A (ix2 e q) := by
  blk_ext [idx5 t]
/-- The convolution's weights. -/
theorem read6 (A : Taps) (t : Fin cfg0.N) (e : Fin 3) (q : Fin 3072) :
    (win0_6.blk t).view.read (Elt Ideal) A (ix2 e q) = A (ix2 e q) := by
  blk_ext [idx6 t]
/-- The convolution's bias. -/
theorem read7 (A : FVec Ideal S1x3072 .f32) (t : Fin cfg0.N) (q : Fin 3072) :
    (win0_7.blk t).view.read (Elt Ideal) A (ix2 0 q) = A (ix2 0 q) := by
  blk_ext [idx7 t]

/-- Where a block's scratch holds the sequence's rows, a sum of the convolution is the sequence's. -/
theorem conv_block (x : Acts) (s c : Mods) (w : Weights) (k : Taps) (a : Bias) (b : Fin 8) (j : ℕ) (hj : j < 8)
    (S : Vec Ideal S528x1024 .f32) (x5 : Vec Ideal S1024x3072 .bf16) (x6 : Vec Ideal S3x3072 .f32) (x7 : Vec Ideal S1x3072 .f32)
    (hS : ∀ (r : Fin 528) d, S (ix2 r d) = rowAt x s c b (512 * j + r - 7) d)
    (h5 : ∀ e q, x5 (ix2 e q) = w (ix2 e q)) (h6 : ∀ e q, x6 (ix2 e q) = k (ix2 e q)) (h7 : ∀ q, x7 (ix2 0 q) = a (ix1 q))
    (r : Fin 512) (q : Fin 3072) :
    (∑ e : Fin 1024, S (ix2 ⟨7 + r, by omega⟩ e) * x5 (ix2 e q)) * x6 (ix2 0 q)
      + (∑ e : Fin 1024, S (ix2 ⟨8 + r, by omega⟩ e) * x5 (ix2 e q)) * x6 (ix2 1 q)
      + (∑ e : Fin 1024, S (ix2 ⟨9 + r, by omega⟩ e) * x5 (ix2 e q)) * x6 (ix2 2 q)
      + x7 (ix2 0 q) = convAt x s c w k a b (512 * j + r) q := by
  unfold convAt prodAt
  simp only [hS, h5, h6, h7]
  rw [show 512 * j + (7 + (r : ℕ)) - 7 = 512 * j + r by omega, show 512 * j + (8 + (r : ℕ)) - 7 = 1 + (512 * j + r) by omega,
    show 512 * j + (9 + (r : ℕ)) - 7 = 2 + (512 * j + r) by omega]

variable (m : (ℓ : Loc nD τ sig) → Buf (Elt Ideal) ℓ) (c : Dev nD)

/-- The program's activations. -/
abbrev argX : Acts := m ((c.tc : Thread nD τ).loc main_arg0)
/-- The program's shift. -/
abbrev argS : Mods := m ((c.tc : Thread nD τ).loc main_arg1)
/-- The program's scale. -/
abbrev argC : Mods := m ((c.tc : Thread nD τ).loc main_arg2)
/-- The program's weights. -/
abbrev argW : Weights := m ((c.tc : Thread nD τ).loc main_arg3)
/-- The program's convolution weights. -/
abbrev argK : Taps := m ((c.tc : Thread nD τ).loc main_arg4)
/-- The program's convolution bias. -/
abbrev argB : Bias := m ((c.tc : Thread nD τ).loc main_arg5)

/-- The weights that the call is entered with. -/
def entW : FVec Ideal S1024x3072 .bf16 := V m c main_v0
/-- The bias that the call is entered with. -/
def entB : FVec Ideal S1x3072 .f32 := V m c main_v1

/-- The entered weights are the arguments'. -/
theorem entW_apply (e : Fin 1024) (q : Fin 3072) : entW m c (ix2 e q) = argW m c (ix2 e q) := by
  unfold entW V
  after_reads_at
  try rfl
/-- The entered bias is the argument's. -/
theorem entB_apply (q : Fin 3072) : entB m c (ix2 0 q) = argB m c (ix1 q) := by
  unfold entB V
  after_reads_at
  try pointwise

/-- The convolution at a batch entry, a row and a column. -/
def convOf (b : Fin 8) (n : Fin 4096) (q : Fin 3072) : EReal :=
  convAt (argX m c) (argS m c) (argC m c) (argW m c) (argK m c) (argB m c) b n q
/-- The first result at an index. -/
def result0At (b : Fin 8) (n : Fin 4096) (d : Fin 1024) : EReal :=
  convOf m c b n ⟨2048 + d, by omega⟩ * convOf m c b n ⟨1024 + d, by omega⟩
/-- The second result at an index. -/
def result1At (b : Fin 8) (n : Fin 4096) (d : Fin 1024) : EReal := convOf m c b n ⟨d, by omega⟩
/-- The first result. -/
def result0 : FVec Ideal S8x4096x1024 .bf16 := fun i => result0At m c (i 0) (i 1) (i 2)
/-- The second result. -/
def result1 : FVec Ideal S8x4096x1024 .bf16 := fun i => result1At m c (i 0) (i 1) (i 2)

/-- The scratch of a grid point. -/
abbrev scr (t : Fin cfg0.N) : Vec Ideal S528x1024 .f32 :=
  rows (grid0.coords t) ((win0_0.blk t).view.read (Elt Ideal) (argX m c)) ((win0_1.blk t).view.read (Elt Ideal) (argX m c))
    ((win0_2.blk t).view.read (Elt Ideal) (argX m c)) ((win0_3.blk t).view.read (Elt Ideal) (argS m c))
    ((win0_4.blk t).view.read (Elt Ideal) (argC m c))

/-- The scratch of a grid point, row by row. -/
theorem scr_apply (t : Fin cfg0.N) (r : Fin 528) (d : Fin 1024) :
    scr m c t (ix2 r d) = rowAt (argX m c) (argS m c) (argC m c) (pb t) (512 * ((t : ℕ) % 8) + r - 7) d :=
  rows_apply _ _ _ _ _ _ _ _ _ (pb t) ((t : ℕ) % 8) (Nat.mod_lt _ (by decide)) (coord1 t) (read0 _ t) (read1 _ t) (read2 _ t)
    (read3 _ t) (read4 _ t) r d

/-- The convolution of a grid point's block. -/
theorem point_conv (t : Fin cfg0.N) (r : Fin 512) (q : Fin 3072) (x5 : Vec Ideal S1024x3072 .bf16) (x6 : Vec Ideal S3x3072 .f32)
    (x7 : Vec Ideal S1x3072 .f32) (h5 : x5 = (win0_5.blk t).view.read (Elt Ideal) (entW m c))
    (h6 : x6 = (win0_6.blk t).view.read (Elt Ideal) (argK m c)) (h7 : x7 = (win0_7.blk t).view.read (Elt Ideal) (entB m c)) :
    (∑ e : Fin 1024, scr m c t (ix2 ⟨7 + r, by omega⟩ e) * x5 (ix2 e q)) * x6 (ix2 0 q)
      + (∑ e : Fin 1024, scr m c t (ix2 ⟨8 + r, by omega⟩ e) * x5 (ix2 e q)) * x6 (ix2 1 q)
      + (∑ e : Fin 1024, scr m c t (ix2 ⟨9 + r, by omega⟩ e) * x5 (ix2 e q)) * x6 (ix2 2 q)
      + x7 (ix2 0 q) = convOf m c (pb t) (pn t r) q := by
  subst h5 h6 h7
  exact conv_block (argX m c) (argS m c) (argC m c) (argW m c) (argK m c) (argB m c) (pb t) ((t : ℕ) % 8)
    (Nat.mod_lt _ (by decide)) (scr m c t) _ _ _ (scr_apply m c t) (fun e q => (read5 _ t e q).trans (entW_apply m c e q))
    (read6 _ t) (fun q => (read7 _ t q).trans (entB_apply m c q)) r q

/-- An index of a block, by its row and lane. -/
theorem idx_eq (y : S1x512x1024.Idx) : ∃ (r : Fin 512) (d : Fin 1024), y = ix3 0 r d := ⟨y 1, y 2, by
  funext i
  fin_cases i
  · exact Subsingleton.elim (α := Fin 1) _ _
  · rfl
  · rfl⟩

/-- The second result array of the call. -/
theorem result1_eq : (dats m 0 c).arrAt 9 cfg0.N = result1 m c := by
  refine (dats m 0 c).arrAt_eq_of_covers 9 _ (by decide +kernel) fun t hf y => ?_
  blk_simp
  simp only [after0_9, outsAt0]
  rw [out9_eq]
  obtain ⟨r, d, rfl⟩ := idx_eq y
  refine (block9_apply _ _ _ _ r d).trans ?_
  have e : (win0_9.blk t).view.emb (ix3 0 r d) = ix3 (pb t) (pn t r) d := by blk_ext [idx9 t]
  refine Eq.trans ?_ (congrArg (result1 m c) e).symm
  exact point_conv m c t r _ _ _ _ rfl rfl rfl

/-- The first result array of the call. -/
theorem result0_eq : (dats m 0 c).arrAt 8 cfg0.N = result0 m c := by
  refine (dats m 0 c).arrAt_eq_of_covers 8 _ (by decide +kernel) fun t hf y => ?_
  blk_simp
  simp only [after0_8, outsAt0]
  rw [out8_eq]
  obtain ⟨r, d, rfl⟩ := idx_eq y
  refine (block8_apply _ _ _ _ r d).trans ?_
  have e : (win0_8.blk t).view.emb (ix3 0 r d) = ix3 (pb t) (pn t r) d := by blk_ext [idx8 t]
  refine Eq.trans ?_ (congrArg (result0 m c) e).symm
  exact congrArg₂ (· * ·) (point_conv m c t r _ _ _ _ rfl rfl rfl) (point_conv m c t r _ _ _ _ rfl rfl rfl)

end Cert.Kernel3Ideal.Hyena

end
-- ==== Proof.HyenaClaims.lean ====
/-
  The second claim: the in-projection call and its reference leave the same two results.
-/
module

public import proofs.«01_k».proof.Defs
public import proofs.«01_k».proof.Proof.HyenaValue
public import Idealize.ShloMosaic.Lib.Claim

@[expose] public section

set_option maxRecDepth 16384

noncomputable section

namespace Cert.Proof

open Idealize.ShloMosaic Idealize.ShloMosaic.TcCoe Idealize.ShloMosaic.Tactic Idealize.SL.Sem
open Cert.Hyena
attribute [local instance] Cert.Kernel3Ideal.Gen.facts Cert.Reference3Ideal.Gen.facts

/-- The reference's first result, from the arguments. -/
abbrev refZ (x : Acts) (s c : Mods) (w : Weights) (k : Taps) (a : Bias) : FVec Ideal ⟨3, ![8, 4096, 1024]⟩ .bf16 :=
  fun i => convAt x s c w k a (i 0) (i 1 : Fin 4096) ⟨2048 + (i 2 : Fin 1024), Nat.add_lt_add_left (i 2 : Fin 1024).isLt 2048⟩
    * convAt x s c w k a (i 0) (i 1 : Fin 4096) ⟨1024 + (i 2 : Fin 1024), Nat.lt_trans (Nat.add_lt_add_left (i 2 : Fin 1024).isLt 1024) (by decide)⟩

/-- The reference's second result, from the arguments. -/
abbrev refX (x : Acts) (s c : Mods) (w : Weights) (k : Taps) (a : Bias) : FVec Ideal ⟨3, ![8, 4096, 1024]⟩ .bf16 :=
  fun i => convAt x s c w k a (i 0) (i 1 : Fin 4096) ⟨(i 2 : Fin 1024), Nat.lt_trans (i 2 : Fin 1024).isLt (by decide)⟩

/-- The first result of the reference's run. -/
theorem ref_out0 (m : (ℓ : Loc Cert.Reference3Ideal.nD Cert.Reference3Ideal.τ Cert.Reference3Ideal.sig) → Buf (Elt Ideal) ℓ)
    (c : Dev Cert.Reference3Ideal.nD) : Cert.Reference3Ideal.Value.res_out0 (F := Ideal) m c
      = refZ (m ((c.tc : Thread Cert.Reference3Ideal.nD Cert.Reference3Ideal.τ).loc Cert.Reference3Ideal.main_arg0))
          (m ((c.tc : Thread Cert.Reference3Ideal.nD Cert.Reference3Ideal.τ).loc Cert.Reference3Ideal.main_arg1))
          (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg3))
          (m ((c.tc : Thread Cert.Reference3Ideal.nD Cert.Reference3Ideal.τ).loc Cert.Reference3Ideal.main_arg4))
          (m ((c.tc : Thread Cert.Reference3Ideal.nD Cert.Reference3Ideal.τ).loc Cert.Reference3Ideal.main_arg5)) := by
  funext i
  obtain ⟨b, n, d, rfl⟩ : ∃ (b : Fin 8) (n : Fin 4096) (d : Fin 1024), i = ix3 b n d :=
    ⟨i 0, i 1, i 2, by funext a; fin_cases a <;> rfl⟩
  rw [Cert.Reference3Ideal.Read.out0_eq, Cert.Reference3Ideal.Read.gate_apply]
  exact congrArg₂ (· * ·) (Cert.Reference3Ideal.Read.conv_normed _ _ _ _ _ _ b n _)
    (Cert.Reference3Ideal.Read.conv_normed _ _ _ _ _ _ b n _)

/-- The second result of the reference's run. -/
theorem ref_out1 (m : (ℓ : Loc Cert.Reference3Ideal.nD Cert.Reference3Ideal.τ Cert.Reference3Ideal.sig) → Buf (Elt Ideal) ℓ)
    (c : Dev Cert.Reference3Ideal.nD) : Cert.Reference3Ideal.Value.res_out1 (F := Ideal) m c
      = refX (m ((c.tc : Thread Cert.Reference3Ideal.nD Cert.Reference3Ideal.τ).loc Cert.Reference3Ideal.main_arg0))
          (m ((c.tc : Thread Cert.Reference3Ideal.nD Cert.Reference3Ideal.τ).loc Cert.Reference3Ideal.main_arg1))
          (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg3))
          (m ((c.tc : Thread Cert.Reference3Ideal.nD Cert.Reference3Ideal.τ).loc Cert.Reference3Ideal.main_arg4))
          (m ((c.tc : Thread Cert.Reference3Ideal.nD Cert.Reference3Ideal.τ).loc Cert.Reference3Ideal.main_arg5)) := by
  funext i
  obtain ⟨b, n, d, rfl⟩ : ∃ (b : Fin 8) (n : Fin 4096) (d : Fin 1024), i = ix3 b n d :=
    ⟨i 0, i 1, i 2, by funext a; fin_cases a <;> rfl⟩
  rw [Cert.Reference3Ideal.Read.out1_eq, Cert.Reference3Ideal.Read.first_apply]
  exact Cert.Reference3Ideal.Read.conv_normed _ _ _ _ _ _ b n _

/-- The call leaves the reference's results. -/
theorem hyena_run (m : (ℓ : Loc Cert.Kernel3Ideal.nD Cert.Kernel3Ideal.τ Cert.Kernel3Ideal.sig) → Buf (Elt Ideal) ℓ)
    (g : Dev Cert.Kernel3Ideal.nD → PrngReg) :
    θ_run (Cert.Kernel3Ideal.defs (F := Ideal)) (onTc (τ := Cert.Kernel3Ideal.τ) (Cert.Kernel3Ideal.main (F := Ideal)))
      ⟨m, fun _ => 0, g⟩ (fun r => ∀ c : Dev Cert.Kernel3Ideal.nD,
        r.2.mem ((c.tc : Thread Cert.Kernel3Ideal.nD Cert.Kernel3Ideal.τ).loc Cert.Kernel3Ideal.main_v2_0)
          = refZ (Cert.Kernel3Ideal.Hyena.argX m c) (Cert.Kernel3Ideal.Hyena.argS m c) (Cert.Kernel3Ideal.Hyena.argC m c)
              (Cert.Kernel3Ideal.Hyena.argW m c) (Cert.Kernel3Ideal.Hyena.argK m c) (Cert.Kernel3Ideal.Hyena.argB m c)
        ∧ r.2.mem ((c.tc : Thread Cert.Kernel3Ideal.nD Cert.Kernel3Ideal.τ).loc Cert.Kernel3Ideal.main_v2_1)
          = refX (Cert.Kernel3Ideal.Hyena.argX m c) (Cert.Kernel3Ideal.Hyena.argS m c) (Cert.Kernel3Ideal.Hyena.argC m c)
              (Cert.Kernel3Ideal.Hyena.argW m c) (Cert.Kernel3Ideal.Hyena.argK m c) (Cert.Kernel3Ideal.Hyena.argB m c)) :=
  (θ_run (Cert.Kernel3Ideal.defs (F := Ideal)) _ _).mono
    (fun _ h c => ⟨(h c).1.trans (Cert.Kernel3Ideal.Hyena.result0_eq m c), (h c).2.1.trans (Cert.Kernel3Ideal.Hyena.result1_eq m c)⟩)
    (Cert.Kernel3Ideal.Value.run_blocks m g)

/-- The call and its reference leave the same two results. -/
theorem algebraic3 : Cert.algebraic_Kernel3Ideal_Reference3Ideal := by
  pair_intro
  · run_from hyena_run m g & Cert.Kernel3Ideal.Gen.frame m g
  · run_from Cert.Reference3Ideal.Value.run m' g'
    all_goals obtain ⟨a0, a1, a2, a3, a4, a5⟩ := hagree c
    · have e := ref_out0 m' c
      rw [a0, a1, a2, a3, a4, a5] at e
      exact e
    · have e := ref_out1 m' c
      rw [a0, a1, a2, a3, a4, a5] at e
      exact e

end Cert.Proof

end
-- ==== Proof.MoeBody.lean ====
module

public import proofs.«01_k».proof.Defs
public import proofs.«01_k».proof.Proof.HyenaClaims
public import proofs.«01_k».proof.Proof.Gen.Kernel2.Launch
public import proofs.«01_k».proof.Proof.Gen.Kernel2.Skeleton
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Gen.Reference2Ideal.Read
public import proofs.«01_k».proof.Proof.Gen.Pre_blocks_name_experts
public import Idealize.ShloMosaic.Lib.VecWindow

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the run, at this program's signature. -/
abbrev Res (F : FTy → Type) [FloatOps F] : Type := MT nD τ sig Unit (Elt F) ℕ (UR sig nD τ) ℕ

/-- The word of a table at an offset: the element a scalar load at that offset reads. -/
def word (tb : Vec F S256 .i32) (off : Fin 1 → Nat) (inb : ∀ a, off a + S1.size a ≤ S256.size a) : BitVec 32 :=
  tb ((Rect.unit (s := S256) off S1.size inb).emb (Shape.Idx.first (numel1_S1.symm ▸ Nat.one_pos)))

/-- Whether the body fills the weight scratches at a point: at the first one, and where the block's expert `b` is not
    the expert `p` of the block before it. -/
abbrev refill (i : grid0.Coords) (b p : BitVec 32) : BitVec 1 :=
  Scalar.cmpi .ne (Scalar.extui (Scalar.ori (Scalar.cmpi .eq (BitVec.ofNat 32 (i 0).val) 0#32) (Scalar.cmpi .ne b p)) : BitVec 32) 0#32

/-- What the body leaves in the first output's block, of the block's count of rows and the blocks it reads. -/
def outLo (n : BitVec 32) (x0 x1 : Vec F S1024x512 .bf16) (x2 x3 : Vec F S1x1x1024x256 .f32) (x4 : Vec F S1x1x256x1024 .f32) : Vec F S1024x512 .bf16 :=
  if k0_cond3 n = 1#1 then k0_pay4 else k0_pay7 n x0 x1 (k0_pay1 x2) (k0_pay2 x3) (k0_pay3 x4)

/-- What the body leaves in the second output's block. -/
def outHi (n : BitVec 32) (x0 x1 : Vec F S1024x512 .bf16) (x2 x3 : Vec F S1x1x1024x256 .f32) (x4 : Vec F S1x1x256x1024 .f32) : Vec F S1024x512 .bf16 :=
  if k0_cond3 n = 1#1 then k0_pay5 else k0_pay8 n x0 x1 (k0_pay1 x2) (k0_pay2 x3) (k0_pay3 x4)

/-- What a whole memref holds that was stored over whole where `P` holds: the stored value, if it held that already
    where `P` does not. -/
theorem read_fill {sp : Space} {s : Shape} {e : EltTy} (a : Memref sig .tc sp s e) (ha : a.IsWhole) (s0 w : s.Idx → Elt F e)
    (P : Prop) [Decidable P] {off : Fin s.rank → ℕ} (inb : ∀ k, off k + s.size k ≤ s.size k) (h : ¬ P → s0 = w) :
    a.view.read (Elt F) (if hc : P then a.view.writes (Elt F) (ha.unread s0) [⟨Rect.unit off s.size inb, w⟩] else ha.unread s0) = w := by
  split
  · exact View.read_writes_full _ _ _ _ _
  · rw [ha.read_unread]; exact h ‹_›

set_option maxHeartbeats 1000000 in
/-- The body at a point, on whole memrefs: with the tables at any share and the inputs at their contents, the scratches
    at the weights of the point's blocks wherever the body does not fill them, and a count of rows that is not negative,
    it leaves the inputs as they were, the scratches at the weights, and the outputs at `outLo` and `outHi`. -/
theorem run_body (c : Dev nD) (i : grid0.Coords) (arg1 : Memref sig .tc .smem S256 .i32) (harg1 : arg1.IsWhole) (arg2 : Memref sig .tc .smem S256 .i32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S256x1024 .bf16) (harg12 : arg12.IsWhole)
    (q : PosShare TreeShare) (be nv : Vec F S256 .i32) (x0 x1 : Vec F S1024x512 .bf16) (x2 x3 : Vec F S1x1x1024x256 .f32) (x4 : Vec F S1x1x256x1024 .f32)
    (s0 s1 : Vec F S1024x256 .bf16) (s2 : Vec F S256x1024 .bf16)
    (hS : ¬ refill i (word be (k0_off1 i) (k0_off1_inb i)) (word be (k0_off2 i) (k0_off2_inb i)) = 1#1 → s0 = k0_pay1 x2 ∧ s1 = k0_pay2 x3 ∧ s2 = k0_pay3 x4)
    (hN : ¬ k0_cond3 (word nv (k0_off1 i) (k0_off1_inb i)) = 1#1 → k0_cond2 (word nv (k0_off1 i) (k0_off1_inb i)) = 1#1)
    (E : Set ℕ) (K : PUnit → sProp (Res F)) :
    iprop(owns (c : Thread nD τ) arg1 q be ∗ owns (c : Thread nD τ) arg2 q nv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
      ∗ (∃ d, owns (c : Thread nD τ) arg8 fullShare d) ∗ (∃ d, owns (c : Thread nD τ) arg9 fullShare d) ∗ owns (c : Thread nD τ) arg10 fullShare s0 ∗ owns (c : Thread nD τ) arg11 fullShare s1 ∗ owns (c : Thread nD τ) arg12 fullShare s2
      ∗ (iprop(owns (c : Thread nD τ) arg1 q be ∗ owns (c : Thread nD τ) arg2 q nv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
          ∗ owns (c : Thread nD τ) arg8 fullShare (outLo (word nv (k0_off1 i) (k0_off1_inb i)) x0 x1 x2 x3 x4)
          ∗ owns (c : Thread nD τ) arg9 fullShare (outHi (word nv (k0_off1 i) (k0_off1_inb i)) x0 x1 x2 x3 x4)
          ∗ owns (c : Thread nD τ) arg10 fullShare (k0_pay1 x2) ∗ owns (c : Thread nD τ) arg11 fullShare (k0_pay2 x3) ∗ owns (c : Thread nD τ) arg12 fullShare (k0_pay3 x4)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10 arg11 harg11 arg12 harg12) K := by
  simp only [cc0_moe_experts_eq_skeleton]; unfold cc0_moe_experts_skel
  simp only [k0_part1_eq_skeleton]
  unfold owns
  iintro ⟨⟨%t0, %ht0, T0⟩, ⟨%t1, %ht1, T1⟩, ⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%f10, %hf10, H10⟩, ⟨%f11, %hf11, H11⟩, ⟨%f12, %hf12, H12⟩, Hk⟩
  obtain rfl := harg1.eq_unread ht0; obtain rfl := harg2.eq_unread ht1; obtain rfl := harg3.eq_unread hf0; obtain rfl := harg4.eq_unread hf1; obtain rfl := harg5.eq_unread hf2; obtain rfl := harg6.eq_unread hf3; obtain rfl := harg7.eq_unread hf4
  obtain rfl := harg10.eq_unread hf10; obtain rfl := harg11.eq_unread hf11; obtain rfl := harg12.eq_unread hf12
  sl_exec
  have e0 : run_body.sl.r c i arg2 harg2 nv = word nv (k0_off1 i) (k0_off1_inb i) := by
    unfold run_body.sl.r; rw [View.readAt_apply, harg2.read_unread]; rfl
  have e1 : run_body.sl.r_1 c i arg1 harg1 be = word be (k0_off1 i) (k0_off1_inb i) := by
    unfold run_body.sl.r_1; rw [View.readAt_apply, harg1.read_unread]; rfl
  have e2 : run_body.sl.r_2 c i arg1 harg1 be = word be (k0_off2 i) (k0_off2_inb i) := by
    unfold run_body.sl.r_2; rw [View.readAt_apply, harg1.read_unread]; rfl
  have w0 : run_body.sl.v19 c arg5 harg5 x2 = x2 := by
    unfold run_body.sl.v19; exact (View.readAt_full _ _ _).trans (harg5.read_unread _)
  have w1 : run_body.sl.v25 c arg6 harg6 x3 = x3 := by
    unfold run_body.sl.v25; exact (View.readAt_full _ _ _).trans (harg6.read_unread _)
  have w2 : run_body.sl.v31 c arg7 harg7 x4 = x4 := by
    unfold run_body.sl.v31; exact (View.readAt_full _ _ _).trans (harg7.read_unread _)
  have r0 : View.readAt (Elt F) arg3.view (Rect.unit ![0, 0] S1024x512.size inb_S1024x512_S1024x512_0_0).toLoadRect (harg3.unread x0) = x0 :=
    (View.readAt_full _ _ _).trans (harg3.read_unread _)
  have r1 : View.readAt (Elt F) arg4.view (Rect.unit ![0, 0] S1024x512.size inb_S1024x512_S1024x512_0_0).toLoadRect (harg4.unread x1) = x1 :=
    (View.readAt_full _ _ _).trans (harg4.read_unread _)
  have a0 : run_body.sl.v41 c i arg1 harg1 arg5 harg5 arg10 harg10 be x2 s0 = k0_pay1 x2 := by
    unfold run_body.sl.v41; rw [e1, e2, w0]
    exact (View.readAt_full _ _ _).trans (read_fill arg10 harg10 s0 _ _ _ fun h => (hS h).1)
  have a1 : run_body.sl.v45 c i arg1 harg1 arg6 harg6 arg11 harg11 be x3 s1 = k0_pay2 x3 := by
    unfold run_body.sl.v45; rw [e1, e2, w1]
    exact (View.readAt_full _ _ _).trans (read_fill arg11 harg11 s1 _ _ _ fun h => (hS h).2.1)
  have a2 : run_body.sl.v49 c i arg1 harg1 arg7 harg7 arg12 harg12 be x4 s2 = k0_pay3 x4 := by
    unfold run_body.sl.v49; rw [e1, e2, w2]
    exact (View.readAt_full _ _ _).trans (read_fill arg12 harg12 s2 _ _ _ fun h => (hS h).2.2)
  have e3 : run_body.sl.r_3 c i arg1 harg1 arg2 harg2 arg3 harg3 arg4 harg4 arg5 harg5 arg6 harg6 arg7 harg7 arg10
        harg10 arg11 harg11 arg12 harg12 be nv x0 x1 x2 x3 x4 s0 s1 s2
      = k0_pay8 (word nv (k0_off1 i) (k0_off1_inb i)) x0 x1 (k0_pay1 x2) (k0_pay2 x3) (k0_pay3 x4) := by
    unfold run_body.sl.r_3; rw [e0, a0, a1, a2, r0, r1]
  rw [e0, e1, e2, w0, w1, w2, a0, a1, a2, e3, r0, r1]
  sl_step
  iapply Hk
  isplitl [T0]
  · iexists _; isplitr; · ipureintro; exact harg1.read_unread _
    iexact T0
  isplitl [T1]
  · iexists _; isplitr; · ipureintro; exact harg2.read_unread _
    iexact T1
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr; swap; · iexact H8
    ipureintro; unfold outLo
    split
    · exact View.read_writes_full _ _ _ _ _
    · rw [dif_pos (hN ‹_›)]; exact View.read_writes_full _ _ _ _ _
  isplitl [H9]
  · iexists _; isplitr; swap; · iexact H9
    ipureintro; unfold outHi
    split
    · exact View.read_writes_full _ _ _ _ _
    · rw [dif_pos (hN ‹_›)]; exact View.read_writes_full _ _ _ _ _
  isplitl [H10]
  · iexists _; isplitr; swap; · iexact H10
    ipureintro; exact read_fill arg10 harg10 s0 _ _ _ fun h => (hS h).1
  isplitl [H11]
  · iexists _; isplitr; swap; · iexact H11
    ipureintro; exact read_fill arg11 harg11 s1 _ _ _ fun h => (hS h).2.1
  iexists _; isplitr; swap; · iexact H12
  ipureintro; exact read_fill arg12 harg12 s2 _ _ _ fun h => (hS h).2.2

end Cert.Proof.Moe
-- ==== Proof.MoeRun.lean ====
module

public import proofs.«01_k».proof.Defs
public import proofs.«01_k».proof.Proof.MoeBody
public import Idealize.ShloMosaic.Adequacy
public import Idealize.ShloMosaic.Init

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (g : Dev nD → PrngReg)

/-- The initial state. -/
abbrev s₀ : MemSt nD τ sig (Elt F) := ⟨m, fun _ => 0, g⟩

/-- The two tables' contents at launch. -/
def tabs : pre0.Contents (Elt F) := fun k => m (((0 : Dev nD) : Thread nD τ).loc (pre0.ref k))

/-- The blocks' experts. -/
abbrev be : Vec F S256 .i32 := tabs m 0
/-- The blocks' counts of rows. -/
abbrev nv : Vec F S256 .i32 := tabs m 1

/-- What is asked of the tables: every block names an expert, and no count of rows is negative. -/
structure Named : Prop where
  lt : ∀ j : S256.Idx, (be m j : BitVec 32).toNat < 64
  nonneg : ∀ j : S256.Idx, 0 ≤ (nv m j : BitVec 32).toInt

variable {m} in
theorem ok (h : Named m) : ok0 (F := F) (tabs m) := by
  have hw : ∀ i : grid0.Coords, (word (be m) (k0_off1 i) (k0_off1_inb i)).toNat < 64 := fun i => h.lt _
  refine ⟨fun i => ⟨fun a => ?_, .inl rfl⟩, fun i => ⟨fun a => ?_, .inl rfl⟩, fun i => ⟨fun a => ?_, .inl rfl⟩⟩
  · have h' := hw i
    rw [show cc0_transform_2 k0_off1_inb numel1_S1 (tabs m) i = ![0, (word (be m) (k0_off1 i) (k0_off1_inb i)).toNat, 0, 0] from rfl]
    fin_cases a <;> simp [S1x1x1024x256, S2x64x1024x256]; omega
  · have h' := hw i
    rw [show cc0_transform_3 k0_off1_inb numel1_S1 (tabs m) i = ![0, (word (be m) (k0_off1 i) (k0_off1_inb i)).toNat, 0, 0] from rfl]
    fin_cases a <;> simp [S1x1x1024x256, S2x64x1024x256]; omega
  · have h' := hw i
    rw [show cc0_transform_4 k0_off1_inb numel1_S1 (tabs m) i = ![0, (word (be m) (k0_off1 i) (k0_off1_inb i)).toNat, 0, 0] from rfl]
    fin_cases a <;> simp [S1x1x256x1024, S2x64x256x1024]; omega

variable {m} in
/-- The launch's tables, as contents the pipeline admits. -/
abbrev adm (h : Named m) : (p : Fin 1) → (pcfgs (F := F) p).Adm := fun _ => ⟨tabs m, ok h⟩

/-- The buffers where the pipeline starts: after the host's four operations. -/
abbrev V (c : Dev nD) (b : Ref sig .tc) : Buf (Elt F) ((c.tc : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m main (V m) :=
  Pipeline.hmainP_prefix pcfgs 0 defs₀ Variants.none m main hostOps0 hostOps0_sub hostOps0_fresh main_chain

theorem V_arg (c : Dev nD) (b : Ref sig .tc) (hb : b ≠ main_v0 ∧ b ≠ main_v1 ∧ b ≠ main_v2 ∧ b ≠ main_v3) :
    V m c b = m ((c : Thread nD τ).loc b) := by
  obtain ⟨h0, h1, h2, h3⟩ := hb
  exact StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2, StableHlo.devRef_ne_of_ne h3⟩))

variable {m} (h : Named m)

/-- The pipeline at the launch's tables. -/
abbrev cfgA : Pipeline.Cfg sig Λ₀ := Pipeline.pin (pcfgs (F := F)) (adm h) 0

/-- The block of window `w` at point `t`, of its array where the pipeline starts. -/
def iblk (c : Dev nD) (w : Fin 7) (t : Fin grid0.N) : (((cfgA h).win w).block).Idx → Elt F ((cfgA h).win w).elt :=
  (((cfgA h).win w).blk t).view.read (Elt F) (V m c (Pipeline.arrRef spec0 w))

abbrev X0 (c : Dev nD) (t : Fin grid0.N) : Vec F S1024x512 .bf16 := iblk h c 0 t
abbrev X1 (c : Dev nD) (t : Fin grid0.N) : Vec F S1024x512 .bf16 := iblk h c 1 t
abbrev X2 (c : Dev nD) (t : Fin grid0.N) : Vec F S1x1x1024x256 .f32 := iblk h c 2 t
abbrev X3 (c : Dev nD) (t : Fin grid0.N) : Vec F S1x1x1024x256 .f32 := iblk h c 3 t
abbrev X4 (c : Dev nD) (t : Fin grid0.N) : Vec F S1x1x256x1024 .f32 := iblk h c 4 t

/-- The count of rows of the block at point `t`. -/
abbrev cnt (m : (ℓ : Loc nD τ sig) → Buf (Elt F) ℓ) (t : Fin grid0.N) : BitVec 32 := word (nv m) (k0_off1 (grid0.coords t)) (k0_off1_inb (grid0.coords t))

/-- What the scratches hold before point `n`: past the first one, the weights of the block before it. -/
def Held (c : Dev nD) (n : ℕ) (s0 s1 : Vec F S1024x256 .bf16) (s2 : Vec F S256x1024 .bf16) : Prop :=
  ∀ t : Fin grid0.N, t.val + 1 = n → s0 = k0_pay1 (X2 h c t) ∧ s1 = k0_pay2 (X3 h c t) ∧ s2 = k0_pay3 (X4 h c t)

/-- The invariant before point `n`. -/
def Phi (c : Dev nD) (n : ℕ) : sProp (Res F) :=
  iprop((∃ s0 s1 s2, ⌜Held h c n s0 s1 s2⌝ ∗ owns (c : Thread nD τ) (Memref.whole cc0_scratch0) fullShare s0
      ∗ owns (c : Thread nD τ) (Memref.whole cc0_scratch1) fullShare s1 ∗ owns (c : Thread nD τ) (Memref.whole cc0_scratch2) fullShare s2)
    ∗ (∃ r, prngReg c r) ∗ owns (c : Thread nD τ) (Memref.whole main_arg0) fullShare.right (be m) ∗ owns (c : Thread nD τ) (Memref.whole main_arg1) fullShare.right (nv m))

/-- The pipeline's proof data. -/
def dats (_ : Fin 1) (c : Dev nD) : Dat τ (Elt F) Unit ℕ (UR sig nD τ) ℕ (cfgA h) c where
  A w := V m c (Pipeline.arrRef spec0 w)
  after w t := match w with
    | ⟨0, _⟩ => iblk h c 0 t
    | ⟨1, _⟩ => iblk h c 1 t
    | ⟨2, _⟩ => iblk h c 2 t
    | ⟨3, _⟩ => iblk h c 3 t
    | ⟨4, _⟩ => iblk h c 4 t
    | ⟨5, _⟩ => outLo (cnt m t) (X0 h c t) (X1 h c t) (X2 h c t) (X3 h c t) (X4 h c t)
    | ⟨6, _⟩ => outHi (cnt m t) (X0 h c t) (X1 h c t) (X2 h c t) (X3 h c t) (X4 h c t)
    | ⟨_ + 7, hh⟩ => absurd hh (Nat.not_lt.2 (Nat.le_add_left _ _))
  Φ t := Phi h c t.val
  q _ := fullShare
  owed _ := 0

theorem A_eq (c : Dev nD) (w : Fin 7) : (dats h 0 c).A w = V m c (Pipeline.arrRef spec0 w) := rfl
theorem after_0 (c : Dev nD) (t : Fin grid0.N) : (dats h 0 c).after 0 t = iblk h c 0 t := rfl
theorem after_1 (c : Dev nD) (t : Fin grid0.N) : (dats h 0 c).after 1 t = iblk h c 1 t := rfl
theorem after_2 (c : Dev nD) (t : Fin grid0.N) : (dats h 0 c).after 2 t = iblk h c 2 t := rfl
theorem after_3 (c : Dev nD) (t : Fin grid0.N) : (dats h 0 c).after 3 t = iblk h c 3 t := rfl
theorem after_4 (c : Dev nD) (t : Fin grid0.N) : (dats h 0 c).after 4 t = iblk h c 4 t := rfl
theorem after_5 (c : Dev nD) (t : Fin grid0.N) : (dats h 0 c).after 5 t = outLo (cnt m t) (X0 h c t) (X1 h c t) (X2 h c t) (X3 h c t) (X4 h c t) := rfl
theorem after_6 (c : Dev nD) (t : Fin grid0.N) : (dats h 0 c).after 6 t = outHi (cnt m t) (X0 h c t) (X1 h c t) (X2 h c t) (X3 h c t) (X4 h c t) := rfl

theorem before_0 (c : Dev nD) (t : Fin grid0.N) (d) : (dats h 0 c).before 0 t d = iblk h c 0 t :=
  ((dats h 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin grid0.N) (d) : (dats h 0 c).before 1 t d = iblk h c 1 t :=
  ((dats h 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin grid0.N) (d) : (dats h 0 c).before 2 t d = iblk h c 2 t :=
  ((dats h 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin grid0.N) (d) : (dats h 0 c).before 3 t d = iblk h c 3 t :=
  ((dats h 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin grid0.N) (d) : (dats h 0 c).before 4 t d = iblk h c 4 t :=
  ((dats h 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)

/-- A count that is not negative is zero or positive. -/
theorem cond_pos (n : BitVec 32) (hn : 0 ≤ n.toInt) (h3 : ¬ k0_cond3 n = 1#1) : k0_cond2 n = 1#1 := by
  have h0 : n ≠ 0#32 := fun e => h3 (by subst e; decide)
  have hs : (0#32).slt n = true := by
    rw [BitVec.slt, decide_eq_true_eq]
    have : n.toInt ≠ 0 := fun e => h0 (BitVec.eq_of_toInt_eq (by simpa using e))
    simp only [BitVec.toInt_zero]; omega
  simp only [k0_cond2, Scalar.cmpi, IntOp.cmpi, hs]; decide

theorem off1_eq : ∀ t : Fin grid0.N, k0_off1 (grid0.coords t) = ![t.val] := by decide +kernel
theorem off2_eq : ∀ t : Fin grid0.N, k0_off2 (grid0.coords t) = ![t.val - 1] := by decide +kernel
theorem coord_eq : ∀ t : Fin grid0.N, (grid0.coords t 0).val = t.val := by decide +kernel

theorem word_congr (tb : Vec F S256 .i32) {off off' : Fin 1 → Nat} (e : off = off') (inb inb') : word tb off inb = word tb off' inb' := by
  subst e; rfl

/-- The body fills the scratches at the first point. -/
theorem refill_first (t : Fin grid0.N) (ht : t.val = 0) (b p : BitVec 32) : refill (grid0.coords t) b p = 1#1 := by
  unfold refill; rw [coord_eq, ht]
  rcases BitVec.eq_zero_or_eq_one (Scalar.cmpi .ne b p) with e | e <;> rw [e] <;> decide

/-- Where it does not, the block's expert is that of the block before it. -/
theorem refill_eq (i : grid0.Coords) (b p : BitVec 32) (hr : ¬ refill i b p = 1#1) : b = p := by
  by_contra hne
  refine hr ?_
  have e : Scalar.cmpi .ne b p = 1#1 := by rw [Scalar.cmpi, IntOp.cmpi, bne_iff_ne.mpr hne]; rfl
  unfold refill; rw [e]
  rcases BitVec.eq_zero_or_eq_one (Scalar.cmpi .eq (BitVec.ofNat 32 (i 0).val) 0#32) with e | e <;> rw [e] <;> decide

/-- Two points whose blocks have one expert have the same weights' blocks. -/
theorem iblk_congr (c : Dev nD) (w : Fin 7) {t t' : Fin grid0.N} (hb : ∀ (t : Fin grid0.N) d, (dats h 0 c).fetched w t d = iblk h c w t)
    (e : ((cfgA h).win w).index t = ((cfgA h).win w).index t')
    (hc : ((cfgA h).win w).clip ((cfgA h).grid.coords t) = ((cfgA h).win w).clip ((cfgA h).grid.coords t')) : iblk h c w t = iblk h c w t' :=
  (hb t (iblk h c w t)).symm.trans (((dats h 0 c).fetched_congr w e hc _).trans (hb t' _))

theorem fetched_2 (c : Dev nD) (t : Fin grid0.N) (d) : (dats h 0 c).fetched 2 t d = iblk h c 2 t := by unfold Dat.fetched Dat.blockOf iblk; rw [A_eq]; try rfl
theorem fetched_3 (c : Dev nD) (t : Fin grid0.N) (d) : (dats h 0 c).fetched 3 t d = iblk h c 3 t := by unfold Dat.fetched Dat.blockOf iblk; rw [A_eq]; try rfl
theorem fetched_4 (c : Dev nD) (t : Fin grid0.N) (d) : (dats h 0 c).fetched 4 t d = iblk h c 4 t := by unfold Dat.fetched Dat.blockOf iblk; rw [A_eq]; try rfl

theorem held_step (c : Dev nD) (t : Fin grid0.N) {s0 s1 : Vec F S1024x256 .bf16} {s2 : Vec F S256x1024 .bf16} (hs : Held h c t.val s0 s1 s2)
    (hr : ¬ refill (grid0.coords t) (word (be m) (k0_off1 (grid0.coords t)) (k0_off1_inb (grid0.coords t))) (word (be m) (k0_off2 (grid0.coords t)) (k0_off2_inb (grid0.coords t))) = 1#1) :
    s0 = k0_pay1 (X2 h c t) ∧ s1 = k0_pay2 (X3 h c t) ∧ s2 = k0_pay3 (X4 h c t) := by
  have hpos : t.val ≠ 0 := fun e => hr (refill_first t e _ _)
  have hlt := t.isLt
  obtain ⟨t', ht'⟩ : ∃ t' : Fin grid0.N, t'.val + 1 = t.val := ⟨⟨t.val - 1, by omega⟩, by show t.val - 1 + 1 = t.val; omega⟩
  have hw : word (be m) (k0_off1 (grid0.coords t)) (k0_off1_inb (grid0.coords t)) = word (be m) (k0_off1 (grid0.coords t')) (k0_off1_inb (grid0.coords t')) :=
    (refill_eq _ _ _ hr).trans (word_congr _ (by rw [off2_eq, off1_eq]; congr 1; omega) _ _)
  obtain ⟨a, b, d⟩ := hs t' ht'
  have hi : (![0, (word (be m) (k0_off1 (grid0.coords t)) (k0_off1_inb (grid0.coords t))).toNat, 0, 0] : Fin 4 → ℕ)
      = ![0, (word (be m) (k0_off1 (grid0.coords t')) (k0_off1_inb (grid0.coords t'))).toNat, 0, 0] := by rw [hw]
  have e2 : X2 h c t = X2 h c t' := iblk_congr h c 2 (fetched_2 h c) hi rfl
  have e3 : X3 h c t = X3 h c t' := iblk_congr h c 3 (fetched_3 h c) hi rfl
  have e4 : X4 h c t = X4 h c t' := iblk_congr h c 4 (fetched_4 h c) hi rfl
  rw [e2, e3, e4]; exact ⟨a, b, d⟩

include h in
/-- No point leaves an output's buffer unstored. -/
theorem idle_eq (i : grid0.Coords) : (!(k0_cond2 ((tabs m).atD 1 (k0_off1 i)) == 1#1) && !(k0_cond3 ((tabs m).atD 1 (k0_off1 i)) == 1#1)) = false := by
  have hn : 0 ≤ ((tabs m).atD 1 (k0_off1 i) : BitVec 32).toInt := by
    unfold Pipeline.Prefetch.Contents.atD
    split
    · exact h.nonneg _
    · exact (by decide : (0 : Int) ≤ (0#32).toInt)
  by_cases h3 : k0_cond3 ((tabs m).atD 1 (k0_off1 i)) = 1#1
  · rw [h3]; simp
  · rw [cond_pos _ hn h3]; simp

theorem idle_5 (t : Fin grid0.N) : (cfgA h).idle 5 ((cfgA h).grid.coords t) = false := idle_eq h (grid0.coords t)
theorem idle_6 (t : Fin grid0.N) : (cfgA h).idle 6 ((cfgA h).grid.coords t) = false := idle_eq h (grid0.coords t)

/-! ## The body's obligation -/

abbrev slot (t : Fin grid0.N) (w : Fin 7) := (cfgA h).slots t w

/-- The body at point `t`, on the buffers the pipeline calls it with. -/
abbrev bodyAt (t : Fin grid0.N) : Prog (TpuEff nD τ sig (Elt F) Λ₀ .tc) PUnit :=
  cc0_moe_experts (grid0.coords t) (Memref.whole main_arg0) (Memref.isWhole_whole _) (Memref.whole main_arg1) (Memref.isWhole_whole _)
    (spec0_0.stage (slot h t 0)) (hstage0_0 ((slot h t 0).cast nbuf0_0)) (spec0_1.stage (slot h t 1)) (hstage0_1 ((slot h t 1).cast nbuf0_1))
    (spec0_2.stage (slot h t 2)) (hstage0_2 ((slot h t 2).cast nbuf0_2)) (spec0_3.stage (slot h t 3)) (hstage0_3 ((slot h t 3).cast nbuf0_3))
    (spec0_4.stage (slot h t 4)) (hstage0_4 ((slot h t 4).cast nbuf0_4)) (spec0_5.stage (slot h t 5)) (hstage0_5 ((slot h t 5).cast nbuf0_5))
    (spec0_6.stage (slot h t 6)) (hstage0_6 ((slot h t 6).cast nbuf0_6))
    (Memref.whole cc0_scratch0) (Memref.isWhole_whole _) (Memref.whole cc0_scratch1) (Memref.isWhole_whole _) (Memref.whole cc0_scratch2) (Memref.isWhole_whole _)

theorem defs₀_row (t : Fin grid0.N) : defs₀ (F := F) .tc (cfgA h).body ((cfgA h).bodyArgs t ((cfgA h).slots t)) = bodyAt h t := by
  unfold defs₀; rw [Defs.onTc_tc]

/-- What the body is called with at point `t`, -/
def bodyPre (c : Dev nD) (t : Fin grid0.N) : sProp (Res F) :=
  iprop(Phi h c t.val ∗ (dats h 0 c).owesAt () t.castSucc
    ∗ (∃ d, owns (c : Thread nD τ) (spec0_0.stage (slot h t 0)) fullShare ((dats h 0 c).before 0 t d))
    ∗ (∃ d, owns (c : Thread nD τ) (spec0_1.stage (slot h t 1)) fullShare ((dats h 0 c).before 1 t d))
    ∗ (∃ d, owns (c : Thread nD τ) (spec0_2.stage (slot h t 2)) fullShare ((dats h 0 c).before 2 t d))
    ∗ (∃ d, owns (c : Thread nD τ) (spec0_3.stage (slot h t 3)) fullShare ((dats h 0 c).before 3 t d))
    ∗ (∃ d, owns (c : Thread nD τ) (spec0_4.stage (slot h t 4)) fullShare ((dats h 0 c).before 4 t d))
    ∗ (∃ d, owns (c : Thread nD τ) (spec0_5.stage (slot h t 5)) fullShare ((dats h 0 c).before 5 t d))
    ∗ (∃ d, owns (c : Thread nD τ) (spec0_6.stage (slot h t 6)) fullShare ((dats h 0 c).before 6 t d)))

/-- and what it returns. -/
def bodyPost (c : Dev nD) (t : Fin grid0.N) : sProp (Res F) :=
  iprop(Phi h c (t.val + 1) ∗ (dats h 0 c).owesAt () t.castSucc
    ∗ owns (c : Thread nD τ) (spec0_0.stage (slot h t 0)) fullShare ((dats h 0 c).after 0 t)
    ∗ owns (c : Thread nD τ) (spec0_1.stage (slot h t 1)) fullShare ((dats h 0 c).after 1 t)
    ∗ owns (c : Thread nD τ) (spec0_2.stage (slot h t 2)) fullShare ((dats h 0 c).after 2 t)
    ∗ owns (c : Thread nD τ) (spec0_3.stage (slot h t 3)) fullShare ((dats h 0 c).after 3 t)
    ∗ owns (c : Thread nD τ) (spec0_4.stage (slot h t 4)) fullShare ((dats h 0 c).after 4 t)
    ∗ owns (c : Thread nD τ) (spec0_5.stage (slot h t 5)) fullShare ((dats h 0 c).after 5 t)
    ∗ owns (c : Thread nD τ) (spec0_6.stage (slot h t 6)) fullShare ((dats h 0 c).after 6 t))

set_option maxHeartbeats 800000 in
/-- The body at any point: the inputs hold their blocks, the scratches the weights of the block before, and the run applies. -/
theorem sound_body (c : Dev nD) (t : Fin grid0.N) :
    bodyPre h c t ⊢ wp frame (wpE (defs₀ (F := F)) Variants.none c none) Set.univ (bodyAt h t) (fun _ => bodyPost h c t) := by
  unfold bodyPre bodyPost bodyAt Phi
  simp only [before_0, before_1, before_2, before_3, before_4]
  rw [after_0, after_1, after_2, after_3, after_4, after_5, after_6]
  iintro ⟨⟨⟨%s0, %s1, %s2, %hs, S0, S1, S2⟩, Hg, T0, T1⟩, Ho, ⟨%d0, H0⟩, ⟨%d1, H1⟩, ⟨%d2, H2⟩, ⟨%d3, H3⟩, ⟨%d4, H4⟩, ⟨%d5, H5⟩, ⟨%d6, H6⟩⟩
  iapply (run_body c (grid0.coords t) _ _ _ _ _ _ _ _ _ _ _ _ _ _ _ _ _ _ _ _ _ _ _ _ fullShare.right (be m) (nv m) (X0 h c t) (X1 h c t) (X2 h c t) (X3 h c t) (X4 h c t) s0 s1 s2
    (held_step h c t hs) (fun h3 => cond_pos _ (h.nonneg _) h3) Set.univ _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  iintro ⟨T0, T1, H0, H1, H2, H3, H4, H5, H6, S0, S1, S2⟩
  isplitl [T0 T1 Hg S0 S1 S2]
  · isplitl [S0 S1 S2]
    · iexists _; iexists _; iexists _
      isplitr
      swap
      · isplitl [S0]; · iexact S0
        isplitl [S1]; · iexact S1
        iexact S2
      ipureintro
      intro t' ht'
      obtain rfl : t' = t := Fin.ext (by omega)
      exact ⟨rfl, rfl, rfl⟩
    isplitl [Hg]; · iexact Hg
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : Pipeline.BodyObligationLoose (dats h 0 c) (defs₀ (F := F)) Variants.none () Set.univ := fun t => by
  rw [bigSep_W0, bigSep_W0, defs₀_row]
  rw [idle_5, idle_6]
  exact triple_restated (sound_body h c t) rfl .rfl fun _ => .rfl

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (Res F))
      = iprop((((c : Thread nD τ).loc main_arg0) ↦{q 0} v 0) ∗ (((c : Thread nD τ).loc main_arg1) ↦{q 1} v 1)) := by
  unfold Pipeline.prefHeld
  rw [show (Finset.univ : Finset (Fin 2)) = {(0 : Fin 2), (1 : Fin 2)} from by decide, bigSep_insert (by decide), bigSep_singleton]; rfl

theorem h_in (c : Dev nD) : iprop(Pipeline.ΦA spec0 c ∗ Pipeline.ΦT pre0 (tabs m) c) ⊢ (dats h 0 c).Φ 0 := by
  rw [show (dats h 0 c).Φ 0 = Phi h c 0 from rfl]
  unfold Pipeline.ΦA Pipeline.ΦT Phi
  rw [prefHeld_eq, scopedRest0_eq]
  simp only [owns_whole]
  iintro ⟨⟨⟨⟨%f0, S0⟩, ⟨%f1, S1⟩, ⟨%f2, S2⟩⟩, Hg⟩, T0, T1⟩
  isplitl [S0 S1 S2]
  · iexists f0; iexists f1; iexists f2
    isplitr
    · ipureintro; intro t ht; exact absurd ht (Nat.succ_ne_zero _)
    isplitl [S0]; · iexact S0
    isplitl [S1]; · iexact S1
    iexact S2
  isplitl [Hg]; · iexact Hg
  isplitl [T0]; · iexact T0
  iexact T1

theorem h_out (c : Dev nD) : (dats h 0 c).Φ (Fin.last (cfgA h).N) ⊢ Pipeline.ΦA spec0 c := by
  rw [show (dats h 0 c).Φ (Fin.last (cfgA h).N) = Phi h c (cfgA h).N from rfl]
  unfold Pipeline.ΦA Phi
  rw [scopedRest0_eq]
  simp only [owns_whole]
  iintro ⟨⟨%s0, %s1, %s2, -, S0, S1, S2⟩, Hg, -⟩
  isplitl [S0 S1 S2]
  · isplitl [S0]; · iexists _; iexact S0
    isplitl [S1]; · iexists _; iexact S1
    iexists _; iexact S2
  iexact Hg

theorem h_pf (c : Dev nD) (k : Fin 2) : V m c (pre0.ref k) = tabs m k := by
  obtain rfl : c = 0 := Subsingleton.elim _ _
  fin_cases k
  · exact V_arg m 0 main_arg0 (by decide)
  · exact V_arg m 0 main_arg1 (by decide)

set_option maxHeartbeats 800000 in
set_option backward.isDefEq.respectTransparency.types false in
/-- The run, and every counter of the machine at zero at every final state. -/
theorem run_main : θ_run defs (onTc (τ := τ) (main (F := F))) (s₀ m g)
    (fun r => Pipeline.FramePost (Pipeline.pin pcfgs (adm h)) (dats h) 0 (V m) r ∧ r.2.sem = fun _ => 0) :=
  Pipeline.θ_run_frameP_track (Q' := _) pcfgs (adm h) (dats h) (0 : Fin 1) launch0 defs₀ Variants.none m g main
    (hbody := body_obligation h) (hshare := fun c => (dats h 0 c).share_full fun _ => rfl) (howed := fun _ _ => rfl)
    (V := V m) (hmain := hmain m) (hA := A_eq h) (hpf := h_pf) (hin := h_in h) (hout := h_out h)

include h in
/-- The arguments and the counters at the end of the run. -/
theorem frame : θ_run defs (onTc (τ := τ) (main (F := F))) (s₀ m g) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun _ hr => ⟨fun c =>
    ⟨((hr.1 c).2 main_arg0 (Pipeline.mem_restRefs_of main_arg0 rfl (by exact (by decide : ∀ w : Fin 7, (spec0 w).arr.view.ref ≠ main_arg0)))).trans (V_arg m c main_arg0 (by decide)),
      ((hr.1 c).2 main_arg1 (Pipeline.mem_restRefs_of main_arg1 rfl (by exact (by decide : ∀ w : Fin 7, (spec0 w).arr.view.ref ≠ main_arg1)))).trans (V_arg m c main_arg1 (by decide)),
      ((hr.1 c).2 main_arg2 (Pipeline.mem_restRefs_of main_arg2 rfl (by exact (by decide : ∀ w : Fin 7, (spec0 w).arr.view.ref ≠ main_arg2)))).trans (V_arg m c main_arg2 (by decide)),
      ((hr.1 c).1 2).trans (((dats h 0 c).arrAt_in 2 rfl _).trans ((A_eq h c 2).trans (V_arg m c main_arg3 (by decide)))),
      ((hr.1 c).1 3).trans (((dats h 0 c).arrAt_in 3 rfl _).trans ((A_eq h c 3).trans (V_arg m c main_arg4 (by decide)))),
      ((hr.1 c).1 4).trans (((dats h 0 c).arrAt_in 4 rfl _).trans ((A_eq h c 4).trans (V_arg m c main_arg5 (by decide))))⟩, hr.2⟩) (run_main g h)

attribute [local instance] Cert.Pre_blocks_name_experts.Gen.facts

/-- The precondition's predicate, read off: every block names an expert, and no count of rows is negative. -/
theorem named_of {b n : IVec S256 32} {x2 : FVec F S262144x1024 .f32} {x3 x4 : FVec F S2x64x1024x256 .f32} {x5 : FVec F S2x64x256x1024 .f32}
    (hp : (Cert.Pre_blocks_name_experts.fn (F := F) b n x2 x3 x4 x5).1 = (fun _ => 1#1)
      ∧ (Cert.Pre_blocks_name_experts.fn (F := F) b n x2 x3 x4 x5).2.1 = (fun _ => 1#1)
      ∧ (Cert.Pre_blocks_name_experts.fn (F := F) b n x2 x3 x4 x5).2.2 = (fun _ => 1#1)) :
    (∀ j, (b j).toNat < 64) ∧ ∀ j, 0 ≤ (n j).toInt := by
  obtain ⟨h1, h2, h3⟩ := hp
  have one : ∀ x : Bool, BitVec.ofBool x = 1#1 → x = true := by decide
  have a1 : ∀ j, 0 ≤ (b j).toInt := fun j => by
    have e : (0#32).sle (b j) = true := one _ (congrFun h1 j); rw [BitVec.sle, decide_eq_true_eq] at e; exact e
  have a2 : ∀ j, (b j).toInt < 64 := fun j => by
    have e : (b j).slt 64#32 = true := one _ (congrFun h2 j); rw [BitVec.slt, decide_eq_true_eq] at e; exact e
  have a3 : ∀ j, 0 ≤ (n j).toInt := fun j => by
    have e : (0#32).sle (n j) = true := one _ (congrFun h3 j); rw [BitVec.sle, decide_eq_true_eq] at e; exact e
  refine ⟨fun j => ?_, a3⟩
  have e1 := a1 j; have e2 := a2 j
  rw [BitVec.toInt_eq_toNat_cond] at e1 e2
  have := (b j).isLt
  split at e1 <;> omega

/-- The kernel's ideal program runs, and leaves its arguments and its counters. -/
theorem frame_ideal : Cert.quiescent_Kernel2Ideal := fun m g hp =>
  frame g (m := m) ⟨(named_of (hp 0)).1, (named_of (hp 0)).2⟩

/-! ## The printed program: the same text -/

theorem defs₀_eq : Kernel2.defs₀ (F := Bits) = Kernel2Ideal.defs₀ (F := Bits) := by
  unfold Kernel2.defs₀ Kernel2Ideal.defs₀
  refine congrArg Defs.onTc (funext fun l => funext fun x => ?_)
  match l, x with
  | 0, (t, s) => rfl
  | ⟨_ + 1, h⟩, _ => exact absurd h (Nat.not_lt.2 (Nat.le_add_left _ _))

theorem defs_eq : Kernel2.defs (F := Bits) = Kernel2Ideal.defs (F := Bits) :=
  congrArg (Pipeline.defs (nD := 1) (τ := Kernel2Ideal.τ) (Kernel2Ideal.pcfgs (F := Bits))) defs₀_eq

theorem main_eq : Kernel2.main (F := Bits) = Kernel2Ideal.main (F := Bits) := rfl

/-- So does the printed one, whose text is the same. -/
theorem frame_kernel : Cert.quiescent_Kernel2 := fun m g hp => by
  rw [defs_eq, main_eq]
  exact frame (F := Bits) g (m := m) ⟨(named_of (hp 0)).1, (named_of (hp 0)).2⟩

end Cert.Proof.Moe
-- ==== Proof.MoeBlock.lean ====
/-
  A block of the expert kernel's results from the blocks that the body is given: of every row below the block's count the
  gated feed-forward of the row, of every other row zero.
-/
module

public import proofs.«01_k».proof.Proof.MoeRun
public import Idealize.ShloMosaic.Lib.Pipeline.ValueKit

@[expose] public section

set_option maxRecDepth 16384

noncomputable section

namespace Cert.Proof.Moe

open Idealize.ShloMosaic Idealize.ShloMosaic.TcCoe Idealize.ShloMosaic.Tactic
open Cert.Kernel2Ideal Cert.Kernel2Ideal.Gen

/-- A row's gated feed-forward: the gate's projection times its logistic, times the other projection, projected back. -/
def ffn (x : Fin 1024 → EReal) (wg wu : Fin 1024 → Fin 256 → EReal) (wd : Fin 256 → EReal) : EReal :=
  ∑ f : Fin 256, (((∑ k : Fin 1024, x k * wg k f) * Ideal.logistic (∑ k : Fin 1024, x k * wg k f))
    * (∑ k : Fin 1024, x k * wu k f)) * wd f

/-- The feed-forward of a zero row is zero. -/
theorem ffn_zero (x : Fin 1024 → EReal) (hx : ∀ k, x k = 0) (wg wu : Fin 1024 → Fin 256 → EReal) (wd : Fin 256 → EReal) :
    ffn x wg wu wd = 0 := by
  unfold ffn
  simp only [hx, zero_mul, Finset.sum_const_zero]

/-- The block's rows as the body multiplies them: four bands of columns, rows past the count zeroed. -/
def masked (n : BitVec 32) (x0 x1 : Vec Ideal S1024x512 .bf16) : FVec Ideal S1024x1024 .bf16 :=
  have v20 : FVec Ideal S1024x512 .bf16 := shapeCast S1024x512 x0 shapeCasts_S1024x512_S1024x512
  have v22 : FVec Ideal S1024x512 .bf16 := shapeCast S1024x512 x1 shapeCasts_S1024x512_S1024x512
  have v23 : FVec Ideal S1024x256 .bf16 := extractStridedSlice S1024x256 ![0, 0] v20 slices_S1024x512_o0_0_S1024x256
  have v24 : FVec Ideal S1024x256 .f32 := extf .f32 v23 bitsLt_bf16_f32
  have v25 : FVec Ideal S1024x256 .bf16 := extractStridedSlice S1024x256 ![0, 256] v20 slices_S1024x512_o0_256_S1024x256
  have v26 : FVec Ideal S1024x256 .f32 := extf .f32 v25 bitsLt_bf16_f32
  have v27 : FVec Ideal S1024x256 .bf16 := extractStridedSlice S1024x256 ![0, 0] v22 slices_S1024x512_o0_0_S1024x256
  have v28 : FVec Ideal S1024x256 .f32 := extf .f32 v27 bitsLt_bf16_f32
  have v29 : FVec Ideal S1024x256 .bf16 := extractStridedSlice S1024x256 ![0, 256] v22 slices_S1024x512_o0_256_S1024x256
  have v30 : FVec Ideal S1024x256 .f32 := extf .f32 v29 bitsLt_bf16_f32
  have v31 : FVec Ideal S1024x256 .bf16 := truncf .bf16 v24 bitsLt_bf16_f32
  have v32 : FVec Ideal S1024x256 .bf16 := truncf .bf16 v26 bitsLt_bf16_f32
  have v33 : FVec Ideal S1024x256 .bf16 := truncf .bf16 v28 bitsLt_bf16_f32
  have v34 : FVec Ideal S1024x256 .bf16 := truncf .bf16 v30 bitsLt_bf16_f32
  have v35 : FVec Ideal S1024x1024 .bf16 := concatenate S1024x1024 1 [⟨S1024x256, v31⟩, ⟨S1024x256, v32⟩, ⟨S1024x256, v33⟩, ⟨S1024x256, v34⟩] concatenates_S1024x256_S1024x256_S1024x256_S1024x256_S1024x1024_d1
  have v36 : IVec S1024x1024 32 := iota .tc S1024x1024 32 [0] iota_S1024x1024_d0_w32
  have v37 : IVec S1024x1024 32 := broadcast S1024x1024 n
  have v38 : IVec S1024x1024 1 := cmpi .slt v36 v37
  have cst : Ideal .bf16 := Scalar.ofBits .bf16 0x0000#16
  have v39 : FVec Ideal S1024x1024 .bf16 := broadcast S1024x1024 cst
  select v38 v35 v39

/-- A row of two halves, at a column. -/
def halves (x0 x1 : Vec Ideal S1024x512 .bf16) (r k : Fin 1024) : EReal :=
  if h : (k : ℕ) < 512 then x0 (ix2 r ⟨k, h⟩) else x1 (ix2 r ⟨k - 512, by omega⟩)

/-- The masked rows at an index. -/
theorem masked_apply (n : BitVec 32) (x0 x1 : Vec Ideal S1024x512 .bf16) (r k : Fin 1024) :
    masked n x0 x1 (ix2 r k) = if (BitVec.ofNat 32 (r : ℕ)).slt n = true then halves x0 x1 r k else 0 := by
  unfold halves
  pointwise [masked]
  have hs : Scalar.select (IntOp.cmpi CmpIPredicate.slt (BitVec.ofNat 32 (r : ℕ)) n) (halves x0 x1 r k) 0
      = if (BitVec.ofNat 32 (r : ℕ)).slt n = true then halves x0 x1 r k else 0 := by
    unfold Scalar.select IntOp.cmpi
    cases (BitVec.ofNat 32 (r : ℕ)).slt n <;> rfl
  refine Eq.trans (congrArg (fun z => Scalar.select _ z (0 : EReal)) ?_) hs
  unfold halves
  have hk := k.isLt
  split
  · rw [dif_pos (by omega)]
  split
  · rw [dif_pos (by omega)]
    exact congrArg (fun z => x0 (ix2 r z)) (Fin.ext (by show 256 + ((k : ℕ) - 256) = k; omega))
  split
  · rw [dif_neg (by omega)]
    exact congrArg (fun z => x1 (ix2 r z)) (Fin.ext (by show (k : ℕ) - 256 - 256 = k - 512; omega))
  · rw [dif_neg (by omega)]
    exact congrArg (fun z => x1 (ix2 r z)) (Fin.ext (by show 256 + ((k : ℕ) - 256 - 256 - 256) = k - 512; omega))

/-- The block before its rounding, at an index. -/
theorem pay6_apply (n : BitVec 32) (x0 x1 : Vec Ideal S1024x512 .bf16) (w1 w2 : Vec Ideal S1024x256 .bf16)
    (w3 : Vec Ideal S256x1024 .bf16) (r d : Fin 1024) :
    k0_pay6 (F := Ideal) n x0 x1 w1 w2 w3 (ix2 r d)
      = ffn (fun k => masked n x0 x1 (ix2 r k)) (fun k f => w1 (ix2 k f)) (fun k f => w2 (ix2 k f)) (fun f => w3 (ix2 f d)) := by
  have e : k0_pay6 (F := Ideal) n x0 x1 w1 w2 w3
      = matmul dot_S1024x256_S256x1024_S1024x1024_1_0_0_1_n_n none
          (truncf .bf16 (mulf (mulf (matmul dot_S1024x1024_S1024x256_S1024x256_1_0_0_1_n_n none (masked n x0 x1) w1 (constant S1024x256 .f32 0x00000000#32))
            (logistic (matmul dot_S1024x1024_S1024x256_S1024x256_1_0_0_1_n_n none (masked n x0 x1) w1 (constant S1024x256 .f32 0x00000000#32))))
            (matmul dot_S1024x1024_S1024x256_S1024x256_1_0_0_1_n_n none (masked n x0 x1) w2 (constant S1024x256 .f32 0x00000000#32))) bitsLt_bf16_f32)
          w3 (constant S1024x1024 .f32 0x00000000#32) := rfl
  rw [e]
  generalize masked n x0 x1 = X
  unfold ffn
  pointwise

/-- A block's result at an index: the feed-forward of a row below the count, zero elsewhere. -/
def blockAt (n : BitVec 32) (x0 x1 : Vec Ideal S1024x512 .bf16) (x2 x3 : Vec Ideal S1x1x1024x256 .f32)
    (x4 : Vec Ideal S1x1x256x1024 .f32) (r d : Fin 1024) : EReal :=
  if (BitVec.ofNat 32 (r : ℕ)).slt n = true then
    ffn (halves x0 x1 r) (fun k f => x2 (ix4 0 0 k f)) (fun k f => x3 (ix4 0 0 k f)) (fun f => x4 (ix4 0 0 f d))
  else 0

/-- The block before its rounding is the block's result. -/
theorem pay6_block (n : BitVec 32) (x0 x1 : Vec Ideal S1024x512 .bf16) (x2 x3 : Vec Ideal S1x1x1024x256 .f32)
    (x4 : Vec Ideal S1x1x256x1024 .f32) (r d : Fin 1024) :
    k0_pay6 (F := Ideal) n x0 x1 (k0_pay1 x2) (k0_pay2 x3) (k0_pay3 x4) (ix2 r d) = blockAt n x0 x1 x2 x3 x4 r d := by
  have e1 : ∀ k f, k0_pay1 (F := Ideal) x2 (ix2 k f) = x2 (ix4 0 0 k f) := fun k f => by pointwise [k0_pay1]
  have e2 : ∀ k f, k0_pay2 (F := Ideal) x3 (ix2 k f) = x3 (ix4 0 0 k f) := fun k f => by pointwise [k0_pay2]
  have e3 : ∀ f, k0_pay3 (F := Ideal) x4 (ix2 f d) = x4 (ix4 0 0 f d) := fun f => by pointwise [k0_pay3]
  rw [pay6_apply]
  unfold blockAt
  simp only [e1, e2, e3, masked_apply]
  split
  · rfl
  · exact ffn_zero _ (fun _ => rfl) _ _ _

/-- A block whose count is zero has no row below it. -/
theorem blockAt_zero (n : BitVec 32) (hn : k0_cond3 n = 1#1) (x0 x1 : Vec Ideal S1024x512 .bf16)
    (x2 x3 : Vec Ideal S1x1x1024x256 .f32) (x4 : Vec Ideal S1x1x256x1024 .f32) (r d : Fin 1024) :
    blockAt n x0 x1 x2 x3 x4 r d = 0 := by
  unfold blockAt
  rw [if_neg]
  intro h
  have hz : n = 0#32 := by
    by_contra hne
    have : k0_cond3 n = 0#1 := by
      have e : (n == 0#32) = false := beq_eq_false_iff_ne.2 hne
      unfold k0_cond3
      show Scalar.cmpi .ne (Scalar.extui (BitVec.ofBool (n == 0#32))) 0#32 = 0#1
      rw [e]
      rfl
    rw [this] at hn
    exact absurd hn (by decide)
  subst hz
  have hr := r.isLt
  rw [BitVec.slt, decide_eq_true_eq, BitVec.toInt_eq_toNat_cond, BitVec.toInt_eq_toNat_cond] at h
  simp only [BitVec.toNat_ofNat] at h
  rw [Nat.mod_eq_of_lt (by omega)] at h
  split at h <;> omega

/-- What the body leaves in the first output's block, at an index. -/
theorem outLo_apply (n : BitVec 32) (x0 x1 : Vec Ideal S1024x512 .bf16) (x2 x3 : Vec Ideal S1x1x1024x256 .f32)
    (x4 : Vec Ideal S1x1x256x1024 .f32) (r : Fin 1024) (d : Fin 512) :
    outLo (F := Ideal) n x0 x1 x2 x3 x4 (ix2 r d) = blockAt n x0 x1 x2 x3 x4 r ⟨d, by omega⟩ := by
  unfold outLo
  split
  · rename_i hn
    rw [blockAt_zero n hn]
    pointwise [k0_pay4]
  · refine Eq.trans ?_ (pay6_block n x0 x1 x2 x3 x4 r ⟨d, by omega⟩)
    unfold k0_pay7
    generalize k0_pay6 (F := Ideal) n x0 x1 (k0_pay1 x2) (k0_pay2 x3) (k0_pay3 x4) = Y
    pointwise
    split
    · rfl
    · exact congrArg (fun z => Y (ix2 r z)) (Fin.ext (by show 256 + ((d : ℕ) - 256) = d; omega))

/-- What the body leaves in the second output's block, at an index. -/
theorem outHi_apply (n : BitVec 32) (x0 x1 : Vec Ideal S1024x512 .bf16) (x2 x3 : Vec Ideal S1x1x1024x256 .f32)
    (x4 : Vec Ideal S1x1x256x1024 .f32) (r : Fin 1024) (d : Fin 512) :
    outHi (F := Ideal) n x0 x1 x2 x3 x4 (ix2 r d) = blockAt n x0 x1 x2 x3 x4 r ⟨512 + d, by omega⟩ := by
  unfold outHi
  split
  · rename_i hn
    rw [blockAt_zero n hn]
    pointwise [k0_pay5]
  · refine Eq.trans ?_ (pay6_block n x0 x1 x2 x3 x4 r ⟨512 + d, by omega⟩)
    unfold k0_pay8
    generalize k0_pay6 (F := Ideal) n x0 x1 (k0_pay1 x2) (k0_pay2 x3) (k0_pay3 x4) = Y
    pointwise
    split
    · rfl
    · exact congrArg (fun z => Y (ix2 r z)) (Fin.ext (by show 768 + ((d : ℕ) - 256) = 512 + d; omega))

end Cert.Proof.Moe

end
-- ==== Proof.MoeValue.lean ====
/-
  The expert kernel's two result arrays: at a block's row below the block's count the gated feed-forward of the row with the
  block's expert's weights, elsewhere zero; the columns in two halves.
-/
module

public import proofs.«01_k».proof.Proof.MoeBlock
public import Idealize.ShloMosaic.Lib.StableHlo.ReadAt

@[expose] public section

set_option maxRecDepth 16384

noncomputable section

namespace Cert.Proof.Moe

open Idealize.ShloMosaic Idealize.ShloMosaic.TcCoe Idealize.ShloMosaic.Tactic Idealize.SL.Sem
open Cert.Kernel2Ideal Cert.Kernel2Ideal.Gen

/-- A word per block. -/
abbrev Words : Type := IVec ⟨1, ![256]⟩ 32
/-- The rows. -/
abbrev Rows : Type := FVec Ideal ⟨2, ![262144, 1024]⟩ .f32
/-- The experts' weights of a projection in. -/
abbrev WIn : Type := FVec Ideal ⟨4, ![2, 64, 1024, 256]⟩ .f32
/-- The experts' weights of the projection back. -/
abbrev WOut : Type := FVec Ideal ⟨4, ![2, 64, 256, 1024]⟩ .f32

/-- The block of a row. -/
abbrev blkOf (i : Fin 262144) : Fin 256 := ⟨(i : ℕ) / 1024, by have := i.isLt; omega⟩
/-- The expert that a word names. -/
abbrev expert (b : Words) (t : Fin 256) : Fin 64 := ⟨(b (ix1 t) : BitVec 32).toNat % 64, Nat.mod_lt _ (by decide)⟩

/-- The experts' result at a row and a column. -/
def expertsAt (b n : Words) (x : Rows) (wg wu : WIn) (wd : WOut) (i : Fin 262144) (d : Fin 1024) : EReal :=
  if (BitVec.ofNat 32 ((i : ℕ) % 1024)).slt (n (ix1 (blkOf i))) = true then
    ffn (fun k => x (ix2 i k)) (fun k f => wg (ix4 0 (expert b (blkOf i)) k f)) (fun k f => wu (ix4 0 (expert b (blkOf i)) k f))
      (fun f => wd (ix4 0 (expert b (blkOf i)) f d))
  else 0

/-- A table's word at a one-place offset. -/
theorem word_apply (tb : Words) (j : Fin 256) {off : Fin 1 → ℕ} (e : off = ![(j : ℕ)]) (inb) :
    word (F := Ideal) tb off inb = tb (ix1 j) := by
  subst e
  unfold word
  refine congrArg tb (funext fun a => Fin.ext ?_)
  match a with
  | ⟨0, _⟩ => rfl

variable {m : (ℓ : Loc nD τ sig) → Buf (Elt Ideal) ℓ} (h : Named m) (c : Dev nD)

/-- The program's experts by block. -/
abbrev argE (m : (ℓ : Loc nD τ sig) → Buf (Elt Ideal) ℓ) (c : Dev nD) : Words := m ((c.tc : Thread nD τ).loc main_arg0)
/-- The program's counts by block. -/
abbrev argN (m : (ℓ : Loc nD τ sig) → Buf (Elt Ideal) ℓ) (c : Dev nD) : Words := m ((c.tc : Thread nD τ).loc main_arg1)
/-- The program's rows. -/
abbrev argX (m : (ℓ : Loc nD τ sig) → Buf (Elt Ideal) ℓ) (c : Dev nD) : Rows := m ((c.tc : Thread nD τ).loc main_arg2)
/-- The program's gate weights. -/
abbrev argG (m : (ℓ : Loc nD τ sig) → Buf (Elt Ideal) ℓ) (c : Dev nD) : WIn := m ((c.tc : Thread nD τ).loc main_arg3)
/-- The program's other weights in. -/
abbrev argU (m : (ℓ : Loc nD τ sig) → Buf (Elt Ideal) ℓ) (c : Dev nD) : WIn := m ((c.tc : Thread nD τ).loc main_arg4)
/-- The program's weights back. -/
abbrev argD (m : (ℓ : Loc nD τ sig) → Buf (Elt Ideal) ℓ) (c : Dev nD) : WOut := m ((c.tc : Thread nD τ).loc main_arg5)

/-- The rows' first half that the call is entered with. -/
theorem ent_lo (r : Fin 262144) (k : Fin 512) : (V m c main_v1 : FVec Ideal S262144x512 .bf16) (ix2 r k) = argX m c (ix2 r ⟨k, by omega⟩) := by
  unfold V
  after_reads_at
  try pointwise
/-- The rows' second half. -/
theorem ent_hi (r : Fin 262144) (k : Fin 512) : (V m c main_v3 : FVec Ideal S262144x512 .bf16) (ix2 r k) = argX m c (ix2 r ⟨512 + k, by omega⟩) := by
  unfold V
  after_reads_at
  try pointwise

/-- The rows' block of a grid point, of either half. -/
theorem idx0 : ∀ t : Fin grid0.N, cc0_transform_0 (grid0.coords t) = ![(t : ℕ), 0] := by decide +kernel
theorem idx1 : ∀ t : Fin grid0.N, cc0_transform_1 (grid0.coords t) = ![(t : ℕ), 0] := by decide +kernel
theorem idx5 : ∀ t : Fin grid0.N, cc0_transform_5 (grid0.coords t) = ![(t : ℕ), 0] := by decide +kernel
theorem idx6 : ∀ t : Fin grid0.N, cc0_transform_6 (grid0.coords t) = ![(t : ℕ), 0] := by decide +kernel

/-- A grid point's row in the array. -/
abbrev pr (t : Fin grid0.N) (r : Fin 1024) : Fin 262144 := ⟨1024 * t + r, by have : (t : ℕ) < 256 := t.isLt; omega⟩
/-- A grid point's block. -/
abbrev pt (t : Fin grid0.N) : Fin 256 := ⟨t, t.isLt⟩

theorem widx0 (t : Fin grid0.N) : ((cfgA h).win 0).index t = ![(t : ℕ), 0] := idx0 t
theorem widx1 (t : Fin grid0.N) : ((cfgA h).win 1).index t = ![(t : ℕ), 0] := idx1 t
theorem widx5 (t : Fin grid0.N) : ((cfgA h).win 5).index t = ![(t : ℕ), 0] := idx5 t
theorem widx6 (t : Fin grid0.N) : ((cfgA h).win 6).index t = ![(t : ℕ), 0] := idx6 t

theorem widx2 (t : Fin grid0.N) : ((cfgA h).win 2).index t = ![0, ((be m (ix1 (pt t)) : BitVec 32)).toNat, 0, 0] := by
  rw [show ((cfgA h).win 2).index t = ![0, (word (be m) (k0_off1 (grid0.coords t)) (k0_off1_inb (grid0.coords t))).toNat, 0, 0] from rfl, word_apply _ (pt t) (off1_eq t)]
theorem widx3 (t : Fin grid0.N) : ((cfgA h).win 3).index t = ![0, ((be m (ix1 (pt t)) : BitVec 32)).toNat, 0, 0] := by
  rw [show ((cfgA h).win 3).index t = ![0, (word (be m) (k0_off1 (grid0.coords t)) (k0_off1_inb (grid0.coords t))).toNat, 0, 0] from rfl, word_apply _ (pt t) (off1_eq t)]
theorem widx4 (t : Fin grid0.N) : ((cfgA h).win 4).index t = ![0, ((be m (ix1 (pt t)) : BitVec 32)).toNat, 0, 0] := by
  rw [show ((cfgA h).win 4).index t = ![0, (word (be m) (k0_off1 (grid0.coords t)) (k0_off1_inb (grid0.coords t))).toNat, 0, 0] from rfl, word_apply _ (pt t) (off1_eq t)]

/-- A block of the rows' first half. -/
theorem X0_apply (t : Fin grid0.N) (r : Fin 1024) (k : Fin 512) : X0 h c t (ix2 r k) = argX m c (ix2 (pr t r) ⟨k, by omega⟩) := by
  refine Eq.trans ?_ (ent_lo c (pr t r) k)
  show (((cfgA h).win 0).blk t).view.read (Elt Ideal) (V m c main_v1) (ix2 r k) = _
  blk_ext [widx0 h t]

theorem X1_apply (t : Fin grid0.N) (r : Fin 1024) (k : Fin 512) : X1 h c t (ix2 r k) = argX m c (ix2 (pr t r) ⟨512 + k, by omega⟩) := by
  refine Eq.trans ?_ (ent_hi c (pr t r) k)
  show (((cfgA h).win 1).blk t).view.read (Elt Ideal) (V m c main_v3) (ix2 r k) = _
  blk_ext [widx1 h t]

theorem X2_apply (t : Fin grid0.N) (k : Fin 1024) (f : Fin 256) :
    X2 h c t (ix4 0 0 k f) = argG m c (ix4 0 ⟨(be m (ix1 (pt t)) : BitVec 32).toNat, h.lt _⟩ k f) := by
  refine Eq.trans ?_ (congrFun (V_arg m c main_arg3 (by decide)) _)
  show (((cfgA h).win 2).blk t).view.read (Elt Ideal) (V m c main_arg3) (ix4 0 0 k f) = _
  blk_ext [widx2 h t]

theorem X3_apply (t : Fin grid0.N) (k : Fin 1024) (f : Fin 256) :
    X3 h c t (ix4 0 0 k f) = argU m c (ix4 0 ⟨(be m (ix1 (pt t)) : BitVec 32).toNat, h.lt _⟩ k f) := by
  refine Eq.trans ?_ (congrFun (V_arg m c main_arg4 (by decide)) _)
  show (((cfgA h).win 3).blk t).view.read (Elt Ideal) (V m c main_arg4) (ix4 0 0 k f) = _
  blk_ext [widx3 h t]

theorem X4_apply (t : Fin grid0.N) (f : Fin 256) (d : Fin 1024) :
    X4 h c t (ix4 0 0 f d) = argD m c (ix4 0 ⟨(be m (ix1 (pt t)) : BitVec 32).toNat, h.lt _⟩ f d) := by
  refine Eq.trans ?_ (congrFun (V_arg m c main_arg5 (by decide)) _)
  show (((cfgA h).win 4).blk t).view.read (Elt Ideal) (V m c main_arg5) (ix4 0 0 f d) = _
  blk_ext [widx4 h t]

/-- A row of a grid point's two halves is the array's row. -/
theorem halves_eq (t : Fin grid0.N) (r k : Fin 1024) : halves (X0 h c t) (X1 h c t) r k = argX m c (ix2 (pr t r) k) := by
  unfold halves
  split
  · rw [X0_apply]
  · rw [X1_apply]
    exact congrArg (fun z => argX m c (ix2 (pr t r) z)) (Fin.ext (by show 512 + ((k : ℕ) - 512) = k; omega))

include h in
/-- A grid point's result is the experts' at the point's rows. -/
theorem block_eq (t : Fin grid0.N) (r d : Fin 1024) :
    blockAt (cnt m t) (X0 h c t) (X1 h c t) (X2 h c t) (X3 h c t) (X4 h c t) r d
      = expertsAt (argE m c) (argN m c) (argX m c) (argG m c) (argU m c) (argD m c) (pr t r) d := by
  obtain rfl : c = 0 := Subsingleton.elim _ _
  have hr := r.isLt
  have eb : blkOf (pr t r) = pt t := Fin.ext (by show (1024 * (t : ℕ) + r) / 1024 = t; omega)
  have er : ((pr t r : Fin 262144) : ℕ) % 1024 = r := by show (1024 * (t : ℕ) + r) % 1024 = r; omega
  have ee : expert (argE m 0) (pt t) = ⟨(be m (ix1 (pt t)) : BitVec 32).toNat, h.lt _⟩ :=
    Fin.ext (Nat.mod_eq_of_lt (h.lt (ix1 (pt t))))
  have en : cnt m t = argN m 0 (ix1 (pt t)) := word_apply _ (pt t) (off1_eq t) _
  unfold blockAt expertsAt
  rw [eb, er, ee, en, show halves (X0 h 0 t) (X1 h 0 t) r = fun k => argX m 0 (ix2 (pr t r) k) from funext (halves_eq h 0 t r)]
  simp only [X2_apply, X3_apply, X4_apply]

/-- The first result. -/
def resLo (b n : Words) (x : Rows) (wg wu : WIn) (wd : WOut) : FVec Ideal ⟨2, ![262144, 512]⟩ .bf16 :=
  fun i => expertsAt b n x wg wu wd (i 0) ⟨(i 1 : Fin 512), Nat.lt_trans (i 1 : Fin 512).isLt (by decide)⟩
/-- The second result. -/
def resHi (b n : Words) (x : Rows) (wg wu : WIn) (wd : WOut) : FVec Ideal ⟨2, ![262144, 512]⟩ .bf16 :=
  fun i => expertsAt b n x wg wu wd (i 0) ⟨512 + (i 1 : Fin 512), Nat.add_lt_add_left (i 1 : Fin 512).isLt 512⟩

/-- Every point writes its block of the first result back. -/
theorem flush5 (t : Fin grid0.N) : ((cfgA h).win 5).flush t = true :=
  (Pipeline.Window.flush_reads ((cfgA h).win 5) rfl 0 (show 1 < grid0.bound 0 by decide) rfl (Pipeline.Window.sep_of_coord cc0_transform_5 0 0 (fun _ => rfl) (by decide))
    (P := 1) (m := 0) (show grid0.stride 0 = 1 by decide) rfl t).mpr (Nat.mod_one _)
/-- And of the second. -/
theorem flush6 (t : Fin grid0.N) : ((cfgA h).win 6).flush t = true :=
  (Pipeline.Window.flush_reads ((cfgA h).win 6) rfl 0 (show 1 < grid0.bound 0 by decide) rfl (Pipeline.Window.sep_of_coord cc0_transform_6 0 0 (fun _ => rfl) (by decide))
    (P := 1) (m := 0) (show grid0.stride 0 = 1 by decide) rfl t).mpr (Nat.mod_one _)

/-- A block's place in the first result. -/
theorem emb5 (t : Fin grid0.N) (r : Fin 1024) (d : Fin 512) : (((cfgA h).win 5).blk t).view.emb (ix2 r d) = ix2 (pr t r) d := by
  blk_ext [widx5 h t]
/-- And in the second. -/
theorem emb6 (t : Fin grid0.N) (r : Fin 1024) (d : Fin 512) : (((cfgA h).win 6).blk t).view.emb (ix2 r d) = ix2 (pr t r) d := by
  blk_ext [widx6 h t]

/-- An array index is a grid point's row, and a column. -/
theorem idx_point (i : (⟨2, ![262144, 512]⟩ : Shape).Idx) : ∃ (t : Fin grid0.N) (r : Fin 1024) (d : Fin 512), i = ix2 (pr t r) d := by
  have hi : ((i 0 : Fin 262144) : ℕ) < 262144 := (i 0 : Fin 262144).isLt
  refine ⟨⟨((i 0 : Fin 262144) : ℕ) / 1024, by show _ < 256; omega⟩, ⟨((i 0 : Fin 262144) : ℕ) % 1024, Nat.mod_lt _ (by decide)⟩, i 1, ?_⟩
  funext a
  match a with
  | ⟨0, _⟩ => exact Fin.ext (by show ((i 0 : Fin 262144) : ℕ) = 1024 * (((i 0 : Fin 262144) : ℕ) / 1024) + ((i 0 : Fin 262144) : ℕ) % 1024; omega)
  | ⟨1, _⟩ => rfl

/-- An index of a block, by its row and column. -/
theorem idx_block (y : S1024x512.Idx) : ∃ (r : Fin 1024) (d : Fin 512), y = ix2 r d := ⟨y 0, y 1, by funext a; fin_cases a <;> rfl⟩

/-- The first result array of the call. -/
theorem resLo_eq : (dats h 0 c).arrAt 5 (cfgA h).N = resLo (argE m c) (argN m c) (argX m c) (argG m c) (argU m c) (argD m c) := by
  refine (dats h 0 c).arrAt_eq_of_emb 5 _ (fun t hf y => ?_) fun i => ?_
  · blk_simp
    obtain ⟨r, d, rfl⟩ := idx_block y
    refine Eq.trans ?_ (congrArg (resLo (argE m c) (argN m c) (argX m c) (argG m c) (argU m c) (argD m c)) (emb5 h t r d)).symm
    exact (outLo_apply _ _ _ _ _ _ r d).trans (block_eq h c t r _)
  · obtain ⟨t, r, d, e⟩ := idx_point i
    refine ⟨t, flush5 h t, ?_⟩
    rw [e, ← emb5 h t r d]
    exact View.emb_mem_set _ _

/-- The second result array of the call. -/
theorem resHi_eq : (dats h 0 c).arrAt 6 (cfgA h).N = resHi (argE m c) (argN m c) (argX m c) (argG m c) (argU m c) (argD m c) := by
  refine (dats h 0 c).arrAt_eq_of_emb 6 _ (fun t hf y => ?_) fun i => ?_
  · blk_simp
    obtain ⟨r, d, rfl⟩ := idx_block y
    refine Eq.trans ?_ (congrArg (resHi (argE m c) (argN m c) (argX m c) (argG m c) (argU m c) (argD m c)) (emb6 h t r d)).symm
    exact (outHi_apply _ _ _ _ _ _ r d).trans (block_eq h c t r _)
  · obtain ⟨t, r, d, e⟩ := idx_point i
    refine ⟨t, flush6 h t, ?_⟩
    rw [e, ← emb6 h t r d]
    exact View.emb_mem_set _ _

include h in
/-- The call leaves the experts' result, in two halves of columns. -/
theorem moe_run (g : Dev nD → PrngReg) : θ_run defs (onTc (τ := τ) (main (F := Ideal))) ⟨m, fun _ => 0, g⟩ (fun r => ∀ c : Dev nD,
    r.2.mem ((c.tc : Thread nD τ).loc main_v4_0) = resLo (argE m c) (argN m c) (argX m c) (argG m c) (argU m c) (argD m c)
    ∧ r.2.mem ((c.tc : Thread nD τ).loc main_v4_1) = resHi (argE m c) (argN m c) (argX m c) (argG m c) (argU m c) (argD m c)) :=
  (θ_run defs _ _).mono (fun _ hr c => ⟨((hr.1 c).1 5).trans (resLo_eq h c), ((hr.1 c).1 6).trans (resHi_eq h c)⟩) (run_main g h)

end Cert.Proof.Moe

end
-- ==== Proof.MoeRef.lean ====
/-
  The experts' reference, at an index: the same feed-forward of the same row with the same expert's weights, or zero.
-/
module

public import proofs.«01_k».proof.Proof.MoeValue

@[expose] public section

set_option maxRecDepth 16384

noncomputable section

namespace Cert.Proof.Moe

open Idealize.ShloMosaic Idealize.ShloMosaic.TcCoe Idealize.ShloMosaic.Tactic
open Cert.Reference2Ideal Cert.Reference2Ideal.Read

/-- The dimension numbers of a gather of whole slabs: one slab of a stack per start index. -/
abbrev slabDims (N A B n : ℕ)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- That gather at an index: the stack's slab at the start index, read signed and clamped. -/
theorem gather_slab {α : Type} {N A B n w : ℕ} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (t : Fin n) (a : Fin A) (b : Fin B) :
    Host.gather (slabDims N A B n wf) x idx (ix3 t a b)
      = x (ix3 ⟨min (idx (ix2 t 0)).toInt.toNat (N - 1), by omega⟩ a b) := by
  unfold Host.gather
  refine congrArg x (funext fun q => Fin.ext ?_)
  show (slabDims N A B n wf).start (ix3 t a b) idx q + (slabDims N A B n wf).batchCoord (ix3 t a b) q
      + (slabDims N A B n wf).offCoord (ix3 t a b) q = _
  rw [GatherDims.batchCoord_eq_zero _ _ _ List.not_mem_nil]
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases hq with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B n wf).startIndexMap from List.mem_singleton.mpr rfl)]
    have hsi : (slabDims N A B n wf).siIdx (ix3 t a b) ⟨List.idxOf (0 : Fin 3) (slabDims N A B n wf).startIndexMap,
        List.idxOf_lt_length_iff.2 (List.mem_singleton.mpr rfl)⟩ = ix2 t 0 := by
      funext p
      refine Fin.ext ?_
      match p with
      | ⟨0, _⟩ => rfl
      | ⟨1, _⟩ => rfl
    rw [hsi]
    rfl
  · have h0 : (slabDims N A B n wf).start (ix3 t a b) idx 1 = 0 := by
      unfold GatherDims.start
      exact dif_neg (show ¬(1 : Fin 3) ∈ ([0] : List (Fin 3)) by decide)
    rw [h0]
    unfold GatherDims.offCoord
    rw [dif_pos ((GatherDims.mem_sKept _ _).mpr ⟨show ¬(1 : Fin 3) ∈ ([0] : List (Fin 3)) by decide, List.not_mem_nil⟩)]
    simp only [Nat.zero_add]
    rfl
  · have h0 : (slabDims N A B n wf).start (ix3 t a b) idx 2 = 0 := by
      unfold GatherDims.start
      exact dif_neg (show ¬(2 : Fin 3) ∈ ([0] : List (Fin 3)) by decide)
    rw [h0]
    unfold GatherDims.offCoord
    rw [dif_pos ((GatherDims.mem_sKept _ _).mpr ⟨show ¬(2 : Fin 3) ∈ ([0] : List (Fin 3)) by decide, List.not_mem_nil⟩)]
    simp only [Nat.zero_add]
    rfl

variable (b n : Words) (x : Rows) (wg wu : WIn) (wd : WOut)

/-- The wrapped expert of a block is the block's word, where that names an expert. -/
theorem wrapped (hb : ∀ j, (b j : BitVec 32).toNat < 64) (j : S256.Idx) :
    Scalar.select (IntOp.cmpi .slt (b j) 0#32) (IntOp.addi (b j) 64#32) (b j) = b j := by
  have h := hb j
  have hs : (b j : BitVec 32).slt 0#32 = false := by
    rw [BitVec.slt, decide_eq_false_iff_not, BitVec.toInt_eq_toNat_cond]
    simp only [BitVec.toInt_zero]
    split <;> omega
  unfold Scalar.select IntOp.cmpi
  rw [hs]
  rfl

/-- The clamped expert of a block is the expert that its word names. -/
theorem clamped (hb : ∀ j, (b j : BitVec 32).toNat < 64) (t : Fin 256) (v : BitVec 32) (e : v = b (ix1 t)) :
    (⟨min v.toInt.toNat (64 - 1), by omega⟩ : Fin 64) = expert b t := by
  subst e
  have h := hb (ix1 t)
  refine Fin.ext ?_
  show min (b (ix1 t) : BitVec 32).toInt.toNat (64 - 1) = (b (ix1 t) : BitVec 32).toNat % 64
  rw [BitVec.toInt_eq_toNat_cond]
  split <;> omega

/-- The gate weights that a block is multiplied with. -/
theorem v9_apply (hb : ∀ j, (b j : BitVec 32).toNat < 64) (t : Fin 256) (k : Fin 1024) (f : Fin 256) :
    val_main_v9 (F := Ideal) b wg (ix3 t k f) = wg (ix4 0 (expert b t) k f) := by
  unfold val_main_v9
  refine (gather_slab (by decide) _ _ _ t k f).trans ?_
  have e : val_main_v8 (F := Ideal) b (ix2 t 0) = b (ix1 t) := by
    rw [val_main_v8_apply, val_main_v7_apply, val_main_v4_apply, val_main_v6_apply, val_main_v3_apply, val_main_v5_apply]
    refine (wrapped b hb _).trans (congrArg b ?_)
    funext a; fin_cases a; rfl
  rw [clamped b hb t _ e, val_main_v2_apply, val_main_v1_apply]
  refine congrArg wg (funext fun a => Fin.ext ?_)
  have h0 : (expert b t : ℕ) < 64 := (expert b t).isLt
  have hk := k.isLt
  have hf := f.isLt
  match a with
  | ⟨0, _⟩ => rfl
  | ⟨1, _⟩ => show (((expert b t : ℕ) * 1024 + k) * 256 + f) / 262144 % 64 = (expert b t : ℕ); omega
  | ⟨2, _⟩ => show (((expert b t : ℕ) * 1024 + k) * 256 + f) / 256 % 1024 = k; omega
  | ⟨3, _⟩ => show (((expert b t : ℕ) * 1024 + k) * 256 + f) % 256 = f; omega

/-- The other weights in. -/
theorem v18_apply (hb : ∀ j, (b j : BitVec 32).toNat < 64) (t : Fin 256) (k : Fin 1024) (f : Fin 256) :
    val_main_v18 (F := Ideal) b wu (ix3 t k f) = wu (ix4 0 (expert b t) k f) := by
  unfold val_main_v18
  refine (gather_slab (by decide) _ _ _ t k f).trans ?_
  have e : val_main_v17 (F := Ideal) b (ix2 t 0) = b (ix1 t) := by
    rw [val_main_v17_apply, val_main_v16_apply, val_main_v13_apply, val_main_v15_apply, val_main_v12_apply, val_main_v14_apply]
    refine (wrapped b hb _).trans (congrArg b ?_)
    funext a; fin_cases a; rfl
  rw [clamped b hb t _ e, val_main_v11_apply, val_main_v10_apply]
  refine congrArg wu (funext fun a => Fin.ext ?_)
  have h0 : (expert b t : ℕ) < 64 := (expert b t).isLt
  have hk := k.isLt
  have hf := f.isLt
  match a with
  | ⟨0, _⟩ => rfl
  | ⟨1, _⟩ => show (((expert b t : ℕ) * 1024 + k) * 256 + f) / 262144 % 64 = (expert b t : ℕ); omega
  | ⟨2, _⟩ => show (((expert b t : ℕ) * 1024 + k) * 256 + f) / 256 % 1024 = k; omega
  | ⟨3, _⟩ => show (((expert b t : ℕ) * 1024 + k) * 256 + f) % 256 = f; omega

/-- The weights back. -/
theorem v27_apply (hb : ∀ j, (b j : BitVec 32).toNat < 64) (t : Fin 256) (f : Fin 256) (d : Fin 1024) :
    val_main_v27 (F := Ideal) b wd (ix3 t f d) = wd (ix4 0 (expert b t) f d) := by
  unfold val_main_v27
  refine (gather_slab (by decide) _ _ _ t f d).trans ?_
  have e : val_main_v26 (F := Ideal) b (ix2 t 0) = b (ix1 t) := by
    rw [val_main_v26_apply, val_main_v25_apply, val_main_v22_apply, val_main_v24_apply, val_main_v21_apply, val_main_v23_apply]
    refine (wrapped b hb _).trans (congrArg b ?_)
    funext a; fin_cases a; rfl
  rw [clamped b hb t _ e, val_main_v20_apply, val_main_v19_apply]
  refine congrArg wd (funext fun a => Fin.ext ?_)
  have h0 : (expert b t : ℕ) < 64 := (expert b t).isLt
  have hd := d.isLt
  have hf := f.isLt
  match a with
  | ⟨0, _⟩ => rfl
  | ⟨1, _⟩ => show (((expert b t : ℕ) * 256 + f) * 1024 + d) / 262144 % 64 = (expert b t : ℕ); omega
  | ⟨2, _⟩ => show (((expert b t : ℕ) * 256 + f) * 1024 + d) / 1024 % 256 = f; omega
  | ⟨3, _⟩ => show (((expert b t : ℕ) * 256 + f) * 1024 + d) % 1024 = d; omega

/-- A row of a block, before the experts. -/
theorem v0_apply (t : Fin 256) (r k : Fin 1024) :
    val_main_v0 (F := Ideal) x (ix3 t r k) = x (ix2 ⟨1024 * t + r, by omega⟩ k) := by
  rw [val_main_v0_apply]
  refine congrArg x (funext fun a => Fin.ext ?_)
  have ht := t.isLt
  have hr := r.isLt
  have hk := k.isLt
  match a with
  | ⟨0, _⟩ => show (((t : ℕ) * 1024 + r) * 1024 + k) / 1024 = 1024 * t + r; omega
  | ⟨1, _⟩ => show (((t : ℕ) * 1024 + r) * 1024 + k) % 1024 = k; omega

/-- The feed-forward of a block's row. -/
theorem v32_apply (hb : ∀ j, (b j : BitVec 32).toNat < 64) (t : Fin 256) (r d : Fin 1024) :
    val_main_v32 (F := Ideal) b x wg wu wd (ix3 t r d)
      = ffn (fun k => x (ix2 ⟨1024 * t + r, by omega⟩ k)) (fun k f => wg (ix4 0 (expert b t) k f))
          (fun k f => wu (ix4 0 (expert b t) k f)) (fun f => wd (ix4 0 (expert b t) f d)) := by
  rw [val_main_v32_apply]
  unfold ffn
  refine Finset.sum_congr rfl fun f _ => ?_
  have e28 : val_main_v28 (F := Ideal) b x wg (ix3 t r f) = ∑ k : Fin 1024, x (ix2 ⟨1024 * t + r, by omega⟩ k) * wg (ix4 0 (expert b t) k f) := by
    rw [val_main_v28_apply]
    exact Finset.sum_congr rfl fun k _ => congrArg₂ (· * ·)
      ((congrArg _ (show lidx_main_v28 (ix3 t r f) k = ix3 t r k by funext a; fin_cases a <;> rfl)).trans (v0_apply x t r k))
      ((congrArg _ (show ridx_main_v28 (ix3 t r f) k = ix3 t k f by funext a; fin_cases a <;> rfl)).trans (v9_apply b wg hb t k f))
  have e30 : val_main_v30 (F := Ideal) b x wu (ix3 t r f) = ∑ k : Fin 1024, x (ix2 ⟨1024 * t + r, by omega⟩ k) * wu (ix4 0 (expert b t) k f) := by
    rw [val_main_v30_apply]
    exact Finset.sum_congr rfl fun k _ => congrArg₂ (· * ·)
      ((congrArg _ (show lidx_main_v30 (ix3 t r f) k = ix3 t r k by funext a; fin_cases a <;> rfl)).trans (v0_apply x t r k))
      ((congrArg _ (show ridx_main_v30 (ix3 t r f) k = ix3 t k f by funext a; fin_cases a <;> rfl)).trans (v18_apply b wu hb t k f))
  refine congrArg₂ (· * ·) ?_ ?_
  · refine (congrArg _ (show lidx_main_v32 (ix3 t r d) f = ix3 t r f by funext a; fin_cases a <;> rfl)).trans ?_
    rw [val_main_v31_apply, val_main_v29_apply, val_main_call0_v5_apply, val_main_call0_v4_apply, val_main_call0_v3_apply,
      val_main_call0_v2_apply, val_main_call0_v1_apply, val_main_call0_v0_apply, val_main_call0_cst_apply, val_main_call0_cst_0_apply,
      e28, e30]
    simp only [Ideal.mulf_def, Ideal.addf_def, Ideal.hostDivf_def, Ideal.hostUnary_exp_def, Ideal.hostNegf_def, Ideal.ofBits_def, Ideal.ofBits_one_f32]
    rfl
  · exact (congrArg _ (show ridx_main_v32 (ix3 t r d) f = ix3 t f d by funext a; fin_cases a <;> rfl)).trans (v27_apply b wd hb t f d)

/-- Whether a block's row is below the block's count. -/
theorem live_apply (t : Fin 256) (r d : Fin 1024) :
    val_main_call1_v1 (F := Ideal) n (ix3 t r d) = BitVec.ofBool ((BitVec.ofNat 32 (r : ℕ)).slt (n (ix1 t))) := by
  rw [val_main_call1_v1_apply, val_main_v39_apply, val_main_v38_apply, val_main_v36_apply, val_main_v37_apply, val_main_v35_apply,
    val_main_v34_apply, val_main_v33_apply]
  refine congrArg (fun j => BitVec.ofBool ((BitVec.ofNat 32 (r : ℕ)).slt (n j))) ?_
  funext a; fin_cases a; rfl

/-- The reference's rows at an index. -/
theorem v42_apply (hb : ∀ j, (b j : BitVec 32).toNat < 64) (i : Fin 262144) (d : Fin 1024) :
    val_main_v42 (F := Ideal) b n x wg wu wd (ix2 i d) = expertsAt b n x wg wu wd i d := by
  have hi := i.isLt
  have hd := d.isLt
  rw [val_main_v42_apply, Ideal.truncf_def, val_main_v41_apply]
  rw [show idx_main_v41 (ix2 i d) = ix3 (blkOf i) ⟨(i : ℕ) % 1024, Nat.mod_lt _ (by decide)⟩ d from by
    funext a
    refine Fin.ext ?_
    match a with
    | ⟨0, _⟩ => show ((i : ℕ) * 1024 + d) / 1048576 = i / 1024; omega
    | ⟨1, _⟩ => show ((i : ℕ) * 1024 + d) / 1024 % 1024 = i % 1024; omega
    | ⟨2, _⟩ => show ((i : ℕ) * 1024 + d) % 1024 = d; omega]
  rw [val_main_v40_apply, live_apply, v32_apply b x wg wu wd hb, val_main_call1_v2_apply, val_main_call1_v0_apply, val_main_cst_apply,
    Ideal.ofBits_def, Ideal.ofBits_zero_f32]
  have ei : (⟨1024 * (blkOf i : ℕ) + (⟨(i : ℕ) % 1024, Nat.mod_lt _ (by decide)⟩ : Fin 1024), by
      show 1024 * ((i : ℕ) / 1024) + (i : ℕ) % 1024 < 262144; omega⟩ : Fin 262144) = i :=
    Fin.ext (by show 1024 * ((i : ℕ) / 1024) + (i : ℕ) % 1024 = i; omega)
  rw [ei]
  unfold expertsAt Scalar.select
  cases (BitVec.ofNat 32 ((i : ℕ) % 1024)).slt (n (ix1 (blkOf i))) <;> rfl

/-- The reference's first result. -/
theorem v43_eq (hb : ∀ j, (b j : BitVec 32).toNat < 64) : val_main_v43 (F := Ideal) b n x wg wu wd = resLo b n x wg wu wd := by
  funext i
  obtain ⟨r, d, rfl⟩ : ∃ (r : Fin 262144) (d : Fin 512), i = ix2 r d := ⟨i 0, i 1, by funext a; fin_cases a <;> rfl⟩
  rw [val_main_v43_apply, show idx_main_v43 (ix2 r d) = ix2 r ⟨d, by omega⟩ from by funext a; fin_cases a <;> rfl, v42_apply b n x wg wu wd hb]
  rfl

/-- The reference's second result. -/
theorem v44_eq (hb : ∀ j, (b j : BitVec 32).toNat < 64) : val_main_v44 (F := Ideal) b n x wg wu wd = resHi b n x wg wu wd := by
  funext i
  obtain ⟨r, d, rfl⟩ : ∃ (r : Fin 262144) (d : Fin 512), i = ix2 r d := ⟨i 0, i 1, by funext a; fin_cases a <;> rfl⟩
  rw [val_main_v44_apply, show idx_main_v44 (ix2 r d) = ix2 r ⟨512 + d, by omega⟩ from by funext a; fin_cases a <;> rfl, v42_apply b n x wg wu wd hb]
  rfl

end Cert.Proof.Moe

end
-- ==== Proof.MoeClaims.lean ====
/-
  The experts and their reference leave the same two results, where every block names an expert.
-/
module

public import proofs.«01_k».proof.Defs
public import proofs.«01_k».proof.Proof.MoeRef
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Proof.Moe

open Idealize.ShloMosaic Idealize.ShloMosaic.TcCoe Idealize.ShloMosaic.Tactic Idealize.SL.Sem
attribute [local instance] Cert.Kernel2Ideal.Gen.facts Cert.Reference2Ideal.Gen.facts Cert.Pre_blocks_name_experts.Gen.facts

/-- The experts and their reference leave the same two results. -/
theorem algebraic2 : Cert.algebraic_Kernel2Ideal_Reference2Ideal := by
  pair_intro
  · run_from moe_run (m := m) ⟨(named_of (hpre 0)).1, (named_of (hpre 0)).2⟩ g
      & frame g (m := m) ⟨(named_of (hpre 0)).1, (named_of (hpre 0)).2⟩
  · run_from Cert.Reference2Ideal.Value.run m' g'
    · exact (Cert.Reference2Ideal.Read.val_main_v43_eq _ _ _ _ _ _).trans (v43_eq _ _ _ _ _ _ (named_of (hpre c)).1)
    · exact (Cert.Reference2Ideal.Read.val_main_v44_eq _ _ _ _ _ _).trans (v44_eq _ _ _ _ _ _ (named_of (hpre c)).1)

end Cert.Proof.Moe

end
-- ==== Proof.CombineBlock.lean ====
/-
  A block of the combination's result from the blocks that the body is given: the stream's row, plus the gate times the
  weighted sum of the token's six rows and the shared expert's feed-forward of the normalised row.
-/
module

public import proofs.«01_k».proof.Proof.MoeClaims
public import proofs.«01_k».proof.Proof.Gen.Kernel4Ideal.Value
public import Idealize.ShloMosaic.Lib.Pipeline.ValueKit

@[expose] public section

set_option maxRecDepth 16384

noncomputable section

namespace Cert.Kernel4Ideal.Combine

open Idealize.ShloMosaic Idealize.ShloMosaic.TcCoe Idealize.ShloMosaic.Tactic
open Cert.Kernel4Ideal Cert.Kernel4Ideal.Gen Cert.Hyena Cert.Proof.Moe

/-- The shared expert's block: the feed-forward of the normalised and modulated rows. -/
theorem shared_apply (x3 : Vec Ideal S1x512x1024 .f32) (x4 x5 : Vec Ideal S1x1x1024 .f32) (x7 x8 : Vec Ideal S1024x256 .f32)
    (x9 : Vec Ideal S256x1024 .f32) (r : Fin 512) (d : Fin 1024) :
    k0_pay3 (F := Ideal) (View.ld x3 r0_0) (View.ld x4 r0_1) (View.ld x5 r0_1) (View.ld x7 r0_2) (View.ld x8 r0_2) (View.ld x9 r0_3)
        (ix2 r d)
      = ffn (normRow (fun e => x3 (ix3 0 r e)) (fun e => x4 (ix3 0 0 e)) (fun e => x5 (ix3 0 0 e)))
          (fun k f => x7 (ix2 k f)) (fun k f => x8 (ix2 k f)) (fun f => x9 (ix2 f d)) := by
  pointwise [k0_pay3]
  rfl

/-- A token's row of one of its experts, from the halves of the rows. -/
def rowOf (x0 x1 : Vec Ideal S6x512x512 .bf16) (k : Fin 6) (r : Fin 512) (d : Fin 1024) : EReal :=
  if h : (d : ℕ) < 512 then x0 (ix3 k r ⟨d, h⟩) else x1 (ix3 k r ⟨d - 512, by omega⟩)

/-- The weighted sum of a token's rows, term after term. -/
def sumOf (x2 : Vec Ideal S1x512x8 .f32) (r : Fin 512) (y : Fin 6 → EReal) : EReal :=
  x2 (ix3 0 r 0) * y 0 + x2 (ix3 0 r 1) * y 1 + x2 (ix3 0 r 2) * y 2 + x2 (ix3 0 r 3) * y 3 + x2 (ix3 0 r 4) * y 4
    + x2 (ix3 0 r 5) * y 5

/-- The block's first quarter of the columns. -/
theorem quarter0_apply (S : FVec Ideal S512x1024 .f32) (x0 : Vec Ideal S6x512x512 .bf16) (x2 : Vec Ideal S1x512x8 .f32)
    (x3 : Vec Ideal S1x512x1024 .f32) (x6 : Vec Ideal S1x1x1024 .f32) (r : Fin 512) (d : Fin 256) :
    k0_pay44 (F := Ideal) S (k0_pay40 (k0_pay4 (View.ld x2 r0_4)) (k0_pay26 (k0_pay4 (View.ld x2 r0_4)) (k0_pay13 (View.ld x2 r0_4) (View.ld x0 r0_5) (View.ld x0 r0_6)) (View.ld x0 r0_7) (View.ld x0 r0_8)) (View.ld x0 r0_9) (View.ld x0 r0_10)) (View.ld x3 r0_11) (View.ld x6 r0_12)
        (ix3 0 r d)
      = x3 (ix3 0 r ⟨d, by omega⟩) + x6 (ix3 0 0 ⟨d, by omega⟩)
          * (sumOf x2 r (fun k => x0 (ix3 k r ⟨d, by omega⟩)) + S (ix2 r ⟨d, by omega⟩)) := by
  unfold sumOf
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- The block's second quarter of the columns. -/
theorem quarter1_apply (S : FVec Ideal S512x1024 .f32) (x0 : Vec Ideal S6x512x512 .bf16) (x2 : Vec Ideal S1x512x8 .f32)
    (x3 : Vec Ideal S1x512x1024 .f32) (x6 : Vec Ideal S1x1x1024 .f32) (r : Fin 512) (d : Fin 256) :
    k0_pay45 (F := Ideal) S (k0_pay32 (k0_pay4 (View.ld x2 r0_4)) (k0_pay27 (k0_pay4 (View.ld x2 r0_4)) (k0_pay14 (View.ld x2 r0_4) (View.ld x0 r0_5) (View.ld x0 r0_6)) (View.ld x0 r0_7) (View.ld x0 r0_8)) (View.ld x0 r0_9)) (k0_pay41 (k0_pay4 (View.ld x2 r0_4)) (View.ld x0 r0_10)) (View.ld x3 r0_13) (View.ld x6 r0_14)
        (ix3 0 r d)
      = x3 (ix3 0 r ⟨256 + d, by omega⟩) + x6 (ix3 0 0 ⟨256 + d, by omega⟩)
          * (sumOf x2 r (fun k => x0 (ix3 k r ⟨256 + d, by omega⟩)) + S (ix2 r ⟨256 + d, by omega⟩)) := by
  unfold sumOf
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- The block's third quarter of the columns. -/
theorem quarter2_apply (S : FVec Ideal S512x1024 .f32) (x1 : Vec Ideal S6x512x512 .bf16) (x2 : Vec Ideal S1x512x8 .f32)
    (x3 : Vec Ideal S1x512x1024 .f32) (x6 : Vec Ideal S1x1x1024 .f32) (r : Fin 512) (d : Fin 256) :
    k0_pay1 (F := Ideal) S (k0_pay42 (k0_pay33 (k0_pay4 (View.ld x2 r0_4)) (k0_pay19 (k0_pay4 (View.ld x2 r0_4)) (k0_pay15 (View.ld x2 r0_4) (View.ld x1 r0_5) (View.ld x1 r0_6)) (View.ld x1 r0_7)) (k0_pay24 (View.ld x1 r0_8)) (k0_pay28 (k0_pay4 (View.ld x2 r0_4))) (View.ld x1 r0_9)) (k0_pay35 (k0_pay4 (View.ld x2 r0_4))) (k0_pay38 (View.ld x1 r0_10))) (k0_pay46 (View.ld x3 r0_15)) (View.ld x6 r0_16)
        (ix3 0 r d)
      = x3 (ix3 0 r ⟨512 + d, by omega⟩) + x6 (ix3 0 0 ⟨512 + d, by omega⟩)
          * (sumOf x2 r (fun k => x1 (ix3 k r ⟨d, by omega⟩)) + S (ix2 r ⟨512 + d, by omega⟩)) := by
  unfold sumOf
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- The block's fourth quarter of the columns. -/
theorem quarter3_apply (S : FVec Ideal S512x1024 .f32) (x1 : Vec Ideal S6x512x512 .bf16) (x2 : Vec Ideal S1x512x8 .f32)
    (x3 : Vec Ideal S1x512x1024 .f32) (x6 : Vec Ideal S1x1x1024 .f32) (r : Fin 512) (d : Fin 256) :
    k0_pay2 (F := Ideal) S (k0_pay43 (k0_pay34 (k0_pay4 (View.ld x2 r0_4)) (k0_pay20 (k0_pay4 (View.ld x2 r0_4)) (k0_pay8 (View.ld x2 r0_4) (View.ld x1 r0_5)) (k0_pay9 (View.ld x2 r0_4)) (k0_pay12 (View.ld x1 r0_6)) (View.ld x1 r0_7)) (k0_pay21 (k0_pay4 (View.ld x2 r0_4))) (k0_pay25 (View.ld x1 r0_8)) (View.ld x1 r0_9)) (k0_pay35 (k0_pay4 (View.ld x2 r0_4))) (k0_pay39 (View.ld x1 r0_10))) (View.ld x3 r0_17) (View.ld x6 r0_18)
        (ix3 0 r d)
      = x3 (ix3 0 r ⟨768 + d, by omega⟩) + x6 (ix3 0 0 ⟨768 + d, by omega⟩)
          * (sumOf x2 r (fun k => x1 (ix3 k r ⟨256 + d, by omega⟩)) + S (ix2 r ⟨768 + d, by omega⟩)) := by
  unfold sumOf
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

end Cert.Kernel4Ideal.Combine

end
-- ==== Proof.CombineValue.lean ====
/-
  The combination's result array: every token's row of the stream, plus the gate times the weighted sum of its six experts'
  rows and the shared expert's feed-forward.
-/
module

public import proofs.«01_k».proof.Proof.CombineBlock
public import Idealize.ShloMosaic.Lib.StableHlo.ReadAt

@[expose] public section

set_option maxRecDepth 16384

noncomputable section

namespace Cert.Combine

open Idealize.ShloMosaic Cert.Hyena

/-- The experts' rows, six for each token. -/
abbrev Rows := FVec Ideal ⟨3, ![6, 32768, 1024]⟩ .f32
/-- The weights of a token's experts. -/
abbrev Wts := FVec Ideal ⟨3, ![8, 4096, 6]⟩ .f32
/-- A weight of the shared expert, into its hidden width. -/
abbrev SIn := FVec Ideal ⟨2, ![1024, 256]⟩ .f32
/-- The shared expert's weight back. -/
abbrev SOut := FVec Ideal ⟨2, ![256, 1024]⟩ .f32

/-- The combination at a batch entry, a token and a column. -/
def mixAt (y : Rows) (w : Wts) (x : Acts) (s c g : Mods) (wg wu : SIn) (wd : SOut) (b : Fin 8) (n : Fin 4096) (d : Fin 1024) : EReal :=
  x (ix3 b n d) + g (ix3 b 0 d)
    * ((∑ k : Fin 6, w (ix3 b n k) * y (ix3 k ⟨4096 * b + n, by omega⟩ d))
      + Cert.Proof.Moe.ffn (normRow (fun e => x (ix3 b n e)) (fun e => s (ix3 b 0 e)) (fun e => c (ix3 b 0 e)))
          (fun k f => wg (ix2 k f)) (fun k f => wu (ix2 k f)) (fun f => wd (ix2 f d)))

end Cert.Combine

namespace Cert.Kernel4Ideal.Combine

open Idealize.ShloMosaic Idealize.ShloMosaic.TcCoe Idealize.ShloMosaic.Tactic
open Cert.Kernel4Ideal Cert.Kernel4Ideal.Gen Cert.Hyena Cert.Combine
open Cert.Proof.Moe (ffn)

/-- A block's result at a row and a column. -/
def blockAt (x0 x1 : Vec Ideal S6x512x512 .bf16) (x2 : Vec Ideal S1x512x8 .f32) (x3 : Vec Ideal S1x512x1024 .f32)
    (x4 x5 x6 : Vec Ideal S1x1x1024 .f32) (x7 x8 : Vec Ideal S1024x256 .f32) (x9 : Vec Ideal S256x1024 .f32) (r : Fin 512) (d : Fin 1024) : EReal :=
  x3 (ix3 0 r d) + x6 (ix3 0 0 d) * (sumOf x2 r (fun k => rowOf x0 x1 k r d)
    + ffn (normRow (fun e => x3 (ix3 0 r e)) (fun e => x4 (ix3 0 0 e)) (fun e => x5 (ix3 0 0 e)))
          (fun k f => x7 (ix2 k f)) (fun k f => x8 (ix2 k f)) (fun f => x9 (ix2 f d)))

variable (x0 x1 : Vec Ideal S6x512x512 .bf16) (x2 : Vec Ideal S1x512x8 .f32) (x3 : Vec Ideal S1x512x1024 .f32)
    (x4 x5 x6 : Vec Ideal S1x1x1024 .f32) (x7 x8 : Vec Ideal S1024x256 .f32) (x9 : Vec Ideal S256x1024 .f32)

/-- A quarter of a block's columns, at an index whose place is known. -/
theorem piece_apply (q : ℕ) (hq : q ≤ 768) (p : FVec Ideal S1x512x256 .f32) (f : Fin 512 → Fin 1024 → EReal)
    (hp : ∀ (r : Fin 512) (d : Fin 256), p (ix3 0 r d) = f r ⟨q + d, by omega⟩) (z : S1x512x256.Idx) (a : Fin 512) (e : Fin 1024)
    (ha : (a : ℕ) = (z 1 : Fin 512)) (he : (e : ℕ) = q + (z 2 : Fin 256)) : p z = f a e := by
  have hz : z = ix3 0 (z 1) (z 2) := by
    funext i
    fin_cases i
    · exact Subsingleton.elim (α := Fin 1) _ _
    · rfl
    · rfl
  refine (congrArg p hz).trans ((hp _ _).trans ?_)
  exact congrArg₂ f (Fin.ext ha.symm) (Fin.ext he.symm)

/-- The first quarter is the block's. -/
theorem quarter0_eq (r : Fin 512) (d : Fin 256) :
    k0_pay44 (F := Ideal) (k0_pay3 (View.ld x3 r0_0) (View.ld x4 r0_1) (View.ld x5 r0_1) (View.ld x7 r0_2) (View.ld x8 r0_2) (View.ld x9 r0_3)) (k0_pay40 (k0_pay4 (View.ld x2 r0_4)) (k0_pay26 (k0_pay4 (View.ld x2 r0_4)) (k0_pay13 (View.ld x2 r0_4) (View.ld x0 r0_5) (View.ld x0 r0_6)) (View.ld x0 r0_7) (View.ld x0 r0_8)) (View.ld x0 r0_9) (View.ld x0 r0_10)) (View.ld x3 r0_11) (View.ld x6 r0_12)
        (ix3 0 r d) = blockAt x0 x1 x2 x3 x4 x5 x6 x7 x8 x9 r ⟨0 + d, by omega⟩ := by
  have hd := d.isLt
  have hr (k : Fin 6) : rowOf x0 x1 k r ⟨0 + d, by omega⟩ = x0 (ix3 k r ⟨0 + d, by omega⟩) := by
    unfold rowOf
    rw [dif_pos (show 0 + (d : ℕ) < 512 by omega)]
  have h0 : (⟨d, by omega⟩ : Fin 512) = ⟨0 + d, by omega⟩ := Fin.ext (Nat.zero_add _).symm
  have h1 : (⟨d, by omega⟩ : Fin 1024) = ⟨0 + d, by omega⟩ := Fin.ext (Nat.zero_add _).symm
  rw [quarter0_apply]
  unfold blockAt
  simp only [hr]
  try simp only [h0, h1]
  rw [shared_apply]

/-- The second quarter is the block's. -/
theorem quarter1_eq (r : Fin 512) (d : Fin 256) :
    k0_pay45 (F := Ideal) (k0_pay3 (View.ld x3 r0_0) (View.ld x4 r0_1) (View.ld x5 r0_1) (View.ld x7 r0_2) (View.ld x8 r0_2) (View.ld x9 r0_3)) (k0_pay32 (k0_pay4 (View.ld x2 r0_4)) (k0_pay27 (k0_pay4 (View.ld x2 r0_4)) (k0_pay14 (View.ld x2 r0_4) (View.ld x0 r0_5) (View.ld x0 r0_6)) (View.ld x0 r0_7) (View.ld x0 r0_8)) (View.ld x0 r0_9)) (k0_pay41 (k0_pay4 (View.ld x2 r0_4)) (View.ld x0 r0_10)) (View.ld x3 r0_13) (View.ld x6 r0_14)
        (ix3 0 r d) = blockAt x0 x1 x2 x3 x4 x5 x6 x7 x8 x9 r ⟨256 + d, by omega⟩ := by
  have hd := d.isLt
  have hr (k : Fin 6) : rowOf x0 x1 k r ⟨256 + d, by omega⟩ = x0 (ix3 k r ⟨256 + d, by omega⟩) := by
    unfold rowOf
    rw [dif_pos (show 256 + (d : ℕ) < 512 by omega)]
  have h0 : (⟨d, by omega⟩ : Fin 512) = ⟨0 + d, by omega⟩ := Fin.ext (Nat.zero_add _).symm
  have h1 : (⟨d, by omega⟩ : Fin 1024) = ⟨0 + d, by omega⟩ := Fin.ext (Nat.zero_add _).symm
  rw [quarter1_apply]
  unfold blockAt
  simp only [hr]
  try simp only [h0, h1]
  rw [shared_apply]

/-- The third quarter is the block's. -/
theorem quarter2_eq (r : Fin 512) (d : Fin 256) :
    k0_pay1 (F := Ideal) (k0_pay3 (View.ld x3 r0_0) (View.ld x4 r0_1) (View.ld x5 r0_1) (View.ld x7 r0_2) (View.ld x8 r0_2) (View.ld x9 r0_3)) (k0_pay42 (k0_pay33 (k0_pay4 (View.ld x2 r0_4)) (k0_pay19 (k0_pay4 (View.ld x2 r0_4)) (k0_pay15 (View.ld x2 r0_4) (View.ld x1 r0_5) (View.ld x1 r0_6)) (View.ld x1 r0_7)) (k0_pay24 (View.ld x1 r0_8)) (k0_pay28 (k0_pay4 (View.ld x2 r0_4))) (View.ld x1 r0_9)) (k0_pay35 (k0_pay4 (View.ld x2 r0_4))) (k0_pay38 (View.ld x1 r0_10))) (k0_pay46 (View.ld x3 r0_15)) (View.ld x6 r0_16)
        (ix3 0 r d) = blockAt x0 x1 x2 x3 x4 x5 x6 x7 x8 x9 r ⟨512 + d, by omega⟩ := by
  have hd := d.isLt
  have hr (k : Fin 6) : rowOf x0 x1 k r ⟨512 + d, by omega⟩ = x1 (ix3 k r ⟨0 + d, by omega⟩) := by
    unfold rowOf
    rw [dif_neg (show ¬ 512 + (d : ℕ) < 512 by omega)]
    exact congrArg (fun j => x1 (ix3 k r j)) (Fin.ext (show 512 + (d : ℕ) - 512 = 0 + d by omega))
  have h0 : (⟨d, by omega⟩ : Fin 512) = ⟨0 + d, by omega⟩ := Fin.ext (Nat.zero_add _).symm
  have h1 : (⟨d, by omega⟩ : Fin 1024) = ⟨0 + d, by omega⟩ := Fin.ext (Nat.zero_add _).symm
  rw [quarter2_apply]
  unfold blockAt
  simp only [hr]
  try simp only [h0, h1]
  rw [shared_apply]

/-- The fourth quarter is the block's. -/
theorem quarter3_eq (r : Fin 512) (d : Fin 256) :
    k0_pay2 (F := Ideal) (k0_pay3 (View.ld x3 r0_0) (View.ld x4 r0_1) (View.ld x5 r0_1) (View.ld x7 r0_2) (View.ld x8 r0_2) (View.ld x9 r0_3)) (k0_pay43 (k0_pay34 (k0_pay4 (View.ld x2 r0_4)) (k0_pay20 (k0_pay4 (View.ld x2 r0_4)) (k0_pay8 (View.ld x2 r0_4) (View.ld x1 r0_5)) (k0_pay9 (View.ld x2 r0_4)) (k0_pay12 (View.ld x1 r0_6)) (View.ld x1 r0_7)) (k0_pay21 (k0_pay4 (View.ld x2 r0_4))) (k0_pay25 (View.ld x1 r0_8)) (View.ld x1 r0_9)) (k0_pay35 (k0_pay4 (View.ld x2 r0_4))) (k0_pay39 (View.ld x1 r0_10))) (View.ld x3 r0_17) (View.ld x6 r0_18)
        (ix3 0 r d) = blockAt x0 x1 x2 x3 x4 x5 x6 x7 x8 x9 r ⟨768 + d, by omega⟩ := by
  have hd := d.isLt
  have hr (k : Fin 6) : rowOf x0 x1 k r ⟨768 + d, by omega⟩ = x1 (ix3 k r ⟨256 + d, by omega⟩) := by
    unfold rowOf
    rw [dif_neg (show ¬ 768 + (d : ℕ) < 512 by omega)]
    exact congrArg (fun j => x1 (ix3 k r j)) (Fin.ext (show 768 + (d : ℕ) - 512 = 256 + d by omega))
  have h0 : (⟨d, by omega⟩ : Fin 512) = ⟨0 + d, by omega⟩ := Fin.ext (Nat.zero_add _).symm
  have h1 : (⟨d, by omega⟩ : Fin 1024) = ⟨0 + d, by omega⟩ := Fin.ext (Nat.zero_add _).symm
  rw [quarter3_apply]
  unfold blockAt
  simp only [hr]
  try simp only [h0, h1]
  rw [shared_apply]

/-- What the body leaves of a block. -/
theorem out_apply (y : S1x512x1024.Idx) :
    out0_10 (F := Ideal) x0 x1 x2 x3 x4 x5 x6 x7 x8 x9 y = blockAt x0 x1 x2 x3 x4 x5 x6 x7 x8 x9 (y 1) (y 2) := by
  unfold_out out0_10
  canon_tiles y h
  · exact piece_apply 768 (by decide) _ _ (quarter3_eq x0 x1 x2 x3 x4 x5 x6 x7 x8 x9) _ _ _ h1 h2
  · exact piece_apply 512 (by decide) _ _ (quarter2_eq x0 x1 x2 x3 x4 x5 x6 x7 x8 x9) _ _ _ h1 h2
  · exact piece_apply 256 (by decide) _ _ (quarter1_eq x0 x1 x2 x3 x4 x5 x6 x7 x8 x9) _ _ _ h1 h2
  · exact piece_apply 0 (by decide) _ _ (quarter0_eq x0 x1 x2 x3 x4 x5 x6 x7 x8 x9) _ _ _ h1 (h2.trans (Nat.zero_add _).symm)

/-- The rows' first halves' block of a grid point. -/
theorem idx0 : ∀ t : Fin cfg0.N, win0_0.index t = ![0, (t : ℕ), 0] := by decide +kernel
/-- Their second halves'. -/
theorem idx1 : ∀ t : Fin cfg0.N, win0_1.index t = ![0, (t : ℕ), 0] := by decide +kernel
/-- The experts' weights' block. -/
theorem idx2 : ∀ t : Fin cfg0.N, win0_2.index t = ![(t : ℕ) / 8, (t : ℕ) % 8, 0] := by decide +kernel
/-- The stream's block. -/
theorem idx3 : ∀ t : Fin cfg0.N, win0_3.index t = ![(t : ℕ) / 8, (t : ℕ) % 8, 0] := by decide +kernel
/-- The shift's block. -/
theorem idx4 : ∀ t : Fin cfg0.N, win0_4.index t = ![(t : ℕ) / 8, 0, 0] := by decide +kernel
/-- The scale's block. -/
theorem idx5 : ∀ t : Fin cfg0.N, win0_5.index t = ![(t : ℕ) / 8, 0, 0] := by decide +kernel
/-- The gate's block. -/
theorem idx6 : ∀ t : Fin cfg0.N, win0_6.index t = ![(t : ℕ) / 8, 0, 0] := by decide +kernel
/-- The shared expert's gate weights are one block. -/
theorem idx7 : ∀ t : Fin cfg0.N, win0_7.index t = ![0, 0] := by decide +kernel
/-- Its other weights in are one block. -/
theorem idx8 : ∀ t : Fin cfg0.N, win0_8.index t = ![0, 0] := by decide +kernel
/-- Its weights back are one block. -/
theorem idx9 : ∀ t : Fin cfg0.N, win0_9.index t = ![0, 0] := by decide +kernel
/-- The result's block. -/
theorem idx10 : ∀ t : Fin cfg0.N, win0_10.index t = ![(t : ℕ) / 8, (t : ℕ) % 8, 0] := by decide +kernel

/-- The batch entry of a grid point. -/
abbrev pb (t : Fin cfg0.N) : Fin 8 := ⟨(t : ℕ) / 8, by have : (t : ℕ) < 64 := t.isLt; omega⟩
/-- A token of a grid point. -/
abbrev pn (t : Fin cfg0.N) (r : Fin 512) : Fin 4096 := ⟨512 * ((t : ℕ) % 8) + r, by have := r.isLt; omega⟩
/-- That token among all batch entries'. -/
abbrev pf (t : Fin cfg0.N) (r : Fin 512) : Fin 32768 :=
  ⟨4096 * (pb t : ℕ) + (pn t r : ℕ), by have := (pb t).isLt; have := (pn t r).isLt; omega⟩

/-- The first halves of a block's rows. -/
theorem read0 (A : FVec Ideal S6x32768x512 .bf16) (t : Fin cfg0.N) (k : Fin 6) (r : Fin 512) (d : Fin 512) :
    (win0_0.blk t).view.read (Elt Ideal) A (ix3 k r d) = A (ix3 k (pf t r) d) := by
  have : (t : ℕ) < 64 := t.isLt
  have e : pf t r = ⟨512 * (t : ℕ) + r, by omega⟩ := Fin.ext (by
    show 4096 * ((t : ℕ) / 8) + (512 * ((t : ℕ) % 8) + r) = 512 * (t : ℕ) + r
    omega)
  rw [e]
  blk_ext [idx0 t]
/-- The second halves of a block's rows. -/
theorem read1 (A : FVec Ideal S6x32768x512 .bf16) (t : Fin cfg0.N) (k : Fin 6) (r : Fin 512) (d : Fin 512) :
    (win0_1.blk t).view.read (Elt Ideal) A (ix3 k r d) = A (ix3 k (pf t r) d) := by
  have : (t : ℕ) < 64 := t.isLt
  have e : pf t r = ⟨512 * (t : ℕ) + r, by omega⟩ := Fin.ext (by
    show 4096 * ((t : ℕ) / 8) + (512 * ((t : ℕ) % 8) + r) = 512 * (t : ℕ) + r
    omega)
  rw [e]
  blk_ext [idx1 t]
/-- The weights of a block's experts. -/
theorem read2 (A : FVec Ideal S8x4096x8 .f32) (t : Fin cfg0.N) (r : Fin 512) (k : Fin 8) :
    (win0_2.blk t).view.read (Elt Ideal) A (ix3 0 r k) = A (ix3 (pb t) (pn t r) k) := by
  blk_ext [idx2 t]
/-- A block of the stream. -/
theorem read3 (A : Acts) (t : Fin cfg0.N) (r : Fin 512) (d : Fin 1024) :
    (win0_3.blk t).view.read (Elt Ideal) A (ix3 0 r d) = A (ix3 (pb t) (pn t r) d) := by
  blk_ext [idx3 t]
/-- The shift of a batch entry. -/
theorem read4 (A : Mods) (t : Fin cfg0.N) (d : Fin 1024) :
    (win0_4.blk t).view.read (Elt Ideal) A (ix3 0 0 d) = A (ix3 (pb t) 0 d) := by
  blk_ext [idx4 t]
/-- The scale of a batch entry. -/
theorem read5 (A : Mods) (t : Fin cfg0.N) (d : Fin 1024) :
    (win0_5.blk t).view.read (Elt Ideal) A (ix3 0 0 d) = A (ix3 (pb t) 0 d) := by
  blk_ext [idx5 t]
/-- The gate of a batch entry. -/
theorem read6 (A : Mods) (t : Fin cfg0.N) (d : Fin 1024) :
    (win0_6.blk t).view.read (Elt Ideal) A (ix3 0 0 d) = A (ix3 (pb t) 0 d) := by
  blk_ext [idx6 t]
/-- The shared expert's gate weights. -/
theorem read7 (A : SIn) (t : Fin cfg0.N) (e : Fin 1024) (f : Fin 256) :
    (win0_7.blk t).view.read (Elt Ideal) A (ix2 e f) = A (ix2 e f) := by
  blk_ext [idx7 t]
/-- The shared expert's other weights in. -/
theorem read8 (A : SIn) (t : Fin cfg0.N) (e : Fin 1024) (f : Fin 256) :
    (win0_8.blk t).view.read (Elt Ideal) A (ix2 e f) = A (ix2 e f) := by
  blk_ext [idx8 t]
/-- The shared expert's weights back. -/
theorem read9 (A : SOut) (t : Fin cfg0.N) (e : Fin 256) (f : Fin 1024) :
    (win0_9.blk t).view.read (Elt Ideal) A (ix2 e f) = A (ix2 e f) := by
  blk_ext [idx9 t]

variable (m : (ℓ : Loc nD τ sig) → Buf (Elt Ideal) ℓ) (c : Dev nD)

/-- The program's experts' rows. -/
abbrev argY : Rows := m ((c.tc : Thread nD τ).loc main_arg0)
/-- The program's experts' weights. -/
abbrev argK : Wts := m ((c.tc : Thread nD τ).loc main_arg1)
/-- The program's stream. -/
abbrev argX : Acts := m ((c.tc : Thread nD τ).loc main_arg2)
/-- The program's shift. -/
abbrev argS : Mods := m ((c.tc : Thread nD τ).loc main_arg3)
/-- The program's scale. -/
abbrev argC : Mods := m ((c.tc : Thread nD τ).loc main_arg4)
/-- The program's gate. -/
abbrev argG : Mods := m ((c.tc : Thread nD τ).loc main_arg5)
/-- The program's shared expert's gate weights. -/
abbrev argWg : SIn := m ((c.tc : Thread nD τ).loc main_arg6)
/-- The program's shared expert's other weights in. -/
abbrev argWu : SIn := m ((c.tc : Thread nD τ).loc main_arg7)
/-- The program's shared expert's weights back. -/
abbrev argWd : SOut := m ((c.tc : Thread nD τ).loc main_arg8)

/-- The rows' first halves that the call is entered with. -/
def entLo : FVec Ideal S6x32768x512 .bf16 := V m c main_v1
/-- Their second halves. -/
def entHi : FVec Ideal S6x32768x512 .bf16 := V m c main_v3
/-- The experts' weights that the call is entered with, in eight slots. -/
def entK : FVec Ideal S8x4096x8 .f32 := V m c main_v5

/-- The entered first halves are the arguments'. -/
theorem entLo_apply (k : Fin 6) (i : Fin 32768) (d : Fin 512) : entLo m c (ix3 k i d) = argY m c (ix3 k i ⟨d, by omega⟩) := by
  unfold entLo V
  after_reads_at
  try pointwise
/-- The entered second halves are the arguments'. -/
theorem entHi_apply (k : Fin 6) (i : Fin 32768) (d : Fin 512) : entHi m c (ix3 k i d) = argY m c (ix3 k i ⟨512 + d, by omega⟩) := by
  unfold entHi V
  after_reads_at
  try pointwise
/-- The first six slots hold the arguments' weights. -/
theorem entK_apply (b : Fin 8) (n : Fin 4096) (k : Fin 6) : entK m c (ix3 b n ⟨k, by omega⟩) = argK m c (ix3 b n k) := by
  unfold entK V
  after_reads_at
  try pointwise

/-- A block's result from blocks that hold the program's arrays. -/
theorem block_mix (y : Rows) (w : Wts) (x : Acts) (s c g : Mods) (wg wu : SIn) (wd : SOut) (b : Fin 8) (n : Fin 4096) (r : Fin 512)
    (d : Fin 1024)
    (h0 : ∀ k (l : Fin 512), x0 (ix3 k r l) = y (ix3 k ⟨4096 * b + n, by omega⟩ ⟨l, by omega⟩))
    (h1 : ∀ k (l : Fin 512), x1 (ix3 k r l) = y (ix3 k ⟨4096 * b + n, by omega⟩ ⟨512 + l, by omega⟩))
    (h2 : ∀ k : Fin 6, x2 (ix3 0 r ⟨k, by omega⟩) = w (ix3 b n k)) (h3 : ∀ e, x3 (ix3 0 r e) = x (ix3 b n e))
    (h4 : ∀ e, x4 (ix3 0 0 e) = s (ix3 b 0 e)) (h5 : ∀ e, x5 (ix3 0 0 e) = c (ix3 b 0 e)) (h6 : ∀ e, x6 (ix3 0 0 e) = g (ix3 b 0 e))
    (h7 : ∀ k f, x7 (ix2 k f) = wg (ix2 k f)) (h8 : ∀ k f, x8 (ix2 k f) = wu (ix2 k f)) (h9 : ∀ f e, x9 (ix2 f e) = wd (ix2 f e)) :
    blockAt x0 x1 x2 x3 x4 x5 x6 x7 x8 x9 r d = mixAt y w x s c g wg wu wd b n d := by
  have hrow (k : Fin 6) : rowOf x0 x1 k r d = y (ix3 k ⟨4096 * b + n, by omega⟩ d) := by
    have hd := d.isLt
    unfold rowOf
    split
    · exact h0 k _
    · exact (h1 k _).trans (congrArg (fun j => y (ix3 k _ j)) (Fin.ext (show 512 + ((d : ℕ) - 512) = d by omega)))
  have hsum : sumOf x2 r (fun k => rowOf x0 x1 k r d) = ∑ k : Fin 6, w (ix3 b n k) * y (ix3 k ⟨4096 * b + n, by omega⟩ d) := by
    rw [Fin.sum_univ_six]
    unfold sumOf
    simp only [hrow]
    rw [← h2 0, ← h2 1, ← h2 2, ← h2 3, ← h2 4, ← h2 5]
    rfl
  unfold blockAt mixAt
  rw [hsum]
  simp only [h3, h4, h5, h6, h7, h8, h9]

/-- The result of the call. -/
def result : FVec Ideal S8x4096x1024 .f32 := fun i =>
  mixAt (argY m c) (argK m c) (argX m c) (argS m c) (argC m c) (argG m c) (argWg m c) (argWu m c) (argWd m c) (i 0) (i 1) (i 2)

/-- A block's index, by its row and column. -/
theorem idx_eq (y : S1x512x1024.Idx) : ∃ (r : Fin 512) (d : Fin 1024), y = ix3 0 r d := ⟨y 1, y 2, by
  funext i
  fin_cases i
  · exact Subsingleton.elim (α := Fin 1) _ _
  · rfl
  · rfl⟩

/-- The result array of the call. -/
theorem result_eq : (dats m 0 c).arrAt 10 cfg0.N = result m c := by
  refine (dats m 0 c).arrAt_eq_of_covers 10 _ (by decide +kernel) fun t hf y => ?_
  blk_simp
  rw [after0_10, out_apply]
  obtain ⟨r, d, rfl⟩ := idx_eq y
  have e : (win0_10.blk t).view.emb (ix3 0 r d) = ix3 (pb t) (pn t r) d := by blk_ext [idx10 t]
  refine Eq.trans ?_ (congrArg (result m c) e).symm
  exact block_mix _ _ _ _ _ _ _ _ _ _ (argY m c) (argK m c) (argX m c) (argS m c) (argC m c) (argG m c) (argWg m c) (argWu m c)
    (argWd m c) (pb t) (pn t r) r d
    (fun k l => (read0 (entLo m c) t k r l).trans (entLo_apply m c k (pf t r) l))
    (fun k l => (read1 (entHi m c) t k r l).trans (entHi_apply m c k (pf t r) l))
    (fun k => (read2 (entK m c) t r ⟨k, by omega⟩).trans (entK_apply m c (pb t) (pn t r) k))
    (read3 (argX m c) t r) (read4 (argS m c) t) (read5 (argC m c) t) (read6 (argG m c) t) (read7 (argWg m c) t)
    (read8 (argWu m c) t) (read9 (argWd m c) t)

end Cert.Kernel4Ideal.Combine

end
-- ==== Proof.CombineRef.lean ====
/-
  The combination's reference, at an index: the same sum of the stream and the gated mixture.
-/
module

public import proofs.«01_k».proof.Proof.CombineValue
public import proofs.«01_k».proof.Proof.Gen.Reference4Ideal.Read

@[expose] public section

set_option maxRecDepth 16384

noncomputable section

namespace Cert.Combine

open Idealize.ShloMosaic Idealize.ShloMosaic.TcCoe Idealize.ShloMosaic.Tactic
open Cert.Reference4Ideal Cert.Reference4Ideal.Read Cert.Hyena
open Cert.Proof.Moe (ffn)

variable (y : Rows) (w : Wts) (x : Acts) (s c g : Mods) (wg wu : SIn) (wd : SOut)

/-- The reference's normalised and modulated row. -/
theorem v15_apply (b : Fin 8) (n : Fin 4096) (d : Fin 1024) :
    val_main_v15 (F := Ideal) x s c (ix3 b n d)
      = normRow (fun e => x (ix3 b n e)) (fun e => s (ix3 b 0 e)) (fun e => c (ix3 b 0 e)) d := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2]
  rfl

/-- The shared expert's feed-forward of a token. -/
theorem v20_apply (b : Fin 8) (n : Fin 4096) (d : Fin 1024) :
    val_main_v20 (F := Ideal) x s c wg wu wd (ix3 b n d)
      = ffn (normRow (fun e => x (ix3 b n e)) (fun e => s (ix3 b 0 e)) (fun e => c (ix3 b 0 e)))
          (fun k f => wg (ix2 k f)) (fun k f => wu (ix2 k f)) (fun f => wd (ix2 f d)) := by
  rw [val_main_v20_apply]
  unfold ffn
  refine Finset.sum_congr rfl fun f _ => ?_
  have e17 : val_main_v17 (F := Ideal) x s c wg (ix3 b n f)
      = ∑ k : Fin 1024, normRow (fun e => x (ix3 b n e)) (fun e => s (ix3 b 0 e)) (fun e => c (ix3 b 0 e)) k * wg (ix2 k f) := by
    rw [val_main_v17_apply]
    exact Finset.sum_congr rfl fun k _ => congrArg₂ (· * ·)
      ((congrArg _ (show lidx_main_v17 (ix3 b n f) k = ix3 b n k by funext a; fin_cases a <;> rfl)).trans (v15_apply x s c b n k))
      (congrArg _ (show ridx_main_v17 (ix3 b n f) k = ix2 k f by funext a; fin_cases a <;> rfl))
  have e16 : val_main_v16 (F := Ideal) x s c wu (ix3 b n f)
      = ∑ k : Fin 1024, normRow (fun e => x (ix3 b n e)) (fun e => s (ix3 b 0 e)) (fun e => c (ix3 b 0 e)) k * wu (ix2 k f) := by
    rw [val_main_v16_apply]
    exact Finset.sum_congr rfl fun k _ => congrArg₂ (· * ·)
      ((congrArg _ (show lidx_main_v16 (ix3 b n f) k = ix3 b n k by funext a; fin_cases a <;> rfl)).trans (v15_apply x s c b n k))
      (congrArg _ (show ridx_main_v16 (ix3 b n f) k = ix2 k f by funext a; fin_cases a <;> rfl))
  refine congrArg₂ (· * ·) ?_ (congrArg _ (show ridx_main_v20 (ix3 b n d) f = ix2 f d by funext a; fin_cases a <;> rfl))
  refine (congrArg _ (show lidx_main_v20 (ix3 b n d) f = ix3 b n f by funext a; fin_cases a <;> rfl)).trans ?_
  rw [val_main_v19_apply, val_main_v18_apply, val_main_call0_v5_apply, val_main_call0_v4_apply, val_main_call0_v3_apply,
    val_main_call0_v2_apply, val_main_call0_v1_apply, val_main_call0_v0_apply, val_main_call0_cst_apply, val_main_call0_cst_0_apply,
    e16, e17]
  simp only [Ideal.mulf_def, Ideal.addf_def, Ideal.hostDivf_def, Ideal.hostUnary_exp_def, Ideal.hostNegf_def, Ideal.ofBits_def,
    Ideal.ofBits_one_f32]
  rfl

/-- The weighted sum of a token's rows. -/
theorem v22_apply (b : Fin 8) (n : Fin 4096) (d : Fin 1024) :
    val_main_v22 (F := Ideal) y w (ix3 b n d) = ∑ k : Fin 6, w (ix3 b n k) * y (ix3 k ⟨4096 * b + n, by omega⟩ d) := by
  rw [val_main_v22_apply]
  refine Finset.sum_congr rfl fun k _ => congrArg₂ (· * ·)
    (congrArg _ (show lidx_main_v22 (ix3 b n d) k = ix3 b n k by funext a; fin_cases a <;> rfl)) ?_
  refine (congrArg _ (show ridx_main_v22 (ix3 b n d) k = ix4 k b n d by funext a; fin_cases a <;> rfl)).trans ?_
  rw [val_main_v21_apply]
  refine congrArg y (funext fun a => Fin.ext ?_)
  have hk := k.isLt
  have hb := b.isLt
  have hn := n.isLt
  have hd := d.isLt
  match a with
  | ⟨0, _⟩ => show ((((k : ℕ) * 8 + b) * 4096 + n) * 1024 + d) / 33554432 = k; omega
  | ⟨1, _⟩ => show ((((k : ℕ) * 8 + b) * 4096 + n) * 1024 + d) / 1024 % 32768 = 4096 * b + n; omega
  | ⟨2, _⟩ => show ((((k : ℕ) * 8 + b) * 4096 + n) * 1024 + d) % 1024 = d; omega

/-- The reference's result. -/
theorem v26_eq : val_main_v26 (F := Ideal) y w x s c g wg wu wd
    = fun i => mixAt y w x s c g wg wu wd (i 0) (i 1) (i 2) := by
  funext i
  obtain ⟨b, n, d, rfl⟩ : ∃ (b : Fin 8) (n : Fin 4096) (d : Fin 1024), i = ix3 b n d :=
    ⟨i 0, i 1, i 2, by funext a; fin_cases a <;> rfl⟩
  rw [val_main_v26_apply, val_main_v25_apply, val_main_v24_apply, val_main_v23_apply, v22_apply, v20_apply,
    show idx_main_v24 (ix3 b n d) = ix3 b 0 d from by funext a; fin_cases a <;> rfl]
  rfl

end Cert.Combine

end
-- ==== Proof.CombineClaims.lean ====
/-
  The combination and its reference leave the same result.
-/
module

public import proofs.«01_k».proof.Defs
public import proofs.«01_k».proof.Proof.CombineRef
public import proofs.«01_k».proof.Proof.Gen.Reference4Ideal
public import proofs.«01_k».proof.Proof.Gen.Reference4Ideal.Run
public import Idealize.ShloMosaic.Lib.Claim

@[expose] public section

noncomputable section

namespace Cert.Combine

open Idealize.ShloMosaic Idealize.ShloMosaic.TcCoe Idealize.ShloMosaic.Tactic Idealize.SL.Sem
attribute [local instance] Cert.Kernel4Ideal.Gen.facts Cert.Reference4Ideal.Gen.facts

/-- The call leaves the combination of its arguments. -/
theorem combine_run (m : (ℓ : Loc Cert.Kernel4Ideal.nD Cert.Kernel4Ideal.τ Cert.Kernel4Ideal.sig) → Buf (Elt Ideal) ℓ)
    (g : Dev Cert.Kernel4Ideal.nD → PrngReg) :
    θ_run (Cert.Kernel4Ideal.defs (F := Ideal)) (onTc (τ := Cert.Kernel4Ideal.τ) (Cert.Kernel4Ideal.main (F := Ideal)))
      ⟨m, fun _ => 0, g⟩ (fun r => ∀ c : Dev Cert.Kernel4Ideal.nD,
        r.2.mem ((c.tc : Thread Cert.Kernel4Ideal.nD Cert.Kernel4Ideal.τ).loc Cert.Kernel4Ideal.main_v6)
          = Cert.Kernel4Ideal.Combine.result m c) :=
  (θ_run (Cert.Kernel4Ideal.defs (F := Ideal)) _ _).mono
    (fun _ h c => (h c).1.trans (Cert.Kernel4Ideal.Combine.result_eq m c)) (Cert.Kernel4Ideal.Value.run_blocks m g)

/-- The combination and its reference leave the same result. -/
theorem algebraic4 : Cert.algebraic_Kernel4Ideal_Reference4Ideal := by
  pair_intro
  · run_from combine_run m g & Cert.Kernel4Ideal.Gen.frame m g
  · run_from Cert.Reference4Ideal.Value.run m' g'
    exact (Cert.Reference4Ideal.Read.val_main_v26_eq _ _ _ _ _ _ _ _ _).trans (v26_eq _ _ _ _ _ _ _ _ _)

end Cert.Combine

end
-- ==== Proof.HyOutRef.lean ====
/-
  The reference of the Hyena's output call, at an index: the same stream after the mixer, and the same normalised rows.
-/
module

public import proofs.«01_k».proof.Proof.CombineClaims
public import proofs.«01_k».proof.Proof.Gen.Reference5Ideal.Read

@[expose] public section

set_option maxRecDepth 16384

noncomputable section

namespace Cert.HyOut

open Idealize.ShloMosaic Cert.Hyena

/-- The Hyena's rows, at half the precision. -/
abbrev Half := FVec Ideal ⟨3, ![8, 4096, 1024]⟩ .bf16
/-- A row of the Hyena's width. -/
abbrev Row := FVec Ideal ⟨1, ![1024]⟩ .f32
/-- The output projection's weights. -/
abbrev Square := FVec Ideal ⟨2, ![1024, 1024]⟩ .f32

/-- A column of the first half. -/
def lower (d : Fin 512) : Fin 1024 := ⟨d, by omega⟩
/-- A column of the second half. -/
def upper (d : Fin 512) : Fin 1024 := ⟨512 + d, by omega⟩

/-- The stream after the mixer, at a batch entry, a token and a column. -/
def newAt (y z u : Half) (a : Row) (w : Square) (x : Acts) (g : Mods) (b : Fin 8) (n : Fin 4096) (d : Fin 1024) : EReal :=
  x (ix3 b n d) + g (ix3 b 0 d)
    * ∑ e : Fin 1024, (u (ix3 b n e) * (y (ix3 b n e) + a (ix1 e) * z (ix3 b n e))) * w (ix2 e d)

/-- Its row, normalised and modulated. -/
def normAt (y z u : Half) (a : Row) (w : Square) (x : Acts) (g s c : Mods) (b : Fin 8) (n : Fin 4096) (d : Fin 1024) : EReal :=
  normRow (fun e => newAt y z u a w x g b n e) (fun e => s (ix3 b 0 e)) (fun e => c (ix3 b 0 e)) d

end Cert.HyOut

namespace Cert.HyOut

open Idealize.ShloMosaic Idealize.ShloMosaic.TcCoe Idealize.ShloMosaic.Tactic
open Cert.Reference5Ideal Cert.Reference5Ideal.Read Cert.Hyena

variable (y z u : Half) (a : Row) (w : Square) (x : Acts) (g s c : Mods)

/-- The reference's stream after the mixer. -/
theorem v11_apply (b : Fin 8) (n : Fin 4096) (d : Fin 1024) :
    val_main_v11 (F := Ideal) y z u a w x g (ix3 b n d) = newAt y z u a w x g b n d := by
  pointwise [val_main_v11, val_main_v10, val_main_v9, val_main_v8, val_main_v7, val_main_v6, val_main_v5, val_main_v4, val_main_v3, val_main_v2, val_main_v1, val_main_v0]
  rfl

/-- The reference's normalised and modulated rows. -/
theorem v28_apply (b : Fin 8) (n : Fin 4096) (d : Fin 1024) :
    val_main_v28 (F := Ideal) y z u a w x g s c (ix3 b n d) = normAt y z u a w x g s c b n d := by
  unfold normAt
  rw [← funext (v11_apply y z u a w x g b n)]
  unfold val_main_v28 val_main_v27 val_main_v25 val_main_v21 val_main_v20 val_main_v19 val_main_v18 val_main_v16 val_main_v14
    val_main_v13 val_main_v12
  generalize val_main_v11 (F := Ideal) y z u a w x g = v
  pointwise [val_main_v26, val_main_v24, val_main_v23, val_main_v22, val_main_v17, val_main_v15, val_main_cst, val_main_cst_0,
    val_main_cst_1, val_main_cst_2]
  rfl

/-- The reference's first result. -/
theorem v11_eq : val_main_v11 (F := Ideal) y z u a w x g = fun i => newAt y z u a w x g (i 0) (i 1) (i 2) := by
  funext i
  obtain ⟨b, n, d, rfl⟩ : ∃ (b : Fin 8) (n : Fin 4096) (d : Fin 1024), i = ix3 b n d :=
    ⟨i 0, i 1, i 2, by funext a; fin_cases a <;> rfl⟩
  exact v11_apply y z u a w x g b n d

/-- The reference's second result. -/
theorem v29_eq : val_main_v29 (F := Ideal) y z u a w x g s c
    = fun i => normAt y z u a w x g s c (i 0) (i 1) (lower (i 2)) := by
  funext i
  obtain ⟨b, n, d, rfl⟩ : ∃ (b : Fin 8) (n : Fin 4096) (d : Fin 512), i = ix3 b n d :=
    ⟨i 0, i 1, i 2, by funext a; fin_cases a <;> rfl⟩
  refine Eq.trans ?_ (v28_apply y z u a w x g s c b n (lower d))
  unfold val_main_v29
  generalize val_main_v28 (F := Ideal) y z u a w x g s c = v
  pointwise
  try rfl

/-- The reference's third result. -/
theorem v30_eq : val_main_v30 (F := Ideal) y z u a w x g s c
    = fun i => normAt y z u a w x g s c (i 0) (i 1) (upper (i 2)) := by
  funext i
  obtain ⟨b, n, d, rfl⟩ : ∃ (b : Fin 8) (n : Fin 4096) (d : Fin 512), i = ix3 b n d :=
    ⟨i 0, i 1, i 2, by funext a; fin_cases a <;> rfl⟩
  refine Eq.trans ?_ (v28_apply y z u a w x g s c b n (upper d))
  unfold val_main_v30
  generalize val_main_v28 (F := Ideal) y z u a w x g s c = v
  pointwise
  try rfl

end Cert.HyOut

end
-- ==== Proof.HyOutBlock.lean ====
/-
  The Hyena's output call, block by block: the gated rows' product with the weights, added to the stream, and the halves of
  its normalised and modulated rows.
-/
module

public import proofs.«01_k».proof.Proof.HyOutRef
public import proofs.«01_k».proof.Proof.Gen.Kernel5Ideal.Value

@[expose] public section

set_option maxRecDepth 16384

noncomputable section

namespace Cert.Kernel5Ideal.HyOut

open Idealize.ShloMosaic Idealize.ShloMosaic.TcCoe Idealize.ShloMosaic.Tactic
open Cert.Kernel5Ideal Cert.Kernel5Ideal.Gen Cert.Hyena

/-- A block of the stream after the mixer, at a row and a column. -/
def newOf (x0 x1 x2 : Vec Ideal S1x512x1024 .bf16) (x3 : Vec Ideal S1x1024 .f32) (x4 : Vec Ideal S1024x1024 .bf16)
    (x5 : Vec Ideal S1x512x1024 .f32) (x6 : Vec Ideal S1x1x1024 .f32) (r : Fin 512) (d : Fin 1024) : EReal :=
  x5 (ix3 0 r d) + x6 (ix3 0 0 d)
    * ∑ e : Fin 1024, (x2 (ix3 0 r e) * (x0 (ix3 0 r e) + x3 (ix2 0 e) * x1 (ix3 0 r e))) * x4 (ix2 e d)

/-- The sum of the stream and the gated product, at an index. -/
theorem pay4_apply (x0 x1 x2 : Vec Ideal S1x512x1024 .bf16) (x3 : Vec Ideal S1x1024 .f32) (x4 : Vec Ideal S1024x1024 .bf16)
    (x5 : Vec Ideal S1x512x1024 .f32) (x6 : Vec Ideal S1x1x1024 .f32) (r : Fin 512) (d : Fin 1024) :
    k0_pay4 (F := Ideal) x1 x2 x0 x3 x4 x5 x6 (ix2 r d) = newOf x0 x1 x2 x3 x4 x5 x6 r d := by
  pointwise [k0_pay4]
  rfl

/-- The block of the stream, at an index. -/
theorem pay5_apply (x0 x1 x2 : Vec Ideal S1x512x1024 .bf16) (x3 : Vec Ideal S1x1024 .f32) (x4 : Vec Ideal S1024x1024 .bf16)
    (x5 : Vec Ideal S1x512x1024 .f32) (x6 : Vec Ideal S1x1x1024 .f32) (r : Fin 512) (d : Fin 1024) :
    k0_pay5 (F := Ideal) x1 x2 x0 x3 x4 x5 x6 (ix3 0 r d) = newOf x0 x1 x2 x3 x4 x5 x6 r d := by
  rw [← pay4_apply]
  unfold k0_pay5
  generalize k0_pay4 (F := Ideal) x1 x2 x0 x3 x4 x5 x6 = v
  pointwise

/-- A block's rows, normalised and modulated, at an index. -/
theorem pay7_apply (v : FVec Ideal S512x1024 .f32) (s c : Vec Ideal S1x1x1024 .f32) (r : Fin 512) (d : Fin 1024) :
    k0_pay7 (F := Ideal) v s c (ix2 r d)
      = normRow (fun e => v (ix2 r e)) (fun e => s (ix3 0 0 e)) (fun e => c (ix3 0 0 e)) d := by
  pointwise [k0_pay7]
  rfl

/-- Their first half. -/
theorem pay9_apply (v : FVec Ideal S512x1024 .f32) (s c : Vec Ideal S1x1x1024 .f32) (r : Fin 512) (d : Fin 512) :
    k0_pay9 (F := Ideal) v s c (ix3 0 r d)
      = normRow (fun e => v (ix2 r e)) (fun e => s (ix3 0 0 e)) (fun e => c (ix3 0 0 e)) ⟨d, by omega⟩ := by
  rw [← pay7_apply]
  unfold k0_pay9
  generalize k0_pay7 (F := Ideal) v s c = y
  pointwise
  split
  · rfl
  · exact congrArg y (congrArg (ix2 r) (Fin.ext (show 256 + ((d : ℕ) - 256) = d by omega)))

/-- Their second half. -/
theorem pay10_apply (v : FVec Ideal S512x1024 .f32) (s c : Vec Ideal S1x1x1024 .f32) (r : Fin 512) (d : Fin 512) :
    k0_pay10 (F := Ideal) v s c (ix3 0 r d)
      = normRow (fun e => v (ix2 r e)) (fun e => s (ix3 0 0 e)) (fun e => c (ix3 0 0 e)) ⟨512 + d, by omega⟩ := by
  rw [← pay7_apply]
  unfold k0_pay10
  generalize k0_pay7 (F := Ideal) v s c = y
  pointwise
  split
  · rfl
  · exact congrArg y (congrArg (ix2 r) (Fin.ext (show 768 + ((d : ℕ) - 256) = 512 + d by omega)))

/-- The block of the stream that the body leaves at the first grid point. -/
theorem out12A_eq (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S64x1024 .f32) (harg11 : arg11.IsWhole) (arg12 : Memref sig .tc .vmem S64x1 .f32) (harg12 : arg12.IsWhole) (arg13 : Memref sig .tc .vmem S512x512 .bf16) (harg13 : arg13.IsWhole) (arg14 : Memref sig .tc .vmem S1x512x1024 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S8x512 .i32) (harg17 : arg17.IsWhole) (arg18 : Memref sig .tc .vmem S8x512 .f32) (harg18 : arg18.IsWhole) (arg19 : Memref sig .tc .vmem S8x512 .i32) (harg19 : arg19.IsWhole) (arg20 : Memref sig .tc .vmem S64x128 .f32) (harg20 : arg20.IsWhole) (arg21 : Memref sig .tc .vmem S64x128 .f32) (harg21 : arg21.IsWhole) (hc0 : cond0_0 i)
    (x0 : Vec Ideal S1x512x1024 .bf16) (x1 : Vec Ideal S1x512x1024 .bf16) (x2 : Vec Ideal S1x512x1024 .bf16) (x3 : Vec Ideal S1x1024 .f32) (x4 : Vec Ideal S1024x1024 .bf16) (x5 : Vec Ideal S1x512x1024 .f32) (x6 : Vec Ideal S1x1x1024 .f32) (x7 : Vec Ideal S1x1x1024 .f32) (x8 : Vec Ideal S1x1x1024 .f32) (x9 : Vec Ideal S64x1024 .f32) (x10 : Vec Ideal S64x1 .f32) (x11 : Vec Ideal S512x512 .bf16) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = k0_pay5 x1 x2 x0 x3 x4 x5 x6 := by
  frame_out

/-- The block of the stream that the body leaves at a later grid point. -/
theorem out12B_eq (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S64x1024 .f32) (harg11 : arg11.IsWhole) (arg12 : Memref sig .tc .vmem S64x1 .f32) (harg12 : arg12.IsWhole) (arg13 : Memref sig .tc .vmem S512x512 .bf16) (harg13 : arg13.IsWhole) (arg14 : Memref sig .tc .vmem S1x512x1024 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S8x512 .i32) (harg17 : arg17.IsWhole) (arg18 : Memref sig .tc .vmem S8x512 .f32) (harg18 : arg18.IsWhole) (arg19 : Memref sig .tc .vmem S8x512 .i32) (harg19 : arg19.IsWhole) (arg20 : Memref sig .tc .vmem S64x128 .f32) (harg20 : arg20.IsWhole) (arg21 : Memref sig .tc .vmem S64x128 .f32) (harg21 : arg21.IsWhole) (hc0 : ¬cond0_0 i)
    (x0 : Vec Ideal S1x512x1024 .bf16) (x1 : Vec Ideal S1x512x1024 .bf16) (x2 : Vec Ideal S1x512x1024 .bf16) (x3 : Vec Ideal S1x1024 .f32) (x4 : Vec Ideal S1024x1024 .bf16) (x5 : Vec Ideal S1x512x1024 .f32) (x6 : Vec Ideal S1x1x1024 .f32) (x7 : Vec Ideal S1x1x1024 .f32) (x8 : Vec Ideal S1x1x1024 .f32) (x9 : Vec Ideal S64x1024 .f32) (x10 : Vec Ideal S64x1 .f32) (x11 : Vec Ideal S512x512 .bf16) (xs0 : Vec Ideal S64x128 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = k0_pay5 x1 x2 x0 x3 x4 x5 x6 := by
  frame_out

/-- The block of the first half that the body leaves at the first grid point. -/
theorem out13A_eq (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S64x1024 .f32) (harg11 : arg11.IsWhole) (arg12 : Memref sig .tc .vmem S64x1 .f32) (harg12 : arg12.IsWhole) (arg13 : Memref sig .tc .vmem S512x512 .bf16) (harg13 : arg13.IsWhole) (arg14 : Memref sig .tc .vmem S1x512x1024 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S8x512 .i32) (harg17 : arg17.IsWhole) (arg18 : Memref sig .tc .vmem S8x512 .f32) (harg18 : arg18.IsWhole) (arg19 : Memref sig .tc .vmem S8x512 .i32) (harg19 : arg19.IsWhole) (arg20 : Memref sig .tc .vmem S64x128 .f32) (harg20 : arg20.IsWhole) (arg21 : Memref sig .tc .vmem S64x128 .f32) (harg21 : arg21.IsWhole) (hc0 : cond0_0 i)
    (x0 : Vec Ideal S1x512x1024 .bf16) (x1 : Vec Ideal S1x512x1024 .bf16) (x2 : Vec Ideal S1x512x1024 .bf16) (x3 : Vec Ideal S1x1024 .f32) (x4 : Vec Ideal S1024x1024 .bf16) (x5 : Vec Ideal S1x512x1024 .f32) (x6 : Vec Ideal S1x1x1024 .f32) (x7 : Vec Ideal S1x1x1024 .f32) (x8 : Vec Ideal S1x1x1024 .f32) (x9 : Vec Ideal S64x1024 .f32) (x10 : Vec Ideal S64x1 .f32) (x11 : Vec Ideal S512x512 .bf16) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = k0_pay9 (k0_pay4 x1 x2 x0 x3 x4 x5 x6) x7 x8 := by
  frame_out

/-- The block of the first half that the body leaves at a later grid point. -/
theorem out13B_eq (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S64x1024 .f32) (harg11 : arg11.IsWhole) (arg12 : Memref sig .tc .vmem S64x1 .f32) (harg12 : arg12.IsWhole) (arg13 : Memref sig .tc .vmem S512x512 .bf16) (harg13 : arg13.IsWhole) (arg14 : Memref sig .tc .vmem S1x512x1024 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S8x512 .i32) (harg17 : arg17.IsWhole) (arg18 : Memref sig .tc .vmem S8x512 .f32) (harg18 : arg18.IsWhole) (arg19 : Memref sig .tc .vmem S8x512 .i32) (harg19 : arg19.IsWhole) (arg20 : Memref sig .tc .vmem S64x128 .f32) (harg20 : arg20.IsWhole) (arg21 : Memref sig .tc .vmem S64x128 .f32) (harg21 : arg21.IsWhole) (hc0 : ¬cond0_0 i)
    (x0 : Vec Ideal S1x512x1024 .bf16) (x1 : Vec Ideal S1x512x1024 .bf16) (x2 : Vec Ideal S1x512x1024 .bf16) (x3 : Vec Ideal S1x1024 .f32) (x4 : Vec Ideal S1024x1024 .bf16) (x5 : Vec Ideal S1x512x1024 .f32) (x6 : Vec Ideal S1x1x1024 .f32) (x7 : Vec Ideal S1x1x1024 .f32) (x8 : Vec Ideal S1x1x1024 .f32) (x9 : Vec Ideal S64x1024 .f32) (x10 : Vec Ideal S64x1 .f32) (x11 : Vec Ideal S512x512 .bf16) (xs0 : Vec Ideal S64x128 .f32) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = k0_pay9 (k0_pay4 x1 x2 x0 x3 x4 x5 x6) x7 x8 := by
  frame_out

/-- The block of the second half that the body leaves at the first grid point. -/
theorem out14A_eq (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S64x1024 .f32) (harg11 : arg11.IsWhole) (arg12 : Memref sig .tc .vmem S64x1 .f32) (harg12 : arg12.IsWhole) (arg13 : Memref sig .tc .vmem S512x512 .bf16) (harg13 : arg13.IsWhole) (arg14 : Memref sig .tc .vmem S1x512x1024 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S8x512 .i32) (harg17 : arg17.IsWhole) (arg18 : Memref sig .tc .vmem S8x512 .f32) (harg18 : arg18.IsWhole) (arg19 : Memref sig .tc .vmem S8x512 .i32) (harg19 : arg19.IsWhole) (arg20 : Memref sig .tc .vmem S64x128 .f32) (harg20 : arg20.IsWhole) (arg21 : Memref sig .tc .vmem S64x128 .f32) (harg21 : arg21.IsWhole) (hc0 : cond0_0 i)
    (x0 : Vec Ideal S1x512x1024 .bf16) (x1 : Vec Ideal S1x512x1024 .bf16) (x2 : Vec Ideal S1x512x1024 .bf16) (x3 : Vec Ideal S1x1024 .f32) (x4 : Vec Ideal S1024x1024 .bf16) (x5 : Vec Ideal S1x512x1024 .f32) (x6 : Vec Ideal S1x1x1024 .f32) (x7 : Vec Ideal S1x1x1024 .f32) (x8 : Vec Ideal S1x1x1024 .f32) (x9 : Vec Ideal S64x1024 .f32) (x10 : Vec Ideal S64x1 .f32) (x11 : Vec Ideal S512x512 .bf16) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = k0_pay10 (k0_pay4 x1 x2 x0 x3 x4 x5 x6) x7 x8 := by
  frame_out

/-- The block of the second half that the body leaves at a later grid point. -/
theorem out14B_eq (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S64x1024 .f32) (harg11 : arg11.IsWhole) (arg12 : Memref sig .tc .vmem S64x1 .f32) (harg12 : arg12.IsWhole) (arg13 : Memref sig .tc .vmem S512x512 .bf16) (harg13 : arg13.IsWhole) (arg14 : Memref sig .tc .vmem S1x512x1024 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S8x512 .i32) (harg17 : arg17.IsWhole) (arg18 : Memref sig .tc .vmem S8x512 .f32) (harg18 : arg18.IsWhole) (arg19 : Memref sig .tc .vmem S8x512 .i32) (harg19 : arg19.IsWhole) (arg20 : Memref sig .tc .vmem S64x128 .f32) (harg20 : arg20.IsWhole) (arg21 : Memref sig .tc .vmem S64x128 .f32) (harg21 : arg21.IsWhole) (hc0 : ¬cond0_0 i)
    (x0 : Vec Ideal S1x512x1024 .bf16) (x1 : Vec Ideal S1x512x1024 .bf16) (x2 : Vec Ideal S1x512x1024 .bf16) (x3 : Vec Ideal S1x1024 .f32) (x4 : Vec Ideal S1024x1024 .bf16) (x5 : Vec Ideal S1x512x1024 .f32) (x6 : Vec Ideal S1x1x1024 .f32) (x7 : Vec Ideal S1x1x1024 .f32) (x8 : Vec Ideal S1x1x1024 .f32) (x9 : Vec Ideal S64x1024 .f32) (x10 : Vec Ideal S64x1 .f32) (x11 : Vec Ideal S512x512 .bf16) (xs0 : Vec Ideal S64x128 .f32) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = k0_pay10 (k0_pay4 x1 x2 x0 x3 x4 x5 x6) x7 x8 := by
  frame_out

end Cert.Kernel5Ideal.HyOut

end
-- ==== Proof.HyOutValue.lean ====
/-
  The three claimed result arrays of the Hyena's output call: the stream after the mixer, and the two halves of its
  normalised and modulated rows.
-/
module

public import proofs.«01_k».proof.Proof.HyOutBlock
public import Idealize.ShloMosaic.Lib.StableHlo.ReadAt

@[expose] public section

set_option maxRecDepth 16384

noncomputable section

namespace Cert.Kernel5Ideal.HyOut

open Idealize.ShloMosaic Idealize.ShloMosaic.TcCoe Idealize.ShloMosaic.Tactic
open Cert.Kernel5Ideal Cert.Kernel5Ideal.Gen Cert.Hyena Cert.HyOut

/-- The transformed rows' block of a grid point. -/
theorem idx0 : ∀ t : Fin cfg0.N, win0_0.index t = ![(t : ℕ) / 8, (t : ℕ) % 8, 0] := by decide +kernel
/-- The gated input's block. -/
theorem idx1 : ∀ t : Fin cfg0.N, win0_1.index t = ![(t : ℕ) / 8, (t : ℕ) % 8, 0] := by decide +kernel
/-- The outer gate's block. -/
theorem idx2 : ∀ t : Fin cfg0.N, win0_2.index t = ![(t : ℕ) / 8, (t : ℕ) % 8, 0] := by decide +kernel
/-- The bias is one block. -/
theorem idx3 : ∀ t : Fin cfg0.N, win0_3.index t = ![0, 0] := by decide +kernel
/-- The weights are one block. -/
theorem idx4 : ∀ t : Fin cfg0.N, win0_4.index t = ![0, 0] := by decide +kernel
/-- The stream's block. -/
theorem idx5 : ∀ t : Fin cfg0.N, win0_5.index t = ![(t : ℕ) / 8, (t : ℕ) % 8, 0] := by decide +kernel
/-- The gate's block. -/
theorem idx6 : ∀ t : Fin cfg0.N, win0_6.index t = ![(t : ℕ) / 8, 0, 0] := by decide +kernel
/-- The shift's block. -/
theorem idx7 : ∀ t : Fin cfg0.N, win0_7.index t = ![(t : ℕ) / 8, 0, 0] := by decide +kernel
/-- The scale's block. -/
theorem idx8 : ∀ t : Fin cfg0.N, win0_8.index t = ![(t : ℕ) / 8, 0, 0] := by decide +kernel
/-- The first result's block. -/
theorem idx12 : ∀ t : Fin cfg0.N, win0_12.index t = ![(t : ℕ) / 8, (t : ℕ) % 8, 0] := by decide +kernel
/-- The second result's block. -/
theorem idx13 : ∀ t : Fin cfg0.N, win0_13.index t = ![(t : ℕ) / 8, (t : ℕ) % 8, 0] := by decide +kernel
/-- The third result's block. -/
theorem idx14 : ∀ t : Fin cfg0.N, win0_14.index t = ![(t : ℕ) / 8, (t : ℕ) % 8, 0] := by decide +kernel

/-- The batch entry of a grid point. -/
abbrev pb (t : Fin cfg0.N) : Fin 8 := ⟨(t : ℕ) / 8, by have : (t : ℕ) < 64 := t.isLt; omega⟩
/-- A row of a grid point. -/
abbrev pn (t : Fin cfg0.N) (r : Fin 512) : Fin 4096 := ⟨512 * ((t : ℕ) % 8) + r, by have := r.isLt; omega⟩

/-- The transformed rows at an index of a block. -/
theorem read0 (A : FVec Ideal S8x4096x1024 .bf16) (t : Fin cfg0.N) (r : Fin 512) (d : Fin 1024) :
    (win0_0.blk t).view.read (Elt Ideal) A (ix3 0 r d) = A (ix3 (pb t) (pn t r) d) := by
  blk_ext [idx0 t]
/-- The gated input at an index of a block. -/
theorem read1 (A : FVec Ideal S8x4096x1024 .bf16) (t : Fin cfg0.N) (r : Fin 512) (d : Fin 1024) :
    (win0_1.blk t).view.read (Elt Ideal) A (ix3 0 r d) = A (ix3 (pb t) (pn t r) d) := by
  blk_ext [idx1 t]
/-- The outer gate at an index of a block. -/
theorem read2 (A : FVec Ideal S8x4096x1024 .bf16) (t : Fin cfg0.N) (r : Fin 512) (d : Fin 1024) :
    (win0_2.blk t).view.read (Elt Ideal) A (ix3 0 r d) = A (ix3 (pb t) (pn t r) d) := by
  blk_ext [idx2 t]
/-- The stream at an index of a block. -/
theorem read5 (A : FVec Ideal S8x4096x1024 .f32) (t : Fin cfg0.N) (r : Fin 512) (d : Fin 1024) :
    (win0_5.blk t).view.read (Elt Ideal) A (ix3 0 r d) = A (ix3 (pb t) (pn t r) d) := by
  blk_ext [idx5 t]
/-- The gate of a batch entry. -/
theorem read6 (A : Mods) (t : Fin cfg0.N) (d : Fin 1024) :
    (win0_6.blk t).view.read (Elt Ideal) A (ix3 0 0 d) = A (ix3 (pb t) 0 d) := by
  blk_ext [idx6 t]
/-- The shift of a batch entry. -/
theorem read7 (A : Mods) (t : Fin cfg0.N) (d : Fin 1024) :
    (win0_7.blk t).view.read (Elt Ideal) A (ix3 0 0 d) = A (ix3 (pb t) 0 d) := by
  blk_ext [idx7 t]
/-- The scale of a batch entry. -/
theorem read8 (A : Mods) (t : Fin cfg0.N) (d : Fin 1024) :
    (win0_8.blk t).view.read (Elt Ideal) A (ix3 0 0 d) = A (ix3 (pb t) 0 d) := by
  blk_ext [idx8 t]
/-- The bias. -/
theorem read3 (A : FVec Ideal S1x1024 .f32) (t : Fin cfg0.N) (d : Fin 1024) :
    (win0_3.blk t).view.read (Elt Ideal) A (ix2 0 d) = A (ix2 0 d) := by
  blk_ext [idx3 t]
/-- The weights. -/
theorem read4 (A : FVec Ideal S1024x1024 .bf16) (t : Fin cfg0.N) (e d : Fin 1024) :
    (win0_4.blk t).view.read (Elt Ideal) A (ix2 e d) = A (ix2 e d) := by
  blk_ext [idx4 t]

variable (m : (ℓ : Loc nD τ sig) → Buf (Elt Ideal) ℓ) (c : Dev nD)

/-- The program's transformed rows. -/
abbrev argY : Half := m ((c.tc : Thread nD τ).loc main_arg0)
/-- The program's gated input. -/
abbrev argZ : Half := m ((c.tc : Thread nD τ).loc main_arg1)
/-- The program's outer gate. -/
abbrev argU : Half := m ((c.tc : Thread nD τ).loc main_arg2)
/-- The program's bias. -/
abbrev argB : Row := m ((c.tc : Thread nD τ).loc main_arg3)
/-- The program's weights. -/
abbrev argW : Square := m ((c.tc : Thread nD τ).loc main_arg4)
/-- The program's stream. -/
abbrev argX : Acts := m ((c.tc : Thread nD τ).loc main_arg5)
/-- The program's gate. -/
abbrev argG : Mods := m ((c.tc : Thread nD τ).loc main_arg6)
/-- The program's shift. -/
abbrev argS : Mods := m ((c.tc : Thread nD τ).loc main_arg7)
/-- The program's scale. -/
abbrev argC : Mods := m ((c.tc : Thread nD τ).loc main_arg8)

/-- The bias that the call is entered with. -/
def entB : FVec Ideal S1x1024 .f32 := V m c main_v6
/-- It is the argument's. -/
theorem entB_apply (d : Fin 1024) : entB m c (ix2 0 d) = argB m c (ix1 d) := by
  unfold entB V
  after_reads_at
  try pointwise
/-- The weights that the call is entered with. -/
def entW : FVec Ideal S1024x1024 .bf16 := V m c main_v7
/-- They are the argument's. -/
theorem entW_apply (e d : Fin 1024) : entW m c (ix2 e d) = argW m c (ix2 e d) := by
  unfold entW V
  after_reads_at
  try rfl

/-- The stream after the mixer of the program's arguments. -/
def newM (b : Fin 8) (n : Fin 4096) (d : Fin 1024) : EReal :=
  newAt (argY m c) (argZ m c) (argU m c) (argB m c) (argW m c) (argX m c) (argG m c) b n d
/-- Its normalised and modulated rows. -/
def normM (b : Fin 8) (n : Fin 4096) (d : Fin 1024) : EReal :=
  normAt (argY m c) (argZ m c) (argU m c) (argB m c) (argW m c) (argX m c) (argG m c) (argS m c) (argC m c) b n d
/-- The first result. -/
def result0 : FVec Ideal S8x4096x1024 .f32 := fun i => newM m c (i 0) (i 1) (i 2)
/-- The second result. -/
def result1 : FVec Ideal S8x4096x512 .bf16 := fun i => normM m c (i 0) (i 1) (lower (i 2))
/-- The third result. -/
def result2 : FVec Ideal S8x4096x512 .bf16 := fun i => normM m c (i 0) (i 1) (upper (i 2))

/-- A grid point's block of the stream is the program's. -/
theorem point_new (t : Fin cfg0.N) (r : Fin 512) (d : Fin 1024) :
    newOf ((win0_0.blk t).view.read (Elt Ideal) (argY m c)) ((win0_1.blk t).view.read (Elt Ideal) (argZ m c))
      ((win0_2.blk t).view.read (Elt Ideal) (argU m c)) ((win0_3.blk t).view.read (Elt Ideal) (entB m c))
      ((win0_4.blk t).view.read (Elt Ideal) (entW m c)) ((win0_5.blk t).view.read (Elt Ideal) (argX m c))
      ((win0_6.blk t).view.read (Elt Ideal) (argG m c)) r d = newM m c (pb t) (pn t r) d := by
  unfold newOf newM newAt
  rw [read5, read6]
  refine congrArg₂ (· + ·) rfl (congrArg₂ (· * ·) rfl (Finset.sum_congr rfl fun e _ => ?_))
  rw [read0, read1, read2, read3, read4, entB_apply, entW_apply]

/-- A grid point's normalised rows are the program's. -/
theorem point_norm (t : Fin cfg0.N) (r : Fin 512) (d : Fin 1024) :
    normRow (fun e => k0_pay4 (F := Ideal) ((win0_1.blk t).view.read (Elt Ideal) (argZ m c))
      ((win0_2.blk t).view.read (Elt Ideal) (argU m c)) ((win0_0.blk t).view.read (Elt Ideal) (argY m c))
      ((win0_3.blk t).view.read (Elt Ideal) (entB m c)) ((win0_4.blk t).view.read (Elt Ideal) (entW m c))
      ((win0_5.blk t).view.read (Elt Ideal) (argX m c)) ((win0_6.blk t).view.read (Elt Ideal) (argG m c)) (ix2 r e))
      (fun e => (win0_7.blk t).view.read (Elt Ideal) (argS m c) (ix3 0 0 e))
      (fun e => (win0_8.blk t).view.read (Elt Ideal) (argC m c) (ix3 0 0 e)) d = normM m c (pb t) (pn t r) d := by
  unfold normM normAt
  exact congrFun (congr (congr (congrArg normRow
    (funext fun e => (pay4_apply _ _ _ _ _ _ _ r e).trans (point_new m c t r e)))
    (funext fun e => read7 _ t e)) (funext fun e => read8 _ t e)) d

/-- An index of a block, by its row and lane. -/
theorem idx_eq (y : S1x512x1024.Idx) : ∃ (r : Fin 512) (d : Fin 1024), y = ix3 0 r d := ⟨y 1, y 2, by
  funext i
  fin_cases i
  · exact Subsingleton.elim (α := Fin 1) _ _
  · rfl
  · rfl⟩

/-- An index of half a block, by its row and lane. -/
theorem half_idx_eq (y : S1x512x512.Idx) : ∃ (r d : Fin 512), y = ix3 0 r d := ⟨y 1, y 2, by
  funext i
  fin_cases i
  · exact Subsingleton.elim (α := Fin 1) _ _
  · rfl
  · rfl⟩

/-- The first result array of the call. -/
theorem result0_eq : (dats m 0 c).arrAt 12 cfg0.N = result0 m c := by
  refine (dats m 0 c).arrAt_eq_of_covers 12 _ (by decide +kernel) fun t hf y => ?_
  blk_simp
  simp only [after0_12]
  obtain ⟨r, d, rfl⟩ := idx_eq y
  have e : (win0_12.blk t).view.emb (ix3 0 r d) = ix3 (pb t) (pn t r) d := by blk_ext [idx12 t]
  refine Eq.trans ?_ (congrArg (result0 m c) e).symm
  by_cases h0 : t.val % 64 = 0
  · simp only [outsAt0_A m c t h0]
    rw [out12A_eq]
    exact (pay5_apply _ _ _ _ _ _ _ r d).trans (point_new m c t r d)
  · simp only [outsAt0_B m c t h0]
    rw [out12B_eq]
    exact (pay5_apply _ _ _ _ _ _ _ r d).trans (point_new m c t r d)

/-- The second result array of the call. -/
theorem result1_eq : (dats m 0 c).arrAt 13 cfg0.N = result1 m c := by
  refine (dats m 0 c).arrAt_eq_of_covers 13 _ (by decide +kernel) fun t hf y => ?_
  blk_simp
  simp only [after0_13]
  obtain ⟨r, d, rfl⟩ := half_idx_eq y
  have e : (win0_13.blk t).view.emb (ix3 0 r d) = ix3 (pb t) (pn t r) d := by blk_ext [idx13 t]
  refine Eq.trans ?_ (congrArg (result1 m c) e).symm
  by_cases h0 : t.val % 64 = 0
  · simp only [outsAt0_A m c t h0]
    rw [out13A_eq]
    exact (pay9_apply _ _ _ r d).trans (point_norm m c t r (lower d))
  · simp only [outsAt0_B m c t h0]
    rw [out13B_eq]
    exact (pay9_apply _ _ _ r d).trans (point_norm m c t r (lower d))

/-- The third result array of the call. -/
theorem result2_eq : (dats m 0 c).arrAt 14 cfg0.N = result2 m c := by
  refine (dats m 0 c).arrAt_eq_of_covers 14 _ (by decide +kernel) fun t hf y => ?_
  blk_simp
  simp only [after0_14]
  obtain ⟨r, d, rfl⟩ := half_idx_eq y
  have e : (win0_14.blk t).view.emb (ix3 0 r d) = ix3 (pb t) (pn t r) d := by blk_ext [idx14 t]
  refine Eq.trans ?_ (congrArg (result2 m c) e).symm
  by_cases h0 : t.val % 64 = 0
  · simp only [outsAt0_A m c t h0]
    rw [out14A_eq]
    exact (pay10_apply _ _ _ r d).trans (point_norm m c t r (upper d))
  · simp only [outsAt0_B m c t h0]
    rw [out14B_eq]
    exact (pay10_apply _ _ _ r d).trans (point_norm m c t r (upper d))

end Cert.Kernel5Ideal.HyOut

end
-- ==== Proof.HyOutClaims.lean ====
/-
  The Hyena's output call and its reference leave the same three results.
-/
module

public import proofs.«01_k».proof.Defs
public import proofs.«01_k».proof.Proof.HyOutValue
public import proofs.«01_k».proof.Proof.Gen.Reference5Ideal
public import proofs.«01_k».proof.Proof.Gen.Reference5Ideal.Run
public import Idealize.ShloMosaic.Lib.Claim

@[expose] public section

noncomputable section

namespace Cert.HyOut

open Idealize.ShloMosaic Idealize.ShloMosaic.TcCoe Idealize.ShloMosaic.Tactic Idealize.SL.Sem
attribute [local instance] Cert.Kernel5Ideal.Gen.facts Cert.Reference5Ideal.Gen.facts

/-- The call leaves the stream after the mixer and the halves of its normalised rows. -/
theorem hyout_run (m : (ℓ : Loc Cert.Kernel5Ideal.nD Cert.Kernel5Ideal.τ Cert.Kernel5Ideal.sig) → Buf (Elt Ideal) ℓ)
    (g : Dev Cert.Kernel5Ideal.nD → PrngReg) :
    θ_run (Cert.Kernel5Ideal.defs (F := Ideal)) (onTc (τ := Cert.Kernel5Ideal.τ) (Cert.Kernel5Ideal.main (F := Ideal)))
      ⟨m, fun _ => 0, g⟩ (fun r => ∀ c : Dev Cert.Kernel5Ideal.nD,
        r.2.mem ((c.tc : Thread Cert.Kernel5Ideal.nD Cert.Kernel5Ideal.τ).loc Cert.Kernel5Ideal.main_v8_0)
          = Cert.Kernel5Ideal.HyOut.result0 m c
        ∧ r.2.mem ((c.tc : Thread Cert.Kernel5Ideal.nD Cert.Kernel5Ideal.τ).loc Cert.Kernel5Ideal.main_v8_1)
          = Cert.Kernel5Ideal.HyOut.result1 m c
        ∧ r.2.mem ((c.tc : Thread Cert.Kernel5Ideal.nD Cert.Kernel5Ideal.τ).loc Cert.Kernel5Ideal.main_v8_2)
          = Cert.Kernel5Ideal.HyOut.result2 m c) :=
  (θ_run (Cert.Kernel5Ideal.defs (F := Ideal)) _ _).mono
    (fun _ h c => ⟨(h c).1.trans (Cert.Kernel5Ideal.HyOut.result0_eq m c),
      (h c).2.1.trans (Cert.Kernel5Ideal.HyOut.result1_eq m c),
      (h c).2.2.1.trans (Cert.Kernel5Ideal.HyOut.result2_eq m c)⟩) (Cert.Kernel5Ideal.Value.run_blocks m g)

/-- The call and its reference leave the same three results. -/
theorem algebraic5 : Cert.algebraic_Kernel5Ideal_Reference5Ideal := by
  pair_intro
  · run_from hyout_run m g & Cert.Kernel5Ideal.Gen.frame m g
  · run_from Cert.Reference5Ideal.Value.run m' g'
    · exact (Cert.Reference5Ideal.Read.val_main_v11_eq _ _ _ _ _ _ _).trans (v11_eq _ _ _ _ _ _ _)
    · exact (Cert.Reference5Ideal.Read.val_main_v29_eq _ _ _ _ _ _ _ _ _).trans (v29_eq _ _ _ _ _ _ _ _ _)
    · exact (Cert.Reference5Ideal.Read.val_main_v30_eq _ _ _ _ _ _ _ _ _).trans (v30_eq _ _ _ _ _ _ _ _ _)

end Cert.HyOut

end
-- ==== Proof.EvOutRef.lean ====
/-
  The reference of the even layer's output call, at an index: the stream after the mixer, and its normalised rows.
-/
module

public import proofs.«01_k».proof.Proof.HyOutClaims
public import proofs.«01_k».proof.Proof.Gen.Reference6Ideal.Read

@[expose] public section

set_option maxRecDepth 16384

noncomputable section

namespace Cert.EvOut

open Idealize.ShloMosaic Cert.Hyena Cert.HyOut

/-- Rows of half the width, at half the precision. -/
abbrev Low := FVec Ideal ⟨3, ![8, 4096, 512]⟩ .bf16
/-- The same with the padding at the sequence's end. -/
abbrev Long := FVec Ideal ⟨3, ![8, 4352, 512]⟩ .bf16
/-- A row of half the width. -/
abbrev Short := FVec Ideal ⟨1, ![512]⟩ .f32
/-- The gate's weights. -/
abbrev Gates := FVec Ideal ⟨2, ![512, 512]⟩ .f32

/-- The tanh form of the gelu. -/
def gelu (t : EReal) : EReal :=
  t * (Ideal.ofBits .f32 0x3F000000#32 * (1 + Ideal.tanh (Ideal.ofBits .f32 0x3F4C422A#32
    * (t + Ideal.ofBits .f32 0x3D372713#32 * (t * (t * t))))))

/-- The column of the padded heads that holds a column of the heads. -/
def head (e : Fin 512) : Fin 1024 := ⟨(e : ℕ) / 64 * 128 + (e : ℕ) % 64, by omega⟩

/-- The gelu of the S5's output with the skip. -/
def geluAt (y : Low) (u : Long) (a : Short) (b : Fin 8) (n : Fin 4096) (e : Fin 512) : EReal :=
  gelu (u (ix3 b ⟨n, by omega⟩ e) * a (ix1 e) + y (ix3 b n e))

/-- Its gated value. -/
def gluAt (y : Low) (u : Long) (a : Short) (p : Gates) (q : Short) (b : Fin 8) (n : Fin 4096) (e : Fin 512) : EReal :=
  geluAt y u a b n e * Ideal.logistic ((∑ k : Fin 512, geluAt y u a b n k * p (ix2 k e)) + q (ix1 e))

/-- The stream after the mixer, at a batch entry, a token and a column. -/
def newAt (h : Half) (y : Low) (u : Long) (a : Short) (p : Gates) (q : Short) (w : Square) (x : Acts) (g : Mods)
    (b : Fin 8) (n : Fin 4096) (d : Fin 1024) : EReal :=
  x (ix3 b n d) + g (ix3 b 0 d) * ((∑ e : Fin 512, h (ix3 b n (head e)) * w (ix2 (lower e) d))
    + ∑ e : Fin 512, gluAt y u a p q b n e * w (ix2 (upper e) d))

/-- Its row, normalised and modulated. -/
def normAt (h : Half) (y : Low) (u : Long) (a : Short) (p : Gates) (q : Short) (w : Square) (x : Acts) (g s c : Mods)
    (b : Fin 8) (n : Fin 4096) (d : Fin 1024) : EReal :=
  normRow (fun e => newAt h y u a p q w x g b n e) (fun e => s (ix3 b 0 e)) (fun e => c (ix3 b 0 e)) d

end Cert.EvOut

namespace Cert.EvOut

open Idealize.ShloMosaic Idealize.ShloMosaic.TcCoe Idealize.ShloMosaic.Tactic
open Cert.Reference6Ideal Cert.Reference6Ideal.Read Cert.Hyena Cert.HyOut

variable (h : Half) (y : Low) (u : Long) (a : Short) (p : Gates) (q : Short) (w : Square) (x : Acts) (g s c : Mods)

/-- The reference's gelu. -/
theorem v19_apply (b : Fin 8) (n : Fin 4096) (e : Fin 512) :
    val_main_v19 (F := Ideal) y u a (ix3 b n e) = geluAt y u a b n e := by
  unfold geluAt gelu
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]
  rw [mul_assoc (_ + _ : EReal) (_ + _) (_ + _)]

/-- The reference's gated value. -/
theorem v30_apply (b : Fin 8) (n : Fin 4096) (e : Fin 512) :
    val_main_v30 (F := Ideal) y u a p q (ix3 b n e) = gluAt y u a p q b n e := by
  unfold gluAt
  rw [← funext (v19_apply y u a b n)]
  unfold val_main_v30 val_main_v29 val_main_v27 val_main_v25 val_main_v24 val_main_v23 val_main_v20
  generalize val_main_v19 (F := Ideal) y u a = v
  pointwise [val_main_v28, val_main_v26, val_main_v22, val_main_v21, val_main_cst_3, val_main_cst_4]
  rfl

/-- The reference's stream after the mixer. -/
theorem v39_apply (b : Fin 8) (n : Fin 4096) (d : Fin 1024) :
    val_main_v39 (F := Ideal) h y u a p q w x g (ix3 b n d) = newAt h y u a p q w x g b n d := by
  unfold newAt
  rw [← funext (v30_apply y u a p q b n)]
  unfold val_main_v39 val_main_v38 val_main_v36 val_main_v35
  generalize val_main_v30 (F := Ideal) y u a p q = v
  pointwise [val_main_v37, val_main_v34, val_main_v33, val_main_v32, val_main_v31]
  rfl

/-- The reference's normalised and modulated rows. -/
theorem v56_apply (b : Fin 8) (n : Fin 4096) (d : Fin 1024) :
    val_main_v56 (F := Ideal) h y u a p q w x g s c (ix3 b n d) = normAt h y u a p q w x g s c b n d := by
  unfold normAt
  rw [← funext (v39_apply h y u a p q w x g b n)]
  unfold val_main_v56 val_main_v55 val_main_v53 val_main_v49 val_main_v48 val_main_v47 val_main_v46 val_main_v44 val_main_v42
    val_main_v41 val_main_v40
  generalize val_main_v39 (F := Ideal) h y u a p q w x g = v
  pointwise [val_main_v54, val_main_v52, val_main_v51, val_main_v50, val_main_v45, val_main_v43, val_main_cst_5, val_main_cst_6,
    val_main_cst_7, val_main_cst_8]
  rfl

/-- The reference's first result. -/
theorem v39_eq : val_main_v39 (F := Ideal) h y u a p q w x g = fun i => newAt h y u a p q w x g (i 0) (i 1) (i 2) := by
  funext i
  obtain ⟨b, n, d, rfl⟩ : ∃ (b : Fin 8) (n : Fin 4096) (d : Fin 1024), i = ix3 b n d :=
    ⟨i 0, i 1, i 2, by funext a; fin_cases a <;> rfl⟩
  exact v39_apply h y u a p q w x g b n d

/-- The reference's second result. -/
theorem v57_eq : val_main_v57 (F := Ideal) h y u a p q w x g s c
    = fun i => normAt h y u a p q w x g s c (i 0) (i 1) (lower (i 2)) := by
  funext i
  obtain ⟨b, n, d, rfl⟩ : ∃ (b : Fin 8) (n : Fin 4096) (d : Fin 512), i = ix3 b n d :=
    ⟨i 0, i 1, i 2, by funext a; fin_cases a <;> rfl⟩
  refine Eq.trans ?_ (v56_apply h y u a p q w x g s c b n (lower d))
  unfold val_main_v57
  generalize val_main_v56 (F := Ideal) h y u a p q w x g s c = v
  pointwise
  try rfl

/-- The reference's third result. -/
theorem v58_eq : val_main_v58 (F := Ideal) h y u a p q w x g s c
    = fun i => normAt h y u a p q w x g s c (i 0) (i 1) (upper (i 2)) := by
  funext i
  obtain ⟨b, n, d, rfl⟩ : ∃ (b : Fin 8) (n : Fin 4096) (d : Fin 512), i = ix3 b n d :=
    ⟨i 0, i 1, i 2, by funext a; fin_cases a <;> rfl⟩
  refine Eq.trans ?_ (v56_apply h y u a p q w x g s c b n (upper d))
  unfold val_main_v58
  generalize val_main_v56 (F := Ideal) h y u a p q w x g s c = v
  pointwise
  try rfl

end Cert.EvOut

end
-- ==== Proof.EvOutBlock.lean ====
/-
  The even layer's output call, block by block: the product of the heads' columns and of the S5's gated columns with the
  weights, added to the stream, and the halves of its normalised and modulated rows.
-/
module

public import proofs.«01_k».proof.Proof.EvOutRef
public import proofs.«01_k».proof.Proof.Gen.Kernel6Ideal.Value

@[expose] public section

set_option maxRecDepth 16384

noncomputable section

namespace Cert.Kernel6Ideal.EvOut

open Idealize.ShloMosaic Idealize.ShloMosaic.TcCoe Idealize.ShloMosaic.Tactic
open Cert.Kernel6Ideal Cert.Kernel6Ideal.Gen Cert.Hyena Cert.EvOut

/-- The gelu of a block's row, at a column. -/
def geluOf (x1 x2 : Vec Ideal S1x512x512 .bf16) (x3 : Vec Ideal S1x512 .f32) (r e : Fin 512) : EReal :=
  gelu (x2 (ix3 0 r e) * x3 (ix2 0 e) + x1 (ix3 0 r e))

/-- Its gated value. -/
def gluOf (x1 x2 : Vec Ideal S1x512x512 .bf16) (x3 : Vec Ideal S1x512 .f32) (x4 : Vec Ideal S512x512 .bf16)
    (x5 : Vec Ideal S1x512 .f32) (r e : Fin 512) : EReal :=
  geluOf x1 x2 x3 r e * Ideal.logistic ((∑ k : Fin 512, geluOf x1 x2 x3 r k * x4 (ix2 k e)) + x5 (ix2 0 e))

/-- A block of the stream after the mixer, at a row and a column. -/
def newOf (x0 : Vec Ideal S1x512x1024 .bf16) (x1 x2 : Vec Ideal S1x512x512 .bf16) (x3 : Vec Ideal S1x512 .f32)
    (x4 : Vec Ideal S512x512 .bf16) (x5 : Vec Ideal S1x512 .f32) (x6 : Vec Ideal S1024x1024 .bf16)
    (x7 : Vec Ideal S512x1024 .bf16) (x8 : Vec Ideal S1x512x1024 .f32) (x9 : Vec Ideal S1x1x1024 .f32)
    (r : Fin 512) (d : Fin 1024) : EReal :=
  x8 (ix3 0 r d) + x9 (ix3 0 0 d) * ((∑ k : Fin 1024, x0 (ix3 0 r k) * x6 (ix2 k d))
    + ∑ e : Fin 512, gluOf x1 x2 x3 x4 x5 r e * x7 (ix2 e d))

/-- The gated gelu, at an index. -/
theorem pay2_apply (x1 x2 : Vec Ideal S1x512x512 .bf16) (x3 : Vec Ideal S1x512 .f32) (x4 : Vec Ideal S512x512 .bf16)
    (x5 : Vec Ideal S1x512 .f32) (r e : Fin 512) :
    k0_pay2 (F := Ideal) x2 x3 x1 x4 x5 (ix2 r e) = gluOf x1 x2 x3 x4 x5 r e := by
  pointwise [k0_pay2]
  rfl

/-- The sum of the stream and the gated product, at an index. -/
theorem pay4_apply (x0 : Vec Ideal S1x512x1024 .bf16) (x1 x2 : Vec Ideal S1x512x512 .bf16) (x3 : Vec Ideal S1x512 .f32)
    (x4 : Vec Ideal S512x512 .bf16) (x5 : Vec Ideal S1x512 .f32) (x6 : Vec Ideal S1024x1024 .bf16)
    (x7 : Vec Ideal S512x1024 .bf16) (x8 : Vec Ideal S1x512x1024 .f32) (x9 : Vec Ideal S1x1x1024 .f32)
    (r : Fin 512) (d : Fin 1024) :
    k0_pay4 (F := Ideal) (k0_pay2 x2 x3 x1 x4 x5) (k0_pay3 x0) x6 x7 x8 x9 (ix2 r d)
      = newOf x0 x1 x2 x3 x4 x5 x6 x7 x8 x9 r d := by
  unfold newOf
  rw [← funext (pay2_apply x1 x2 x3 x4 x5 r)]
  generalize k0_pay2 (F := Ideal) x2 x3 x1 x4 x5 = v
  pointwise [k0_pay4, k0_pay3]
  try rfl

/-- The block of the stream, at an index. -/
theorem pay5_apply (x0 : Vec Ideal S1x512x1024 .bf16) (x1 x2 : Vec Ideal S1x512x512 .bf16) (x3 : Vec Ideal S1x512 .f32)
    (x4 : Vec Ideal S512x512 .bf16) (x5 : Vec Ideal S1x512 .f32) (x6 : Vec Ideal S1024x1024 .bf16)
    (x7 : Vec Ideal S512x1024 .bf16) (x8 : Vec Ideal S1x512x1024 .f32) (x9 : Vec Ideal S1x1x1024 .f32)
    (r : Fin 512) (d : Fin 1024) :
    k0_pay5 (F := Ideal) (k0_pay2 x2 x3 x1 x4 x5) (k0_pay3 x0) x6 x7 x8 x9 (ix3 0 r d)
      = newOf x0 x1 x2 x3 x4 x5 x6 x7 x8 x9 r d := by
  rw [← pay4_apply]
  unfold k0_pay5
  generalize k0_pay4 (F := Ideal) (k0_pay2 x2 x3 x1 x4 x5) (k0_pay3 x0) x6 x7 x8 x9 = v
  pointwise

/-- The mean of a row's squares. -/
def meanOf (v : FVec Ideal S512x1024 .f32) : FVec Ideal S512x1 .f32 := fun i =>
  Ideal.div (∑ e : Fin 1024, v (ix2 (i 0) e) * v (ix2 (i 0) e)) (Ideal.ofBits .f32 0x44800000#32)

/-- The mean of the squares of the stream's rows. -/
theorem pay9_eq (v34 : FVec Ideal S512x512 .bf16) (v36 : FVec Ideal S512x1024 .bf16) (x6 : Vec Ideal S1024x1024 .bf16)
    (x7 : Vec Ideal S512x1024 .bf16) (x8 : Vec Ideal S1x512x1024 .f32) (x9 : Vec Ideal S1x1x1024 .f32) :
    k0_pay9 (F := Ideal) v34 v36 x6 x7 x8 x9 = meanOf (k0_pay4 v34 v36 x6 x7 x8 x9) := by
  funext i
  obtain ⟨r, rfl⟩ : ∃ r : Fin 512, i = ix2 r 0 := ⟨i 0, by
    funext a
    fin_cases a
    · rfl
    · exact Subsingleton.elim (α := Fin 1) _ _⟩
  unfold k0_pay9
  generalize k0_pay4 (F := Ideal) v34 v36 x6 x7 x8 x9 = v
  pointwise [meanOf]
  try rfl

/-- A block's rows, normalised and modulated, at an index. -/
theorem pay11_apply (v : FVec Ideal S512x1024 .f32) (s c : Vec Ideal S1x1x1024 .f32) (r : Fin 512) (d : Fin 1024) :
    k0_pay11 (F := Ideal) v (k0_pay7 s) (k0_pay8 c) (meanOf v) k0_pay10 (ix2 r d)
      = normRow (fun e => v (ix2 r e)) (fun e => s (ix3 0 0 e)) (fun e => c (ix3 0 0 e)) d := by
  pointwise [k0_pay11, k0_pay7, k0_pay8, k0_pay10, meanOf]
  rfl

/-- Their first half. -/
theorem pay12_apply (v : FVec Ideal S512x1024 .f32) (s c : Vec Ideal S1x1x1024 .f32) (r : Fin 512) (d : Fin 512) :
    k0_pay12 (F := Ideal) v (k0_pay7 s) (k0_pay8 c) (meanOf v) k0_pay10 (ix3 0 r d)
      = normRow (fun e => v (ix2 r e)) (fun e => s (ix3 0 0 e)) (fun e => c (ix3 0 0 e)) ⟨d, by omega⟩ := by
  rw [← pay11_apply]
  unfold k0_pay12
  generalize k0_pay11 (F := Ideal) v (k0_pay7 s) (k0_pay8 c) (meanOf v) k0_pay10 = y
  pointwise
  split
  · rfl
  · exact congrArg y (congrArg (ix2 r) (Fin.ext (show 256 + ((d : ℕ) - 256) = d by omega)))

/-- Their second half. -/
theorem pay13_apply (v : FVec Ideal S512x1024 .f32) (s c : Vec Ideal S1x1x1024 .f32) (r : Fin 512) (d : Fin 512) :
    k0_pay13 (F := Ideal) v (k0_pay7 s) (k0_pay8 c) (meanOf v) k0_pay10 (ix3 0 r d)
      = normRow (fun e => v (ix2 r e)) (fun e => s (ix3 0 0 e)) (fun e => c (ix3 0 0 e)) ⟨512 + d, by omega⟩ := by
  rw [← pay11_apply]
  unfold k0_pay13
  generalize k0_pay11 (F := Ideal) v (k0_pay7 s) (k0_pay8 c) (meanOf v) k0_pay10 = y
  pointwise
  split
  · rfl
  · exact congrArg y (congrArg (ix2 r) (Fin.ext (show 768 + ((d : ℕ) - 256) = 512 + d by omega)))

/-- The block of the stream that the body leaves at the first grid point. -/
theorem out15A_eq (c : Dev nD) (i : grid0.Coords) (arg2 : Memref sig .tc .vmem S1x512x1024 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S64x1024 .f32) (harg14 : arg14.IsWhole) (arg15 : Memref sig .tc .vmem S64x1 .f32) (harg15 : arg15.IsWhole) (arg16 : Memref sig .tc .vmem S512x512 .bf16) (harg16 : arg16.IsWhole) (arg17 : Memref sig .tc .vmem S1x512x1024 .f32) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S8x512 .i32) (harg20 : arg20.IsWhole) (arg21 : Memref sig .tc .vmem S8x512 .f32) (harg21 : arg21.IsWhole) (arg22 : Memref sig .tc .vmem S8x512 .i32) (harg22 : arg22.IsWhole) (arg23 : Memref sig .tc .vmem S64x128 .f32) (harg23 : arg23.IsWhole) (arg24 : Memref sig .tc .vmem S64x128 .f32) (harg24 : arg24.IsWhole) (hc0 : cond0_0 i)
    (x0 : Vec Ideal S1x512x1024 .bf16) (x1 : Vec Ideal S1x512x512 .bf16) (x2 : Vec Ideal S1x512x512 .bf16) (x3 : Vec Ideal S1x512 .f32) (x4 : Vec Ideal S512x512 .bf16) (x5 : Vec Ideal S1x512 .f32) (x6 : Vec Ideal S1024x1024 .bf16) (x7 : Vec Ideal S512x1024 .bf16) (x8 : Vec Ideal S1x512x1024 .f32) (x9 : Vec Ideal S1x1x1024 .f32) (x10 : Vec Ideal S1x1x1024 .f32) (x11 : Vec Ideal S1x1x1024 .f32) (x12 : Vec Ideal S64x1024 .f32) (x13 : Vec Ideal S64x1 .f32) (x14 : Vec Ideal S512x512 .bf16) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 = k0_pay5 (k0_pay2 x2 x3 x1 x4 x5) (k0_pay3 x0) x6 x7 x8 x9 := by
  frame_out

/-- The block of the stream that the body leaves at a later grid point. -/
theorem out15B_eq (c : Dev nD) (i : grid0.Coords) (arg2 : Memref sig .tc .vmem S1x512x1024 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S64x1024 .f32) (harg14 : arg14.IsWhole) (arg15 : Memref sig .tc .vmem S64x1 .f32) (harg15 : arg15.IsWhole) (arg16 : Memref sig .tc .vmem S512x512 .bf16) (harg16 : arg16.IsWhole) (arg17 : Memref sig .tc .vmem S1x512x1024 .f32) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S8x512 .i32) (harg20 : arg20.IsWhole) (arg21 : Memref sig .tc .vmem S8x512 .f32) (harg21 : arg21.IsWhole) (arg22 : Memref sig .tc .vmem S8x512 .i32) (harg22 : arg22.IsWhole) (arg23 : Memref sig .tc .vmem S64x128 .f32) (harg23 : arg23.IsWhole) (arg24 : Memref sig .tc .vmem S64x128 .f32) (harg24 : arg24.IsWhole) (hc0 : ¬cond0_0 i)
    (x0 : Vec Ideal S1x512x1024 .bf16) (x1 : Vec Ideal S1x512x512 .bf16) (x2 : Vec Ideal S1x512x512 .bf16) (x3 : Vec Ideal S1x512 .f32) (x4 : Vec Ideal S512x512 .bf16) (x5 : Vec Ideal S1x512 .f32) (x6 : Vec Ideal S1024x1024 .bf16) (x7 : Vec Ideal S512x1024 .bf16) (x8 : Vec Ideal S1x512x1024 .f32) (x9 : Vec Ideal S1x1x1024 .f32) (x10 : Vec Ideal S1x1x1024 .f32) (x11 : Vec Ideal S1x1x1024 .f32) (x12 : Vec Ideal S64x1024 .f32) (x13 : Vec Ideal S64x1 .f32) (x14 : Vec Ideal S512x512 .bf16) (xs0 : Vec Ideal S64x128 .f32) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0 = k0_pay5 (k0_pay2 x2 x3 x1 x4 x5) (k0_pay3 x0) x6 x7 x8 x9 := by
  frame_out

/-- The block of the first half that the body leaves at the first grid point. -/
theorem out16A_eq (c : Dev nD) (i : grid0.Coords) (arg2 : Memref sig .tc .vmem S1x512x1024 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S64x1024 .f32) (harg14 : arg14.IsWhole) (arg15 : Memref sig .tc .vmem S64x1 .f32) (harg15 : arg15.IsWhole) (arg16 : Memref sig .tc .vmem S512x512 .bf16) (harg16 : arg16.IsWhole) (arg17 : Memref sig .tc .vmem S1x512x1024 .f32) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S8x512 .i32) (harg20 : arg20.IsWhole) (arg21 : Memref sig .tc .vmem S8x512 .f32) (harg21 : arg21.IsWhole) (arg22 : Memref sig .tc .vmem S8x512 .i32) (harg22 : arg22.IsWhole) (arg23 : Memref sig .tc .vmem S64x128 .f32) (harg23 : arg23.IsWhole) (arg24 : Memref sig .tc .vmem S64x128 .f32) (harg24 : arg24.IsWhole) (hc0 : cond0_0 i)
    (x0 : Vec Ideal S1x512x1024 .bf16) (x1 : Vec Ideal S1x512x512 .bf16) (x2 : Vec Ideal S1x512x512 .bf16) (x3 : Vec Ideal S1x512 .f32) (x4 : Vec Ideal S512x512 .bf16) (x5 : Vec Ideal S1x512 .f32) (x6 : Vec Ideal S1024x1024 .bf16) (x7 : Vec Ideal S512x1024 .bf16) (x8 : Vec Ideal S1x512x1024 .f32) (x9 : Vec Ideal S1x1x1024 .f32) (x10 : Vec Ideal S1x1x1024 .f32) (x11 : Vec Ideal S1x1x1024 .f32) (x12 : Vec Ideal S64x1024 .f32) (x13 : Vec Ideal S64x1 .f32) (x14 : Vec Ideal S512x512 .bf16) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 = k0_pay12 (k0_pay4 (k0_pay2 x2 x3 x1 x4 x5) (k0_pay3 x0) x6 x7 x8 x9) (k0_pay7 x10) (k0_pay8 x11) (meanOf (k0_pay4 (k0_pay2 x2 x3 x1 x4 x5) (k0_pay3 x0) x6 x7 x8 x9)) k0_pay10 := by
  rw [← pay9_eq]
  frame_out

/-- The block of the first half that the body leaves at a later grid point. -/
theorem out16B_eq (c : Dev nD) (i : grid0.Coords) (arg2 : Memref sig .tc .vmem S1x512x1024 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S64x1024 .f32) (harg14 : arg14.IsWhole) (arg15 : Memref sig .tc .vmem S64x1 .f32) (harg15 : arg15.IsWhole) (arg16 : Memref sig .tc .vmem S512x512 .bf16) (harg16 : arg16.IsWhole) (arg17 : Memref sig .tc .vmem S1x512x1024 .f32) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S8x512 .i32) (harg20 : arg20.IsWhole) (arg21 : Memref sig .tc .vmem S8x512 .f32) (harg21 : arg21.IsWhole) (arg22 : Memref sig .tc .vmem S8x512 .i32) (harg22 : arg22.IsWhole) (arg23 : Memref sig .tc .vmem S64x128 .f32) (harg23 : arg23.IsWhole) (arg24 : Memref sig .tc .vmem S64x128 .f32) (harg24 : arg24.IsWhole) (hc0 : ¬cond0_0 i)
    (x0 : Vec Ideal S1x512x1024 .bf16) (x1 : Vec Ideal S1x512x512 .bf16) (x2 : Vec Ideal S1x512x512 .bf16) (x3 : Vec Ideal S1x512 .f32) (x4 : Vec Ideal S512x512 .bf16) (x5 : Vec Ideal S1x512 .f32) (x6 : Vec Ideal S1024x1024 .bf16) (x7 : Vec Ideal S512x1024 .bf16) (x8 : Vec Ideal S1x512x1024 .f32) (x9 : Vec Ideal S1x1x1024 .f32) (x10 : Vec Ideal S1x1x1024 .f32) (x11 : Vec Ideal S1x1x1024 .f32) (x12 : Vec Ideal S64x1024 .f32) (x13 : Vec Ideal S64x1 .f32) (x14 : Vec Ideal S512x512 .bf16) (xs0 : Vec Ideal S64x128 .f32) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0 = k0_pay12 (k0_pay4 (k0_pay2 x2 x3 x1 x4 x5) (k0_pay3 x0) x6 x7 x8 x9) (k0_pay7 x10) (k0_pay8 x11) (meanOf (k0_pay4 (k0_pay2 x2 x3 x1 x4 x5) (k0_pay3 x0) x6 x7 x8 x9)) k0_pay10 := by
  rw [← pay9_eq]
  frame_out

/-- The block of the second half that the body leaves at the first grid point. -/
theorem out17A_eq (c : Dev nD) (i : grid0.Coords) (arg2 : Memref sig .tc .vmem S1x512x1024 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S64x1024 .f32) (harg14 : arg14.IsWhole) (arg15 : Memref sig .tc .vmem S64x1 .f32) (harg15 : arg15.IsWhole) (arg16 : Memref sig .tc .vmem S512x512 .bf16) (harg16 : arg16.IsWhole) (arg17 : Memref sig .tc .vmem S1x512x1024 .f32) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S8x512 .i32) (harg20 : arg20.IsWhole) (arg21 : Memref sig .tc .vmem S8x512 .f32) (harg21 : arg21.IsWhole) (arg22 : Memref sig .tc .vmem S8x512 .i32) (harg22 : arg22.IsWhole) (arg23 : Memref sig .tc .vmem S64x128 .f32) (harg23 : arg23.IsWhole) (arg24 : Memref sig .tc .vmem S64x128 .f32) (harg24 : arg24.IsWhole) (hc0 : cond0_0 i)
    (x0 : Vec Ideal S1x512x1024 .bf16) (x1 : Vec Ideal S1x512x512 .bf16) (x2 : Vec Ideal S1x512x512 .bf16) (x3 : Vec Ideal S1x512 .f32) (x4 : Vec Ideal S512x512 .bf16) (x5 : Vec Ideal S1x512 .f32) (x6 : Vec Ideal S1024x1024 .bf16) (x7 : Vec Ideal S512x1024 .bf16) (x8 : Vec Ideal S1x512x1024 .f32) (x9 : Vec Ideal S1x1x1024 .f32) (x10 : Vec Ideal S1x1x1024 .f32) (x11 : Vec Ideal S1x1x1024 .f32) (x12 : Vec Ideal S64x1024 .f32) (x13 : Vec Ideal S64x1 .f32) (x14 : Vec Ideal S512x512 .bf16) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 = k0_pay13 (k0_pay4 (k0_pay2 x2 x3 x1 x4 x5) (k0_pay3 x0) x6 x7 x8 x9) (k0_pay7 x10) (k0_pay8 x11) (meanOf (k0_pay4 (k0_pay2 x2 x3 x1 x4 x5) (k0_pay3 x0) x6 x7 x8 x9)) k0_pay10 := by
  rw [← pay9_eq]
  frame_out

/-- The block of the second half that the body leaves at a later grid point. -/
theorem out17B_eq (c : Dev nD) (i : grid0.Coords) (arg2 : Memref sig .tc .vmem S1x512x1024 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S64x1024 .f32) (harg14 : arg14.IsWhole) (arg15 : Memref sig .tc .vmem S64x1 .f32) (harg15 : arg15.IsWhole) (arg16 : Memref sig .tc .vmem S512x512 .bf16) (harg16 : arg16.IsWhole) (arg17 : Memref sig .tc .vmem S1x512x1024 .f32) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S8x512 .i32) (harg20 : arg20.IsWhole) (arg21 : Memref sig .tc .vmem S8x512 .f32) (harg21 : arg21.IsWhole) (arg22 : Memref sig .tc .vmem S8x512 .i32) (harg22 : arg22.IsWhole) (arg23 : Memref sig .tc .vmem S64x128 .f32) (harg23 : arg23.IsWhole) (arg24 : Memref sig .tc .vmem S64x128 .f32) (harg24 : arg24.IsWhole) (hc0 : ¬cond0_0 i)
    (x0 : Vec Ideal S1x512x1024 .bf16) (x1 : Vec Ideal S1x512x512 .bf16) (x2 : Vec Ideal S1x512x512 .bf16) (x3 : Vec Ideal S1x512 .f32) (x4 : Vec Ideal S512x512 .bf16) (x5 : Vec Ideal S1x512 .f32) (x6 : Vec Ideal S1024x1024 .bf16) (x7 : Vec Ideal S512x1024 .bf16) (x8 : Vec Ideal S1x512x1024 .f32) (x9 : Vec Ideal S1x1x1024 .f32) (x10 : Vec Ideal S1x1x1024 .f32) (x11 : Vec Ideal S1x1x1024 .f32) (x12 : Vec Ideal S64x1024 .f32) (x13 : Vec Ideal S64x1 .f32) (x14 : Vec Ideal S512x512 .bf16) (xs0 : Vec Ideal S64x128 .f32) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0 = k0_pay13 (k0_pay4 (k0_pay2 x2 x3 x1 x4 x5) (k0_pay3 x0) x6 x7 x8 x9) (k0_pay7 x10) (k0_pay8 x11) (meanOf (k0_pay4 (k0_pay2 x2 x3 x1 x4 x5) (k0_pay3 x0) x6 x7 x8 x9)) k0_pay10 := by
  rw [← pay9_eq]
  frame_out

end Cert.Kernel6Ideal.EvOut

end
-- ==== Proof.EvOutValue.lean ====
/-
  The three claimed result arrays of the even layer's output call: the stream after the mixer, and the two halves of its
  normalised and modulated rows.
-/
module

public import proofs.«01_k».proof.Proof.EvOutBlock
public import Idealize.ShloMosaic.Lib.StableHlo.ReadAt

@[expose] public section

set_option maxRecDepth 16384

noncomputable section

namespace Cert.Kernel6Ideal.EvOut

open Idealize.ShloMosaic Idealize.ShloMosaic.TcCoe Idealize.ShloMosaic.Tactic
open Cert.Kernel6Ideal Cert.Kernel6Ideal.Gen Cert.Hyena Cert.EvOut
open Cert.HyOut (Half Square lower upper)

/-- The heads' block of a grid point. -/
theorem idx0 : ∀ t : Fin cfg0.N, win0_0.index t = ![(t : ℕ) / 8, (t : ℕ) % 8, 0] := by decide +kernel
/-- The S5's rows' block. -/
theorem idx1 : ∀ t : Fin cfg0.N, win0_1.index t = ![(t : ℕ) / 8, (t : ℕ) % 8, 0] := by decide +kernel
/-- The S5's input's block. -/
theorem idx2 : ∀ t : Fin cfg0.N, win0_2.index t = ![(t : ℕ) / 8, (t : ℕ) % 8, 0] := by decide +kernel
/-- The skip is one block. -/
theorem idx3 : ∀ t : Fin cfg0.N, win0_3.index t = ![0, 0] := by decide +kernel
/-- The gate's weights are one block. -/
theorem idx4 : ∀ t : Fin cfg0.N, win0_4.index t = ![0, 0] := by decide +kernel
/-- The gate's bias is one block. -/
theorem idx5 : ∀ t : Fin cfg0.N, win0_5.index t = ![0, 0] := by decide +kernel
/-- The heads' weights are one block. -/
theorem idx6 : ∀ t : Fin cfg0.N, win0_6.index t = ![0, 0] := by decide +kernel
/-- The S5's weights are one block. -/
theorem idx7 : ∀ t : Fin cfg0.N, win0_7.index t = ![0, 0] := by decide +kernel
/-- The stream's block. -/
theorem idx8 : ∀ t : Fin cfg0.N, win0_8.index t = ![(t : ℕ) / 8, (t : ℕ) % 8, 0] := by decide +kernel
/-- The residual gate's block. -/
theorem idx9 : ∀ t : Fin cfg0.N, win0_9.index t = ![(t : ℕ) / 8, 0, 0] := by decide +kernel
/-- The shift's block. -/
theorem idx10 : ∀ t : Fin cfg0.N, win0_10.index t = ![(t : ℕ) / 8, 0, 0] := by decide +kernel
/-- The scale's block. -/
theorem idx11 : ∀ t : Fin cfg0.N, win0_11.index t = ![(t : ℕ) / 8, 0, 0] := by decide +kernel
/-- The first result's block. -/
theorem idx15 : ∀ t : Fin cfg0.N, win0_15.index t = ![(t : ℕ) / 8, (t : ℕ) % 8, 0] := by decide +kernel
/-- The second result's block. -/
theorem idx16 : ∀ t : Fin cfg0.N, win0_16.index t = ![(t : ℕ) / 8, (t : ℕ) % 8, 0] := by decide +kernel
/-- The third result's block. -/
theorem idx17 : ∀ t : Fin cfg0.N, win0_17.index t = ![(t : ℕ) / 8, (t : ℕ) % 8, 0] := by decide +kernel

/-- The batch entry of a grid point. -/
abbrev pb (t : Fin cfg0.N) : Fin 8 := ⟨(t : ℕ) / 8, by have : (t : ℕ) < 64 := t.isLt; omega⟩
/-- A row of a grid point. -/
abbrev pn (t : Fin cfg0.N) (r : Fin 512) : Fin 4096 := ⟨512 * ((t : ℕ) % 8) + r, by have := r.isLt; omega⟩

/-- The heads at an index of a block. -/
theorem read0 (A : FVec Ideal S8x4096x1024 .bf16) (t : Fin cfg0.N) (r : Fin 512) (d : Fin 1024) :
    (win0_0.blk t).view.read (Elt Ideal) A (ix3 0 r d) = A (ix3 (pb t) (pn t r) d) := by
  blk_ext [idx0 t]
/-- The S5's rows at an index of a block. -/
theorem read1 (A : FVec Ideal S8x4096x512 .bf16) (t : Fin cfg0.N) (r d : Fin 512) :
    (win0_1.blk t).view.read (Elt Ideal) A (ix3 0 r d) = A (ix3 (pb t) (pn t r) d) := by
  blk_ext [idx1 t]
/-- The skip. -/
theorem read3 (A : FVec Ideal S1x512 .f32) (t : Fin cfg0.N) (d : Fin 512) :
    (win0_3.blk t).view.read (Elt Ideal) A (ix2 0 d) = A (ix2 0 d) := by
  blk_ext [idx3 t]
/-- The gate's weights. -/
theorem read4 (A : FVec Ideal S512x512 .bf16) (t : Fin cfg0.N) (e d : Fin 512) :
    (win0_4.blk t).view.read (Elt Ideal) A (ix2 e d) = A (ix2 e d) := by
  blk_ext [idx4 t]
/-- The gate's bias. -/
theorem read5 (A : FVec Ideal S1x512 .f32) (t : Fin cfg0.N) (d : Fin 512) :
    (win0_5.blk t).view.read (Elt Ideal) A (ix2 0 d) = A (ix2 0 d) := by
  blk_ext [idx5 t]
/-- The heads' weights. -/
theorem read6 (A : FVec Ideal S1024x1024 .bf16) (t : Fin cfg0.N) (e d : Fin 1024) :
    (win0_6.blk t).view.read (Elt Ideal) A (ix2 e d) = A (ix2 e d) := by
  blk_ext [idx6 t]
/-- The S5's weights. -/
theorem read7 (A : FVec Ideal S512x1024 .bf16) (t : Fin cfg0.N) (e : Fin 512) (d : Fin 1024) :
    (win0_7.blk t).view.read (Elt Ideal) A (ix2 e d) = A (ix2 e d) := by
  blk_ext [idx7 t]
/-- The stream at an index of a block. -/
theorem read8 (A : FVec Ideal S8x4096x1024 .f32) (t : Fin cfg0.N) (r : Fin 512) (d : Fin 1024) :
    (win0_8.blk t).view.read (Elt Ideal) A (ix3 0 r d) = A (ix3 (pb t) (pn t r) d) := by
  blk_ext [idx8 t]
/-- The residual gate of a batch entry. -/
theorem read9 (A : Mods) (t : Fin cfg0.N) (d : Fin 1024) :
    (win0_9.blk t).view.read (Elt Ideal) A (ix3 0 0 d) = A (ix3 (pb t) 0 d) := by
  blk_ext [idx9 t]
/-- The shift of a batch entry. -/
theorem read10 (A : Mods) (t : Fin cfg0.N) (d : Fin 1024) :
    (win0_10.blk t).view.read (Elt Ideal) A (ix3 0 0 d) = A (ix3 (pb t) 0 d) := by
  blk_ext [idx10 t]
/-- The scale of a batch entry. -/
theorem read11 (A : Mods) (t : Fin cfg0.N) (d : Fin 1024) :
    (win0_11.blk t).view.read (Elt Ideal) A (ix3 0 0 d) = A (ix3 (pb t) 0 d) := by
  blk_ext [idx11 t]

variable (m : (ℓ : Loc nD τ sig) → Buf (Elt Ideal) ℓ) (c : Dev nD)

/-- The program's heads. -/
abbrev argH : Half := m ((c.tc : Thread nD τ).loc main_arg0)
/-- The program's S5 rows. -/
abbrev argY : Low := m ((c.tc : Thread nD τ).loc main_arg1)
/-- The program's S5 input. -/
abbrev argU : Long := m ((c.tc : Thread nD τ).loc main_arg2)
/-- The program's skip. -/
abbrev argA : Short := m ((c.tc : Thread nD τ).loc main_arg3)
/-- The program's gate's weights. -/
abbrev argP : Gates := m ((c.tc : Thread nD τ).loc main_arg4)
/-- The program's gate's bias. -/
abbrev argQ : Short := m ((c.tc : Thread nD τ).loc main_arg5)
/-- The program's output weights. -/
abbrev argW : Square := m ((c.tc : Thread nD τ).loc main_arg6)
/-- The program's stream. -/
abbrev argX : Acts := m ((c.tc : Thread nD τ).loc main_arg7)
/-- The program's residual gate. -/
abbrev argG : Mods := m ((c.tc : Thread nD τ).loc main_arg8)
/-- The program's shift. -/
abbrev argS : Mods := m ((c.tc : Thread nD τ).loc main_arg9)
/-- The program's scale. -/
abbrev argC : Mods := m ((c.tc : Thread nD τ).loc main_arg10)

/-- The S5's input at an index of a block: no block reaches past its end. -/
theorem read2 (t : Fin cfg0.N) (r d : Fin 512) :
    X0_2 m c t (ix3 0 r d) = argU m c (ix3 (pb t) ⟨(pn t r : ℕ), by omega⟩ d) := by
  unfold X0_2 Pipeline.Window.fill
  rw [dif_pos (moved0_2 t _)]
  blk_ext [iblk, V, idx2 t]

/-- The skip that the call is entered with. -/
def entA : FVec Ideal S1x512 .f32 := V m c main_v5
/-- It is the argument's. -/
theorem entA_apply (d : Fin 512) : entA m c (ix2 0 d) = argA m c (ix1 d) := by
  unfold entA V
  after_reads_at
  try pointwise
/-- The gate's weights that the call is entered with. -/
def entP : FVec Ideal S512x512 .bf16 := V m c main_v6
/-- They are the argument's. -/
theorem entP_apply (e d : Fin 512) : entP m c (ix2 e d) = argP m c (ix2 e d) := by
  unfold entP V
  after_reads_at
  try rfl
/-- The gate's bias that the call is entered with. -/
def entQ : FVec Ideal S1x512 .f32 := V m c main_v7
/-- It is the argument's. -/
theorem entQ_apply (d : Fin 512) : entQ m c (ix2 0 d) = argQ m c (ix1 d) := by
  unfold entQ V
  after_reads_at
  try pointwise
/-- The S5's weights that the call is entered with. -/
def entL : FVec Ideal S512x1024 .bf16 := V m c main_v9
/-- They are the argument's last rows. -/
theorem entL_apply (e : Fin 512) (d : Fin 1024) : entL m c (ix2 e d) = argW m c (ix2 (upper e) d) := by
  unfold entL V
  after_reads_at
  try pointwise
  try rfl
/-- The heads' weights that the call is entered with: a head's rows and as many of zeros. -/
def entH : FVec Ideal S1024x1024 .bf16 := V m c main_v8
/-- They are the argument's first rows, or zero. -/
theorem entH_apply (k d : Fin 1024) : entH m c (ix2 k d)
    = if h : (k : ℕ) % 128 < 64 then argW m c (ix2 (lower ⟨(k : ℕ) / 128 * 64 + (k : ℕ) % 128, by omega⟩) d) else 0 := by
  unfold entH V
  after_reads_at
  pointwise
  split
  · after_reads_at
    pointwise
    rfl
  · after_reads_at

/-- A sum over the padded heads' columns, the weights zero in the padding, is the sum over the heads' columns. -/
theorem sum_heads (f : Fin 1024 → EReal) (v : Fin 512 → EReal) :
    (∑ k : Fin 1024, f k * (if h : (k : ℕ) % 128 < 64 then v ⟨(k : ℕ) / 128 * 64 + (k : ℕ) % 128, by omega⟩ else 0))
      = ∑ e : Fin 512, f (head e) * v e := by
  refine (Fintype.sum_of_injective head ?_ _ _ ?_ ?_).symm
  · intro e e' h
    have h := congrArg Fin.val h
    simp only [head] at h
    exact Fin.ext (by omega)
  · intro k hk
    by_cases h : (k : ℕ) % 128 < 64
    · exact absurd ⟨⟨(k : ℕ) / 128 * 64 + (k : ℕ) % 128, by omega⟩, Fin.ext (by simp only [head]; omega)⟩ hk
    · rw [dif_neg h, mul_zero]
  · intro e
    rw [dif_pos (show ((head e : Fin 1024) : ℕ) % 128 < 64 by simp only [head]; omega)]
    exact congrArg₂ (· * ·) rfl (congrArg v (Fin.ext (by simp only [head]; omega)))

/-- The stream after the mixer of the program's arguments. -/
def newM (b : Fin 8) (n : Fin 4096) (d : Fin 1024) : EReal :=
  newAt (argH m c) (argY m c) (argU m c) (argA m c) (argP m c) (argQ m c) (argW m c) (argX m c) (argG m c) b n d
/-- Its normalised and modulated rows. -/
def normM (b : Fin 8) (n : Fin 4096) (d : Fin 1024) : EReal :=
  normAt (argH m c) (argY m c) (argU m c) (argA m c) (argP m c) (argQ m c) (argW m c) (argX m c) (argG m c) (argS m c)
    (argC m c) b n d
/-- The first result. -/
def result0 : FVec Ideal S8x4096x1024 .f32 := fun i => newM m c (i 0) (i 1) (i 2)
/-- The second result. -/
def result1 : FVec Ideal S8x4096x512 .bf16 := fun i => normM m c (i 0) (i 1) (lower (i 2))
/-- The third result. -/
def result2 : FVec Ideal S8x4096x512 .bf16 := fun i => normM m c (i 0) (i 1) (upper (i 2))

/-- A grid point's gelu is the program's. -/
theorem point_gelu (t : Fin cfg0.N) (r e : Fin 512) :
    geluOf ((win0_1.blk t).view.read (Elt Ideal) (argY m c)) (X0_2 m c t)
      ((win0_3.blk t).view.read (Elt Ideal) (entA m c)) r e
      = geluAt (argY m c) (argU m c) (argA m c) (pb t) (pn t r) e := by
  unfold geluOf geluAt
  rw [read1, read2, read3, entA_apply]

/-- A grid point's gated value is the program's. -/
theorem point_glu (t : Fin cfg0.N) (r e : Fin 512) :
    gluOf ((win0_1.blk t).view.read (Elt Ideal) (argY m c)) (X0_2 m c t)
      ((win0_3.blk t).view.read (Elt Ideal) (entA m c)) ((win0_4.blk t).view.read (Elt Ideal) (entP m c))
      ((win0_5.blk t).view.read (Elt Ideal) (entQ m c)) r e
      = gluAt (argY m c) (argU m c) (argA m c) (argP m c) (argQ m c) (pb t) (pn t r) e := by
  unfold gluOf gluAt
  rw [point_gelu, read5, entQ_apply]
  refine congrArg₂ (· * ·) rfl (congrArg Ideal.logistic (congrArg₂ (· + ·) (Finset.sum_congr rfl fun k _ => ?_) rfl))
  rw [point_gelu, read4, entP_apply]

/-- A grid point's block of the stream is the program's. -/
theorem point_new (t : Fin cfg0.N) (r : Fin 512) (d : Fin 1024) :
    newOf ((win0_0.blk t).view.read (Elt Ideal) (argH m c)) ((win0_1.blk t).view.read (Elt Ideal) (argY m c))
      (X0_2 m c t) ((win0_3.blk t).view.read (Elt Ideal) (entA m c))
      ((win0_4.blk t).view.read (Elt Ideal) (entP m c)) ((win0_5.blk t).view.read (Elt Ideal) (entQ m c))
      ((win0_6.blk t).view.read (Elt Ideal) (entH m c)) ((win0_7.blk t).view.read (Elt Ideal) (entL m c))
      ((win0_8.blk t).view.read (Elt Ideal) (argX m c)) ((win0_9.blk t).view.read (Elt Ideal) (argG m c)) r d
      = newM m c (pb t) (pn t r) d := by
  unfold newOf newM newAt
  rw [read8, read9]
  refine congrArg₂ (· + ·) rfl (congrArg₂ (· * ·) rfl (congrArg₂ (· + ·) ?_ (Finset.sum_congr rfl fun e _ => ?_)))
  · rw [← sum_heads (fun k => argH m c (ix3 (pb t) (pn t r) k)) (fun e => argW m c (ix2 (lower e) d))]
    refine Finset.sum_congr rfl fun k _ => ?_
    rw [read0, read6, entH_apply]
  · rw [point_glu, read7, entL_apply]

/-- A grid point's normalised rows are the program's. -/
theorem point_norm (t : Fin cfg0.N) (r : Fin 512) (d : Fin 1024) :
    normRow (fun e => k0_pay4 (F := Ideal) (k0_pay2 (X0_2 m c t)
        ((win0_3.blk t).view.read (Elt Ideal) (entA m c)) ((win0_1.blk t).view.read (Elt Ideal) (argY m c))
        ((win0_4.blk t).view.read (Elt Ideal) (entP m c)) ((win0_5.blk t).view.read (Elt Ideal) (entQ m c)))
      (k0_pay3 ((win0_0.blk t).view.read (Elt Ideal) (argH m c)))
      ((win0_6.blk t).view.read (Elt Ideal) (entH m c)) ((win0_7.blk t).view.read (Elt Ideal) (entL m c))
      ((win0_8.blk t).view.read (Elt Ideal) (argX m c)) ((win0_9.blk t).view.read (Elt Ideal) (argG m c)) (ix2 r e))
      (fun e => (win0_10.blk t).view.read (Elt Ideal) (argS m c) (ix3 0 0 e))
      (fun e => (win0_11.blk t).view.read (Elt Ideal) (argC m c) (ix3 0 0 e)) d = normM m c (pb t) (pn t r) d := by
  unfold normM normAt
  exact congrFun (congr (congr (congrArg normRow
    (funext fun e => (pay4_apply _ _ _ _ _ _ _ _ _ _ r e).trans (point_new m c t r e)))
    (funext fun e => read10 _ t e)) (funext fun e => read11 _ t e)) d

/-- An index of a block, by its row and lane. -/
theorem idx_eq (y : S1x512x1024.Idx) : ∃ (r : Fin 512) (d : Fin 1024), y = ix3 0 r d := ⟨y 1, y 2, by
  funext i
  fin_cases i
  · exact Subsingleton.elim (α := Fin 1) _ _
  · rfl
  · rfl⟩

/-- An index of half a block, by its row and lane. -/
theorem half_idx_eq (y : S1x512x512.Idx) : ∃ (r d : Fin 512), y = ix3 0 r d := ⟨y 1, y 2, by
  funext i
  fin_cases i
  · exact Subsingleton.elim (α := Fin 1) _ _
  · rfl
  · rfl⟩

/-- The first result array of the call. -/
theorem result0_eq : (dats m 0 c).arrAt 15 cfg0.N = result0 m c := by
  refine (dats m 0 c).arrAt_eq_of_covers 15 _ (by decide +kernel) fun t hf y => ?_
  blk_simp
  simp only [after0_15]
  obtain ⟨r, d, rfl⟩ := idx_eq y
  have e : (win0_15.blk t).view.emb (ix3 0 r d) = ix3 (pb t) (pn t r) d := by blk_ext [idx15 t]
  refine Eq.trans ?_ (congrArg (result0 m c) e).symm
  by_cases h0 : t.val % 64 = 0
  · simp only [outsAt0_A m c t h0]
    rw [out15A_eq]
    exact (pay5_apply _ _ _ _ _ _ _ _ _ _ r d).trans (point_new m c t r d)
  · simp only [outsAt0_B m c t h0]
    rw [out15B_eq]
    exact (pay5_apply _ _ _ _ _ _ _ _ _ _ r d).trans (point_new m c t r d)

/-- The second result array of the call. -/
theorem result1_eq : (dats m 0 c).arrAt 16 cfg0.N = result1 m c := by
  refine (dats m 0 c).arrAt_eq_of_covers 16 _ (by decide +kernel) fun t hf y => ?_
  blk_simp
  simp only [after0_16]
  obtain ⟨r, d, rfl⟩ := half_idx_eq y
  have e : (win0_16.blk t).view.emb (ix3 0 r d) = ix3 (pb t) (pn t r) d := by blk_ext [idx16 t]
  refine Eq.trans ?_ (congrArg (result1 m c) e).symm
  by_cases h0 : t.val % 64 = 0
  · simp only [outsAt0_A m c t h0]
    rw [out16A_eq]
    exact (pay12_apply _ _ _ r d).trans (point_norm m c t r (lower d))
  · simp only [outsAt0_B m c t h0]
    rw [out16B_eq]
    exact (pay12_apply _ _ _ r d).trans (point_norm m c t r (lower d))

/-- The third result array of the call. -/
theorem result2_eq : (dats m 0 c).arrAt 17 cfg0.N = result2 m c := by
  refine (dats m 0 c).arrAt_eq_of_covers 17 _ (by decide +kernel) fun t hf y => ?_
  blk_simp
  simp only [after0_17]
  obtain ⟨r, d, rfl⟩ := half_idx_eq y
  have e : (win0_17.blk t).view.emb (ix3 0 r d) = ix3 (pb t) (pn t r) d := by blk_ext [idx17 t]
  refine Eq.trans ?_ (congrArg (result2 m c) e).symm
  by_cases h0 : t.val % 64 = 0
  · simp only [outsAt0_A m c t h0]
    rw [out17A_eq]
    exact (pay13_apply _ _ _ r d).trans (point_norm m c t r (upper d))
  · simp only [outsAt0_B m c t h0]
    rw [out17B_eq]
    exact (pay13_apply _ _ _ r d).trans (point_norm m c t r (upper d))

end Cert.Kernel6Ideal.EvOut

end
-- ==== Proof.EvOutClaims.lean ====
/-
  The even layer's output call and its reference leave the same three results.
-/
module

public import proofs.«01_k».proof.Defs
public import proofs.«01_k».proof.Proof.EvOutValue
public import proofs.«01_k».proof.Proof.Gen.Reference6Ideal
public import proofs.«01_k».proof.Proof.Gen.Reference6Ideal.Run
public import Idealize.ShloMosaic.Lib.Claim

@[expose] public section

noncomputable section

namespace Cert.EvOut

open Idealize.ShloMosaic Idealize.ShloMosaic.TcCoe Idealize.ShloMosaic.Tactic Idealize.SL.Sem
attribute [local instance] Cert.Kernel6Ideal.Gen.facts Cert.Reference6Ideal.Gen.facts

/-- The call leaves the stream after the mixer and the halves of its normalised rows. -/
theorem evout_run (m : (ℓ : Loc Cert.Kernel6Ideal.nD Cert.Kernel6Ideal.τ Cert.Kernel6Ideal.sig) → Buf (Elt Ideal) ℓ)
    (g : Dev Cert.Kernel6Ideal.nD → PrngReg) :
    θ_run (Cert.Kernel6Ideal.defs (F := Ideal)) (onTc (τ := Cert.Kernel6Ideal.τ) (Cert.Kernel6Ideal.main (F := Ideal)))
      ⟨m, fun _ => 0, g⟩ (fun r => ∀ c : Dev Cert.Kernel6Ideal.nD,
        r.2.mem ((c.tc : Thread Cert.Kernel6Ideal.nD Cert.Kernel6Ideal.τ).loc Cert.Kernel6Ideal.main_v16_0)
          = Cert.Kernel6Ideal.EvOut.result0 m c
        ∧ r.2.mem ((c.tc : Thread Cert.Kernel6Ideal.nD Cert.Kernel6Ideal.τ).loc Cert.Kernel6Ideal.main_v16_1)
          = Cert.Kernel6Ideal.EvOut.result1 m c
        ∧ r.2.mem ((c.tc : Thread Cert.Kernel6Ideal.nD Cert.Kernel6Ideal.τ).loc Cert.Kernel6Ideal.main_v16_2)
          = Cert.Kernel6Ideal.EvOut.result2 m c) :=
  (θ_run (Cert.Kernel6Ideal.defs (F := Ideal)) _ _).mono
    (fun _ h c => ⟨(h c).1.trans (Cert.Kernel6Ideal.EvOut.result0_eq m c),
      (h c).2.1.trans (Cert.Kernel6Ideal.EvOut.result1_eq m c),
      (h c).2.2.1.trans (Cert.Kernel6Ideal.EvOut.result2_eq m c)⟩) (Cert.Kernel6Ideal.Value.run_blocks m g)

/-- The call and its reference leave the same three results. -/
theorem algebraic6 : Cert.algebraic_Kernel6Ideal_Reference6Ideal := by
  pair_intro
  · run_from evout_run m g & Cert.Kernel6Ideal.Gen.frame m g
  · run_from Cert.Reference6Ideal.Value.run m' g'
    · refine (Cert.Reference6Ideal.Read.val_main_v39_eq _ _).trans ?_
      simp only [hagree c]
      exact v39_eq _ _ _ _ _ _ _ _ _
    · refine (Cert.Reference6Ideal.Read.val_main_v57_eq _ _).trans ?_
      simp only [hagree c]
      exact v57_eq _ _ _ _ _ _ _ _ _ _ _
    · refine (Cert.Reference6Ideal.Read.val_main_v58_eq _ _).trans ?_
      simp only [hagree c]
      exact v58_eq _ _ _ _ _ _ _ _ _ _ _

end Cert.EvOut

end
-- ==== Proof.lean ====
/-
  The certificate: the frames of the kernel's two programs and of the reference, the ideal program's kinship with the
  printed one, and the equality of results where queries and keys are finite (Proof/Claims.lean); then the same of the
  routed experts, where every block of rows names an expert (Proof/MoeRun.lean, MoeClaims.lean), of the Hyena
  in-projection, of the combination with the shared expert, and of the output calls of the two layers' mixers, for all
  arguments (Proof/HyenaClaims.lean, CombineClaims.lean, HyOutClaims.lean, EvOutClaims.lean).
-/
module

public import proofs.«01_k».proof.Defs
public import proofs.«01_k».proof.Proof.Claims
public import proofs.«01_k».proof.Proof.MoeRun
public import proofs.«01_k».proof.Proof.MoeClaims
public import proofs.«01_k».proof.Proof.HyenaClaims
public import proofs.«01_k».proof.Proof.CombineClaims
public import proofs.«01_k».proof.Proof.HyOutClaims
public import proofs.«01_k».proof.Proof.EvOutClaims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem
attribute [local instance] Cert.ReferenceIdeal.Gen.facts Cert.Reference2Ideal.Gen.facts Cert.Reference3Ideal.Gen.facts
  Cert.Reference4Ideal.Gen.facts Cert.Reference5Ideal.Gen.facts Cert.Reference6Ideal.Gen.facts

/-- The reference runs and leaves its arguments and its counters. -/
theorem frame_reference : Cert.quiescent_ReferenceIdeal := fun m g _ =>
  (θ_run Cert.ReferenceIdeal.defs _ _).mono
    (fun _ h => ⟨fun c => (h c).2, funext fun | (_, .reg s) => s.elim0 | (_, .dma s) => s.elim0⟩)
    (Cert.ReferenceIdeal.Value.run m g)

/-- The experts' reference runs and leaves its arguments and its counters. -/
theorem frame_reference2 : Cert.quiescent_Reference2Ideal := fun m g _ =>
  (θ_run Cert.Reference2Ideal.defs _ _).mono
    (fun _ h => ⟨fun c => (h c).2.2, funext fun | (_, .reg s) => s.elim0 | (_, .dma s) => s.elim0⟩)
    (Cert.Reference2Ideal.Value.run m g)

/-- The in-projection's reference runs and leaves its arguments and its counters. -/
theorem frame_reference3 : Cert.quiescent_Reference3Ideal := fun m g _ =>
  (θ_run Cert.Reference3Ideal.defs _ _).mono
    (fun _ h => ⟨fun c => (h c).2.2, funext fun | (_, .reg s) => s.elim0 | (_, .dma s) => s.elim0⟩)
    (Cert.Reference3Ideal.Value.run m g)

/-- The combination's reference runs and leaves its arguments and its counters. -/
theorem frame_reference4 : Cert.quiescent_Reference4Ideal := fun m g _ =>
  (θ_run Cert.Reference4Ideal.defs _ _).mono
    (fun _ h => ⟨fun c => (h c).2, funext fun | (_, .reg s) => s.elim0 | (_, .dma s) => s.elim0⟩)
    (Cert.Reference4Ideal.Value.run m g)

/-- The Hyena's output call's reference runs and leaves its arguments and its counters. -/
theorem frame_reference5 : Cert.quiescent_Reference5Ideal := fun m g _ =>
  (θ_run Cert.Reference5Ideal.defs _ _).mono
    (fun _ h => ⟨fun c => (h c).2.2.2, funext fun | (_, .reg s) => s.elim0 | (_, .dma s) => s.elim0⟩)
    (Cert.Reference5Ideal.Value.run m g)

/-- The even layer's output call's reference runs and leaves its arguments and its counters. -/
theorem frame_reference6 : Cert.quiescent_Reference6Ideal := fun m g _ =>
  (θ_run Cert.Reference6Ideal.defs _ _).mono
    (fun _ h => ⟨fun c => (h c).2.2.2, funext fun | (_, .reg s) => s.elim0 | (_, .dma s) => s.elim0⟩)
    (Cert.Reference6Ideal.Value.run m g)

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_queries_and_keys.facts, Cert.Pre_blocks_name_experts.Gen.facts,
    fun m g _ => Cert.Kernel.Gen.frame m g, fun m g _ => Cert.KernelIdeal.Gen.frame m g,
    fun m g _ => Cert.KernelIdeal.Gen.frame m g, frame_reference, fun m g _ => frame_reference m g trivial,
    Moe.frame_kernel, Moe.frame_ideal, frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    trivial, algebraic, trivial, Moe.algebraic2, trivial, algebraic3, trivial, Cert.Combine.algebraic4,
    trivial, Cert.HyOut.algebraic5, trivial, Cert.EvOut.algebraic6⟩

end Cert.Proof

end
